-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "half" .f32 0xF0C9F2CA#32 ⊥
  ∧ IdealRules.named_const.Statement Cert.KernelIdeal.κ "picked" .f32 0xF2177617#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v49) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)
      ∧ m' ((c.tc : Thread Cert.StepReferenceIdeal.nD Cert.StepReferenceIdeal.τ).loc Cert.StepReferenceIdeal.main_arg3) = m ((c.tc : Thread Cert.StepIdeal.nD Cert.StepIdeal.τ).loc Cert.StepIdeal.main_arg3)
      ∧ m' ((c.tc : Thread Cert.StepReferenceIdeal.nD Cert.StepReferenceIdeal.τ).loc Cert.StepReferenceIdeal.main_arg4) = m ((c.tc : Thread Cert.StepIdeal.nD Cert.StepIdeal.τ).loc Cert.StepIdeal.main_arg4)
      ∧ m' ((c.tc : Thread Cert.StepReferenceIdeal.nD Cert.StepReferenceIdeal.τ).loc Cert.StepReferenceIdeal.main_arg5) = m ((c.tc : Thread Cert.StepIdeal.nD Cert.StepIdeal.τ).loc Cert.StepIdeal.main_arg5)
      ∧ m' ((c.tc : Thread Cert.StepReferenceIdeal.nD Cert.StepReferenceIdeal.τ).loc Cert.StepReferenceIdeal.main_arg6) = m ((c.tc : Thread Cert.StepIdeal.nD Cert.StepIdeal.τ).loc Cert.StepIdeal.main_arg6)
      ∧ m' ((c.tc : Thread Cert.StepReferenceIdeal.nD Cert.StepReferenceIdeal.τ).loc Cert.StepReferenceIdeal.main_arg7) = m ((c.tc : Thread Cert.StepIdeal.nD Cert.StepIdeal.τ).loc Cert.StepIdeal.main_arg7)) →
    ∃ (v0 : (c : Dev Cert.StepIdeal.nD) → Buf (Elt Ideal) ((c.tc : Thread Cert.StepIdeal.nD Cert.StepIdeal.τ).loc Cert.StepIdeal.main_v20)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v20) = v0 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v56) = v0 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6)
          ∧ r.2.mem ((c.tc : Thread Cert.StepReferenceIdeal.nD Cert.StepReferenceIdeal.τ).loc Cert.StepReferenceIdeal.main_arg7) = m' ((c.tc : Thread Cert.StepReferenceIdeal.nD Cert.StepReferenceIdeal.τ).loc Cert.StepReferenceIdeal.main_arg7))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hStep : Cert.Step.Facts) (hStepIdeal : Cert.StepIdeal.Facts) (hStepReferenceIdeal : Cert.StepReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Post (hPost := hPost)
    ∧ quiescent_PostIdeal (hPostIdeal := hPostIdeal)
    ∧ quiescent_PostReferenceIdeal (hPostReferenceIdeal := hPostReferenceIdeal)
    ∧ quiescent_Step (hStep := hStep)
    ∧ quiescent_StepIdeal (hStepIdeal := hStepIdeal)
    ∧ quiescent_StepReferenceIdeal (hStepReferenceIdeal := hStepReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Post_PostIdeal
    ∧ algebraic_PostIdeal_PostReferenceIdeal (hPostIdeal := hPostIdeal) (hPostReferenceIdeal := hPostReferenceIdeal)
    ∧ preserves_Step_StepIdeal
    ∧ algebraic_StepIdeal_StepReferenceIdeal (hStepIdeal := hStepIdeal) (hStepReferenceIdeal := hStepReferenceIdeal)
-- ==== Pre_finite_inputs.lean ====
abbrev S2x16x8192x64 : Shape := ⟨4, ![2, 16, 8192, 64]⟩
abbrev S2x2x2x512x64 : Shape := ⟨5, ![2, 2, 2, 512, 64]⟩
abbrev S2x256x8192 : Shape := ⟨3, ![2, 256, 8192]⟩
abbrev S2x8192x128 : Shape := ⟨3, ![2, 8192, 128]⟩
abbrev S_ : Shape := ⟨0, ![]⟩

class Facts : Prop where
  bitsLt_bf16_f32 : FTy.bits .bf16 < FTy.bits .f32
  bcast_S_S2x16x8192x64 : S_.BroadcastsInDim S2x16x8192x64 (![] : Fin 0 → Fin S2x16x8192x64.rank)
  reducesTo_S2x16x8192x64_S_d0_1_2_3 : S2x16x8192x64.ReducesTo [0, 1, 2, 3] S_
  h_S_ : 0 < S_.numel
  bcast_S_S2x2x2x512x64 : S_.BroadcastsInDim S2x2x2x512x64 (![] : Fin 0 → Fin S2x2x2x512x64.rank)
  reducesTo_S2x2x2x512x64_S_d0_1_2_3_4 : S2x2x2x512x64.ReducesTo [0, 1, 2, 3, 4] S_
  bcast_S_S2x256x8192 : S_.BroadcastsInDim S2x256x8192 (![] : Fin 0 → Fin S2x256x8192.rank)
  reducesTo_S2x256x8192_S_d0_1_2 : S2x256x8192.ReducesTo [0, 1, 2] S_
  bcast_S_S2x8192x128 : S_.BroadcastsInDim S2x8192x128 (![] : Fin 0 → Fin S2x8192x128.rank)
  reducesTo_S2x8192x128_S_d0_1_2 : S2x8192x128.ReducesTo [0, 1, 2] S_

variable [Facts]

def fn_part1 {F : FTy → Type} [FloatOps F] (main_arg4 : FVec F S2x256x8192 .bf16) (main_arg5 : FVec F S2x8192x128 .f32) (main_v10 : IVec S_ 1) (main_v15 : IVec S_ 1) (main_v17 : FVec F S2x256x8192 .f32) : IVec S_ 1 :=
  let main_cst_4 : FVec F S_ .f32 := constant S_ .f32 0x7F800000#32
  let main_v18 : FVec F S2x256x8192 .f32 := broadcastInDim S2x256x8192 ![] bcast_S_S2x256x8192 main_cst_4
  let main_v19 : IVec S2x256x8192 1 := cmpf .olt main_v17 main_v18
  let main_c_5 : IVec S_ 1 := constantI S_ 1 1#1
  let main_v20 : IVec S_ 1 := (fun x v => Host.reduce IntOp.andi x v reducesTo_S2x256x8192_S_d0_1_2 h_S_) main_v19 main_c_5
  let main_v21 : IVec S_ 1 := andi main_v15 main_v20
  let main_v22 : IVec S_ 1 := andi main_v10 main_v21
  let main_v23 : FVec F S2x256x8192 .f32 := (extf .f32 · bitsLt_bf16_f32) main_arg4
  let main_v24 : FVec F S2x256x8192 .f32 := Host.absf main_v23
  let main_cst_6 : FVec F S_ .f32 := constant S_ .f32 0x7F800000#32
  let main_v25 : FVec F S2x256x8192 .f32 := broadcastInDim S2x256x8192 ![] bcast_S_S2x256x8192 main_cst_6
  let main_v26 : IVec S2x256x8192 1 := cmpf .olt main_v24 main_v25
  let main_c_7 : IVec S_ 1 := constantI S_ 1 1#1
  let main_v27 : IVec S_ 1 := (fun x v => Host.reduce IntOp.andi x v reducesTo_S2x256x8192_S_d0_1_2 h_S_) main_v26 main_c_7
  let main_v28 : FVec F S2x8192x128 .f32 := Host.absf main_arg5
  let main_cst_8 : FVec F S_ .f32 := constant S_ .f32 0x7F800000#32
  let main_v29 : FVec F S2x8192x128 .f32 := broadcastInDim S2x8192x128 ![] bcast_S_S2x8192x128 main_cst_8
  let main_v30 : IVec S2x8192x128 1 := cmpf .olt main_v28 main_v29
  let main_c_9 : IVec S_ 1 := constantI S_ 1 1#1
  let main_v31 : IVec S_ 1 := (fun x v => Host.reduce IntOp.andi x v reducesTo_S2x8192x128_S_d0_1_2 h_S_) main_v30 main_c_9
  let main_v32 : IVec S_ 1 := andi main_v27 main_v31
  let main_v33 : IVec S_ 1 := andi main_v22 main_v32
  main_v33

def fn {F : FTy → Type} [FloatOps F] (main_arg0 : FVec F S2x16x8192x64 .bf16) (main_arg1 : FVec F S2x16x8192x64 .bf16) (main_arg2 : FVec F S2x2x2x512x64 .bf16) (main_arg3 : FVec F S2x256x8192 .bf16) (main_arg4 : FVec F S2x256x8192 .bf16) (main_arg5 : FVec F S2x8192x128 .f32) : IVec S_ 1 :=
  let main_v0 : FVec F S2x16x8192x64 .f32 := (extf .f32 · bitsLt_bf16_f32) main_arg0
  let main_v1 : FVec F S2x16x8192x64 .f32 := Host.absf main_v0
  let main_cst : FVec F S_ .f32 := constant S_ .f32 0x7F800000#32
  let main_v2 : FVec F S2x16x8192x64 .f32 := broadcastInDim S2x16x8192x64 ![] bcast_S_S2x16x8192x64 main_cst
  let main_v3 : IVec S2x16x8192x64 1 := cmpf .olt main_v1 main_v2
  let main_c : IVec S_ 1 := constantI S_ 1 1#1
  let main_v4 : IVec S_ 1 := (fun x v => Host.reduce IntOp.andi x v reducesTo_S2x16x8192x64_S_d0_1_2_3 h_S_) main_v3 main_c
  let main_v5 : FVec F S2x16x8192x64 .f32 := (extf .f32 · bitsLt_bf16_f32) main_arg1
  let main_v6 : FVec F S2x16x8192x64 .f32 := Host.absf main_v5
  let main_cst_0 : FVec F S_ .f32 := constant S_ .f32 0x7F800000#32
  let main_v7 : FVec F S2x16x8192x64 .f32 := broadcastInDim S2x16x8192x64 ![] bcast_S_S2x16x8192x64 main_cst_0
  let main_v8 : IVec S2x16x8192x64 1 := cmpf .olt main_v6 main_v7
  let main_c_1 : IVec S_ 1 := constantI S_ 1 1#1
  let main_v9 : IVec S_ 1 := (fun x v => Host.reduce IntOp.andi x v reducesTo_S2x16x8192x64_S_d0_1_2_3 h_S_) main_v8 main_c_1
  let main_v10 : IVec S_ 1 := andi main_v4 main_v9
  let main_v11 : FVec F S2x2x2x512x64 .f32 := (extf .f32 · bitsLt_bf16_f32) main_arg2
  let main_v12 : FVec F S2x2x2x512x64 .f32 := Host.absf main_v11
  let main_cst_2 : FVec F S_ .f32 := constant S_ .f32 0x7F800000#32
  let main_v13 : FVec F S2x2x2x512x64 .f32 := broadcastInDim S2x2x2x512x64 ![] bcast_S_S2x2x2x512x64 main_cst_2
  let main_v14 : IVec S2x2x2x512x64 1 := cmpf .olt main_v12 main_v13
  let main_c_3 : IVec S_ 1 := constantI S_ 1 1#1
  let main_v15 : IVec S_ 1 := (fun x v => Host.reduce IntOp.andi x v reducesTo_S2x2x2x512x64_S_d0_1_2_3_4 h_S_) main_v14 main_c_3
  let main_v16 : FVec F S2x256x8192 .f32 := (extf .f32 · bitsLt_bf16_f32) main_arg3
  let main_v17 : FVec F S2x256x8192 .f32 := Host.absf main_v16
  fn_part1 (F := F) main_arg4 main_arg5 main_v10 main_v15 main_v17
-- ==== Kernel.lean ====
abbrev S2x16x8192x64 : Shape := ⟨4, ![2, 16, 8192, 64]⟩
abbrev S2x2x2x512x64 : Shape := ⟨5, ![2, 2, 2, 512, 64]⟩
abbrev S2x256x8192 : Shape := ⟨3, ![2, 256, 8192]⟩
abbrev S2x8192x128 : Shape := ⟨3, ![2, 8192, 128]⟩
abbrev S128 : Shape := ⟨1, ![128]⟩
abbrev S128x1 : Shape := ⟨2, ![128, 1]⟩
abbrev S8192 : Shape := ⟨1, ![8192]⟩
abbrev S_ : Shape := ⟨0, ![]⟩
abbrev S1x8192 : Shape := ⟨2, ![1, 8192]⟩
abbrev S128x8192 : Shape := ⟨2, ![128, 8192]⟩
abbrev S1536 : Shape := ⟨1, ![1536]⟩
abbrev S1x128x1 : Shape := ⟨3, ![1, 128, 1]⟩
abbrev S1x1x1536 : Shape := ⟨3, ![1, 1, 1536]⟩
abbrev S2 : Shape := ⟨1, ![2]⟩
abbrev S2x1x1 : Shape := ⟨3, ![2, 1, 1]⟩
abbrev S2x1x1536 : Shape := ⟨3, ![2, 1, 1536]⟩
abbrev S2x128x1536 : Shape := ⟨3, ![2, 128, 1536]⟩
abbrev S2x8192x1024 : Shape := ⟨3, ![2, 8192, 1024]⟩
abbrev S1x8x256x64 : Shape := ⟨4, ![1, 8, 256, 64]⟩
abbrev S1x1x1x512x64 : Shape := ⟨5, ![1, 1, 1, 512, 64]⟩
abbrev S1x64x8192 : Shape := ⟨3, ![1, 64, 8192]⟩
abbrev S1x256x128 : Shape := ⟨3, ![1, 256, 128]⟩
abbrev S1x128x1536 : Shape := ⟨3, ![1, 128, 1536]⟩
abbrev S1x256x512 : Shape := ⟨3, ![1, 256, 512]⟩
abbrev S8x256x64 : Shape := ⟨3, ![8, 256, 64]⟩
abbrev S2048x64 : Shape := ⟨2, ![2048, 64]⟩
abbrev S8x256x128 : Shape := ⟨3, ![8, 256, 128]⟩
abbrev S256x128 : Shape := ⟨2, ![256, 128]⟩
abbrev S512x64 : Shape := ⟨2, ![512, 64]⟩
abbrev S2048x512 : Shape := ⟨2, ![2048, 512]⟩
abbrev S8x256x512 : Shape := ⟨3, ![8, 256, 512]⟩
abbrev S256x512 : Shape := ⟨2, ![256, 512]⟩
abbrev S8x256 : Shape := ⟨2, ![8, 256]⟩
abbrev S8x256x1 : Shape := ⟨3, ![8, 256, 1]⟩
abbrev S512x128 : Shape := ⟨2, ![512, 128]⟩
abbrev S2048x128 : Shape := ⟨2, ![2048, 128]⟩
abbrev S1x1x1x384x64 : Shape := ⟨5, ![1, 1, 1, 384, 64]⟩
abbrev S384x64 : Shape := ⟨2, ![384, 64]⟩
abbrev S2048x384 : Shape := ⟨2, ![2048, 384]⟩
abbrev S8x256x384 : Shape := ⟨3, ![8, 256, 384]⟩
abbrev S256x384 : Shape := ⟨2, ![256, 384]⟩
abbrev S1x256x384 : Shape := ⟨3, ![1, 256, 384]⟩
abbrev S384x128 : Shape := ⟨2, ![384, 128]⟩
abbrev S1x1x1x256x64 : Shape := ⟨5, ![1, 1, 1, 256, 64]⟩
abbrev S256x64 : Shape := ⟨2, ![256, 64]⟩
abbrev S2048x256 : Shape := ⟨2, ![2048, 256]⟩
abbrev S8x256x256 : Shape := ⟨3, ![8, 256, 256]⟩
abbrev S256x256 : Shape := ⟨2, ![256, 256]⟩
abbrev S1x256x256 : Shape := ⟨3, ![1, 256, 256]⟩
abbrev S1x1x1x128x64 : Shape := ⟨5, ![1, 1, 1, 128, 64]⟩
abbrev S128x64 : Shape := ⟨2, ![128, 64]⟩
abbrev S128x128 : Shape := ⟨2, ![128, 128]⟩
abbrev S256x768 : Shape := ⟨2, ![256, 768]⟩
abbrev S1x64x768 : Shape := ⟨3, ![1, 64, 768]⟩
abbrev S64x768 : Shape := ⟨2, ![64, 768]⟩
abbrev S2048x768 : Shape := ⟨2, ![2048, 768]⟩
abbrev S8x256x768 : Shape := ⟨3, ![8, 256, 768]⟩
abbrev S1x256x768 : Shape := ⟨3, ![1, 256, 768]⟩
abbrev S256 : Shape := ⟨1, ![256]⟩
abbrev S256x1 : Shape := ⟨2, ![256, 1]⟩
abbrev S2048x192 : Shape := ⟨2, ![2048, 192]⟩
abbrev S128x1024 : Shape := ⟨2, ![128, 1024]⟩
abbrev S1x64x1024 : Shape := ⟨3, ![1, 64, 1024]⟩
abbrev S64x1024 : Shape := ⟨2, ![64, 1024]⟩
abbrev S192x1024 : Shape := ⟨2, ![192, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩
abbrev S128x1536 : Shape := ⟨2, ![128, 1536]⟩
abbrev S256x1536 : Shape := ⟨2, ![256, 1536]⟩

abbrev nBuf : Space → Nat
  | .hbm => 111
  | .vmem => 23
  | .smem => 0
  | _ => 0

abbrev bufTy : (tb : Table) → Fin (tcTables nBuf tb) → BufTy
  | .hbm, ⟨0, _⟩ => ⟨S2x16x8192x64, .bf16⟩
  | .hbm, ⟨1, _⟩ => ⟨S2x16x8192x64, .bf16⟩
  | .hbm, ⟨2, _⟩ => ⟨S2x2x2x512x64, .bf16⟩
  | .hbm, ⟨3, _⟩ => ⟨S2x256x8192, .bf16⟩
  | .hbm, ⟨4, _⟩ => ⟨S2x256x8192, .bf16⟩
  | .hbm, ⟨5, _⟩ => ⟨S2x8192x128, .f32⟩
  | .hbm, ⟨6, _⟩ => ⟨S128, .i32⟩
  | .hbm, ⟨7, _⟩ => ⟨S128x1, .i32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S1x8192, .i32⟩
  | .hbm, ⟨28, _⟩ => ⟨S128x8192, .i32⟩
  | .hbm, ⟨29, _⟩ => ⟨S128x8192, .i32⟩
  | .hbm, ⟨30, _⟩ => ⟨S128x8192, .i1⟩
  | .hbm, ⟨31, _⟩ => ⟨S128x8192, .bf16⟩
  | .hbm, ⟨32, _⟩ => ⟨S1536, .i32⟩
  | .hbm, ⟨33, _⟩ => ⟨S_, .i32⟩
  | .hbm, ⟨34, _⟩ => ⟨S_, .i32⟩
  | .hbm, ⟨35, _⟩ => ⟨S1536, .i32⟩
  | .hbm, ⟨36, _⟩ => ⟨S1536, .i32⟩
  | .hbm, ⟨37, _⟩ => ⟨S1536, .i32⟩
  | .hbm, ⟨38, _⟩ => ⟨S_, .i32⟩
  | .hbm, ⟨39, _⟩ => ⟨S1536, .i32⟩
  | .hbm, ⟨40, _⟩ => ⟨S1536, .i1⟩
  | .hbm, ⟨41, _⟩ => ⟨S1536, .i32⟩
  | .hbm, ⟨42, _⟩ => ⟨S1536, .i32⟩
  | .hbm, ⟨43, _⟩ => ⟨S_, .i32⟩
  | .hbm, ⟨44, _⟩ => ⟨S1536, .i32⟩
  | .hbm, ⟨45, _⟩ => ⟨S1536, .i1⟩
  | .hbm, ⟨46, _⟩ => ⟨S1536, .i1⟩
  | .hbm, ⟨47, _⟩ => ⟨S_, .i32⟩
  | .hbm, ⟨48, _⟩ => ⟨S1536, .i32⟩
  | .hbm, ⟨49, _⟩ => ⟨S1536, .i32⟩
  | .hbm, ⟨50, _⟩ => ⟨S1536, .i32⟩
  | .hbm, ⟨51, _⟩ => ⟨S_, .i32⟩
  | .hbm, ⟨52, _⟩ => ⟨S1536, .i32⟩
  | .hbm, ⟨53, _⟩ => ⟨S1536, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S1536, .i32⟩
  | .hbm, ⟨61, _⟩ => ⟨S1536, .i32⟩
  | .hbm, ⟨62, _⟩ => ⟨S_, .i32⟩
  | .hbm, ⟨63, _⟩ => ⟨S1536, .i32⟩
  | .hbm, ⟨64, _⟩ => ⟨S1536, .i1⟩
  | .hbm, ⟨65, _⟩ => ⟨S_, .i32⟩
  | .hbm, ⟨66, _⟩ => ⟨S1536, .i32⟩
  | .hbm, ⟨67, _⟩ => ⟨S1536, .i1⟩
  | .hbm, ⟨68, _⟩ => ⟨S_, .i32⟩
  | .hbm, ⟨69, _⟩ => ⟨S_, .i1⟩
  | .hbm, ⟨70, _⟩ => ⟨S1536, .i1⟩
  | .hbm, ⟨71, _⟩ => ⟨S1536, .i1⟩
  | .hbm, ⟨72, _⟩ => ⟨S1536, .i1⟩
  | .hbm, ⟨73, _⟩ => ⟨S1536, .i32⟩
  | .hbm, ⟨74, _⟩ => ⟨S1536, .i32⟩
  | .hbm, ⟨75, _⟩ => ⟨S1536, .i32⟩
  | .hbm, ⟨76, _⟩ => ⟨S_, .i32⟩
  | .hbm, ⟨77, _⟩ => ⟨S_, .i32⟩
  | .hbm, ⟨78, _⟩ => ⟨S1536, .i32⟩
  | .hbm, ⟨79, _⟩ => ⟨S1536, .i32⟩
  | .hbm, ⟨80, _⟩ => ⟨S1536, .i32⟩
  | .hbm, ⟨81, _⟩ => ⟨S_, .i32⟩
  | .hbm, ⟨82, _⟩ => ⟨S1536, .i32⟩
  | .hbm, ⟨83, _⟩ => ⟨S1536, .i1⟩
  | .hbm, ⟨84, _⟩ => ⟨S1536, .i32⟩
  | .hbm, ⟨85, _⟩ => ⟨S1536, .i32⟩
  | .hbm, ⟨86, _⟩ => ⟨S_, .i32⟩
  | .hbm, ⟨87, _⟩ => ⟨S1536, .i32⟩
  | .hbm, ⟨88, _⟩ => ⟨S1536, .i1⟩
  | .hbm, ⟨89, _⟩ => ⟨S1536, .i1⟩
  | .hbm, ⟨90, _⟩ => ⟨S_, .i32⟩
  | .hbm, ⟨91, _⟩ => ⟨S1536, .i32⟩
  | .hbm, ⟨92, _⟩ => ⟨S1536, .i32⟩
  | .hbm, ⟨93, _⟩ => ⟨S1536, .i32⟩
  | .hbm, ⟨94, _⟩ => ⟨S1536, .i32⟩
  | .hbm, ⟨95, _⟩ => ⟨S128, .i32⟩
  | .hbm, ⟨96, _⟩ => ⟨S1x128x1, .i32⟩
  | .hbm, ⟨97, _⟩ => ⟨S1x1x1536, .i32⟩
  | .hbm, ⟨98, _⟩ => ⟨S2, .i32⟩
  | .hbm, ⟨99, _⟩ => ⟨S2x1x1, .i32⟩
  | .hbm, ⟨100, _⟩ => ⟨S_, .i32⟩
  | .hbm, ⟨101, _⟩ => ⟨S2x1x1, .i32⟩
  | .hbm, ⟨102, _⟩ => ⟨S2x1x1, .i32⟩
  | .hbm, ⟨103, _⟩ => ⟨S2x1x1536, .i32⟩
  | .hbm, ⟨104, _⟩ => ⟨S2x1x1536, .i32⟩
  | .hbm, ⟨105, _⟩ => ⟨S2x1x1536, .i32⟩
  | .hbm, ⟨106, _⟩ => ⟨S2x128x1536, .i32⟩
  | .hbm, ⟨107, _⟩ => ⟨S2x128x1536, .i32⟩
  | .hbm, ⟨108, _⟩ => ⟨S2x128x1536, .i1⟩
  | .hbm, ⟨109, _⟩ => ⟨S2x128x1536, .bf16⟩
  | .hbm, ⟨110, _⟩ => ⟨S2x8192x1024, .bf16⟩
  | .local _ .vmem, ⟨0, _⟩ => ⟨S1x8x256x64, .bf16⟩
  | .local _ .vmem, ⟨1, _⟩ => ⟨S1x8x256x64, .bf16⟩
  | .local _ .vmem, ⟨2, _⟩ => ⟨S1x8x256x64, .bf16⟩
  | .local _ .vmem, ⟨3, _⟩ => ⟨S1x8x256x64, .bf16⟩
  | .local _ .vmem, ⟨4, _⟩ => ⟨S1x1x1x512x64, .bf16⟩
  | .local _ .vmem, ⟨5, _⟩ => ⟨S1x1x1x512x64, .bf16⟩
  | .local _ .vmem, ⟨6, _⟩ => ⟨S1x1x1x512x64, .bf16⟩
  | .local _ .vmem, ⟨7, _⟩ => ⟨S1x1x1x512x64, .bf16⟩
  | .local _ .vmem, ⟨8, _⟩ => ⟨S1x64x8192, .bf16⟩
  | .local _ .vmem, ⟨9, _⟩ => ⟨S1x64x8192, .bf16⟩
  | .local _ .vmem, ⟨10, _⟩ => ⟨S1x64x8192, .bf16⟩
  | .local _ .vmem, ⟨11, _⟩ => ⟨S1x64x8192, .bf16⟩
  | .local _ .vmem, ⟨12, _⟩ => ⟨S1x64x8192, .bf16⟩
  | .local _ .vmem, ⟨13, _⟩ => ⟨S1x64x8192, .bf16⟩
  | .local _ .vmem, ⟨14, _⟩ => ⟨S1x64x8192, .bf16⟩
  | .local _ .vmem, ⟨15, _⟩ => ⟨S1x64x8192, .bf16⟩
  | .local _ .vmem, ⟨16, _⟩ => ⟨S1x256x128, .f32⟩
  | .local _ .vmem, ⟨17, _⟩ => ⟨S1x256x128, .f32⟩
  | .local _ .vmem, ⟨18, _⟩ => ⟨S128x8192, .bf16⟩
  | .local _ .vmem, ⟨19, _⟩ => ⟨S1x128x1536, .bf16⟩
  | .local _ .vmem, ⟨20, _⟩ => ⟨S1x128x1536, .bf16⟩
  | .local _ .vmem, ⟨21, _⟩ => ⟨S1x256x512, .bf16⟩
  | .local _ .vmem, ⟨22, _⟩ => ⟨S1x256x512, .bf16⟩
  | _, _ => ⟨S2x16x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_c_1 : Ref sig .tc := ⟨.hbm, 51, rfl⟩
abbrev main_v11 : Ref sig .tc := ⟨.hbm, 52, rfl⟩
abbrev main_v12 : Ref sig .tc := ⟨.hbm, 53, rfl⟩
abbrev main_c_2 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v13 : Ref sig .tc := ⟨.hbm, 75, rfl⟩
abbrev main_c_3 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_c_4 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32_24 : BitVec 32 := 256#32
  let v52 : BitVec 32 := Scalar.muli arg2 c256_i32_24
  let c512_i32 : BitVec 32 := 512#32
  let v53 : BitVec 32 := Scalar.subi v52 c512_i32
  let c0_i32_25 : BitVec 32 := 0#32
  let v54 : BitVec 32 := Scalar.maxsi v53 c0_i32_25
  v54
def k0_off1 (i : grid0.Coords) : Fin 3 → Nat :=
  let c0_26 : Index := 0#32
  let c0_27 : Index := 0#32
  let arg2 : BitVec 32 := BitVec.ofNat 32 (i 2).val
  let c256_i32_24 : BitVec 32 := 256#32
  let v52 : BitVec 32 := Scalar.muli arg2 c256_i32_24
  let c512_i32 : BitVec 32 := 512#32
  let v53 : BitVec 32 := Scalar.subi v52 c512_i32
  let c0_i32_25 : BitVec 32 := 0#32
  let v54 : BitVec 32 := Scalar.maxsi v53 c0_i32_25
  let v55 : BitVec 32 := v54
  let v63 : Index := Scalar.indexCast v55
  ![0, 0, v63.toNat]
@[reducible] def k0_t1_loop (i : grid0.Coords) : Scf.Loop 32 :=
  let c0_i32_136 : BitVec 32 := 0#32
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let v399 : BitVec 32 := Scalar.subi v396 c0_i32_136
  let c1_i32_137 : BitVec 32 := 1#32
  let v401 : BitVec 32 := Scalar.divsi v399 c1_i32_137
  let v402 : BitVec 32 := Scalar.muli v401 c1_i32_137
  let v403 : BitVec 32 := Scalar.addi c0_i32_136 v402
  let c1_i32_138 : BitVec 32 := 1#32
  ⟨c0_i32_136, v403, c1_i32_138⟩
def k0_mult2 (i : grid0.Coords) (k0_t1 : Fin (k0_t1_loop i).trips) : BitVec 32 :=
  let c0_i32_136 : BitVec 32 := 0#32
  let c1_i32_138 : BitVec 32 := 1#32
  let arg15 : BitVec 32 := Scf.iv c0_i32_136 c1_i32_138 k0_t1
  let c1024_i32_175 : BitVec 32 := 1024#32
  let v581 : BitVec 32 := Scalar.muli arg15 c1024_i32_175
  v581
def k0_off2 (i : grid0.Coords) (k0_t1 : Fin (k0_t1_loop i).trips) : Fin 2 → Nat :=
  let c0_176 : Index := 0#32
  let c0_i32_136 : BitVec 32 := 0#32
  let c1_i32_138 : BitVec 32 := 1#32
  let arg15 : BitVec 32 := Scf.iv c0_i32_136 c1_i32_138 k0_t1
  let c1024_i32_175 : BitVec 32 := 1024#32
  let v581 : BitVec 32 := Scalar.muli arg15 c1024_i32_175
  let v582 : BitVec 32 := v581
  let v583 : Index := Scalar.indexCast v582
  ![0, v583.toNat]
def k0_off3 (i : grid0.Coords) (k0_t1 : Fin (k0_t1_loop i).trips) : Fin 3 → Nat :=
  let c0_177 : Index := 0#32
  let c0_178 : Index := 0#32
  let c0_i32_136 : BitVec 32 := 0#32
  let c1_i32_138 : BitVec 32 := 1#32
  let arg15 : BitVec 32 := Scf.iv c0_i32_136 c1_i32_138 k0_t1
  let c1024_i32_175 : BitVec 32 := 1024#32
  let v581 : BitVec 32 := Scalar.muli arg15 c1024_i32_175
  let v582 : BitVec 32 := v581
  let v586 : Index := Scalar.indexCast v582
  ![0, 0, v586.toNat]
@[reducible] def k0_t2_loop (i : grid0.Coords) : Scf.Loop 32 :=
  let c0_i32_136 : BitVec 32 := 0#32
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let v399 : BitVec 32 := Scalar.subi v396 c0_i32_136
  let c1_i32_137 : BitVec 32 := 1#32
  let v401 : BitVec 32 := Scalar.divsi v399 c1_i32_137
  let v402 : BitVec 32 := Scalar.muli v401 c1_i32_137
  let v403 : BitVec 32 := Scalar.addi c0_i32_136 v402
  let v400 : BitVec 32 := Scalar.addi c0_i32_136 v399
  let c1_i32_139 : BitVec 32 := 1#32
  ⟨v403, v400, c1_i32_139⟩
def k0_mult3 (i : grid0.Coords) (k0_t2 : Fin (k0_t2_loop i).trips) : BitVec 32 :=
  let c0_i32_136 : BitVec 32 := 0#32
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let v399 : BitVec 32 := Scalar.subi v396 c0_i32_136
  let c1_i32_137 : BitVec 32 := 1#32
  let v401 : BitVec 32 := Scalar.divsi v399 c1_i32_137
  let v402 : BitVec 32 := Scalar.muli v401 c1_i32_137
  let v403 : BitVec 32 := Scalar.addi c0_i32_136 v402
  let c1_i32_139 : BitVec 32 := 1#32
  let arg15 : BitVec 32 := Scf.iv v403 c1_i32_139 k0_t2
  let c1024_i32_175 : BitVec 32 := 1024#32
  let v581 : BitVec 32 := Scalar.muli arg15 c1024_i32_175
  v581
def k0_off4 (i : grid0.Coords) (k0_t2 : Fin (k0_t2_loop i).trips) : Fin 2 → Nat :=
  let c0_176 : Index := 0#32
  let c0_i32_136 : BitVec 32 := 0#32
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let v399 : BitVec 32 := Scalar.subi v396 c0_i32_136
  let c1_i32_137 : BitVec 32 := 1#32
  let v401 : BitVec 32 := Scalar.divsi v399 c1_i32_137
  let v402 : BitVec 32 := Scalar.muli v401 c1_i32_137
  let v403 : BitVec 32 := Scalar.addi c0_i32_136 v402
  let c1_i32_139 : BitVec 32 := 1#32
  let arg15 : BitVec 32 := Scf.iv v403 c1_i32_139 k0_t2
  let c1024_i32_175 : BitVec 32 := 1024#32
  let v581 : BitVec 32 := Scalar.muli arg15 c1024_i32_175
  let v582 : BitVec 32 := v581
  let v583 : Index := Scalar.indexCast v582
  ![0, v583.toNat]
def k0_off5 (i : grid0.Coords) (k0_t2 : Fin (k0_t2_loop i).trips) : Fin 3 → Nat :=
  let c0_177 : Index := 0#32
  let c0_178 : Index := 0#32
  let c0_i32_136 : BitVec 32 := 0#32
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let v399 : BitVec 32 := Scalar.subi v396 c0_i32_136
  let c1_i32_137 : BitVec 32 := 1#32
  let v401 : BitVec 32 := Scalar.divsi v399 c1_i32_137
  let v402 : BitVec 32 := Scalar.muli v401 c1_i32_137
  let v403 : BitVec 32 := Scalar.addi c0_i32_136 v402
  let c1_i32_139 : BitVec 32 := 1#32
  let arg15 : BitVec 32 := Scf.iv v403 c1_i32_139 k0_t2
  let c1024_i32_175 : BitVec 32 := 1024#32
  let v581 : BitVec 32 := Scalar.muli arg15 c1024_i32_175
  let v582 : BitVec 32 := v581
  let v586 : Index := Scalar.indexCast v582
  ![0, 0, v586.toNat]
def k0_mult4 (i : grid0.Coords) : BitVec 32 :=
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let c1024_i32_141 : BitVec 32 := 1024#32
  let v414 : BitVec 32 := Scalar.muli v396 c1024_i32_141
  v414
def k0_off6 (i : grid0.Coords) : Fin 2 → Nat :=
  let c0_142 : Index := 0#32
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let c1024_i32_141 : BitVec 32 := 1024#32
  let v414 : BitVec 32 := Scalar.muli v396 c1024_i32_141
  let v415 : BitVec 32 := v414
  let v416 : Index := Scalar.indexCast v415
  ![0, v416.toNat]
def k0_off7 (i : grid0.Coords) : Fin 3 → Nat :=
  let c0_143 : Index := 0#32
  let c0_144 : Index := 0#32
  let arg2 : BitVec 32 := BitVec.ofNat 32 (i 2).val
  let c256_i32 : BitVec 32 := 256#32
  let v0 : BitVec 32 := Scalar.muli arg2 c256_i32
  let c0_i32_128 : BitVec 32 := 0#32
  let v381 : BitVec 1 := Scalar.cmpi .sgt v0 c0_i32_128
  let v382 : BitVec 32 := Scalar.extui v381
  let c0_i32_129 : BitVec 32 := 0#32
  let v383 : BitVec 1 := Scalar.cmpi .slt v0 c0_i32_129
  let v384 : BitVec 32 := Scalar.extui v383
  let v385 : BitVec 32 := Scalar.subi v382 v384
  let c1024_i32 : BitVec 32 := 1024#32
  let c0_i32_130 : BitVec 32 := 0#32
  let v386 : BitVec 1 := Scalar.cmpi .sgt c1024_i32 c0_i32_130
  let v387 : BitVec 32 := Scalar.extui v386
  let c0_i32_131 : BitVec 32 := 0#32
  let v388 : BitVec 1 := Scalar.cmpi .slt c1024_i32 c0_i32_131
  let v389 : BitVec 32 := Scalar.extui v388
  let v390 : BitVec 32 := Scalar.subi v387 v389
  let v391 : BitVec 1 := Scalar.cmpi .ne v385 v390
  let v392 : BitVec 32 := Scalar.remsi v0 c1024_i32
  let c0_i32_132 : BitVec 32 := 0#32
  let v393 : BitVec 1 := Scalar.cmpi .ne v392 c0_i32_132
  let v394 : BitVec 1 := Scalar.andi v391 v393
  let v380 : BitVec 32 := Scalar.divsi v0 c1024_i32
  let c1_i32_133 : BitVec 32 := 1#32
  let v395 : BitVec 32 := Scalar.subi v380 c1_i32_133
  let v396 : BitVec 32 := Scalar.select v394 v395 v380
  let c1024_i32_141 : BitVec 32 := 1024#32
  let v414 : BitVec 32 := Scalar.muli v396 c1024_i32_141
  let v415 : BitVec 32 := v414
  let v419 : Index := Scalar.indexCast v415
  ![0, 0, v419.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x64x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x64x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 1 → Memref sig .tc .vmem S128x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "half" => some ⊥
  | "neg" => some ⊥
  | "picked" => some ⊥
  | _ => none
-- ==== ReferenceIdeal.lean ====
abbrev S2x16x8192x64 : Shape := ⟨4, ![2, 16, 8192, 64]⟩
abbrev S2x2x2x512x64 : Shape := ⟨5, ![2, 2, 2, 512, 64]⟩
abbrev S2x256x8192 : Shape := ⟨3, ![2, 256, 8192]⟩
abbrev S2x8192x128 : Shape := ⟨3, ![2, 8192, 128]⟩
abbrev S2x2x8x8192x64 : Shape := ⟨5, ![2, 2, 8, 8192, 64]⟩
abbrev S2x2x2x511x64 : Shape := ⟨5, ![2, 2, 2, 511, 64]⟩
abbrev S2x2x2x64x8192 : Shape := ⟨5, ![2, 2, 2, 64, 8192]⟩
abbrev S2x2x2x8192x64 : Shape := ⟨5, ![2, 2, 2, 8192, 64]⟩
abbrev S2x8192x48 : Shape := ⟨3, ![2, 8192, 48]⟩
abbrev S2x8192x3x2x8x1 : Shape := ⟨6, ![2, 8192, 3, 2, 8, 1]⟩
abbrev S8192 : Shape := ⟨1, ![8192]⟩
abbrev S511 : Shape := ⟨1, ![511]⟩
abbrev S_ : Shape := ⟨0, ![]⟩
abbrev S2x1x2x511x64 : Shape := ⟨5, ![2, 1, 2, 511, 64]⟩
abbrev S2x2x511x64 : Shape := ⟨4, ![2, 2, 511, 64]⟩
abbrev S1x511 : Shape := ⟨2, ![1, 511]⟩
abbrev S8192x1 : Shape := ⟨2, ![8192, 1]⟩
abbrev S8192x511 : Shape := ⟨2, ![8192, 511]⟩
abbrev S2x2x8x8192x511 : Shape := ⟨5, ![2, 2, 8, 8192, 511]⟩
abbrev S2x2x8x8192 : Shape := ⟨4, ![2, 2, 8, 8192]⟩
abbrev S2x2x8x8192x1 : Shape := ⟨5, ![2, 2, 8, 8192, 1]⟩
abbrev S2x2x64x8x8192 : Shape := ⟨5, ![2, 2, 64, 8, 8192]⟩
abbrev S2x8192x2x8x64 : Shape := ⟨5, ![2, 8192, 2, 8, 64]⟩
abbrev S511x1 : Shape := ⟨2, ![511, 1]⟩
abbrev S128 : Shape := ⟨1, ![128]⟩
abbrev S1x128 : Shape := ⟨2, ![1, 128]⟩
abbrev S511x128 : Shape := ⟨2, ![511, 128]⟩
abbrev S2x2x8192x511 : Shape := ⟨4, ![2, 2, 8192, 511]⟩
abbrev S2x2x8192x128 : Shape := ⟨4, ![2, 2, 8192, 128]⟩
abbrev S8192x128 : Shape := ⟨2, ![8192, 128]⟩
abbrev S1x1x8192x128 : Shape := ⟨4, ![1, 1, 8192, 128]⟩
abbrev S2x2x8192x16 : Shape := ⟨4, ![2, 2, 8192, 16]⟩
abbrev S2x2x8192x16x1 : Shape := ⟨5, ![2, 2, 8192, 16, 1]⟩
abbrev S1x1x1x1x128 : Shape := ⟨5, ![1, 1, 1, 1, 128]⟩
abbrev S2x2x8192x16x128 : Shape := ⟨5, ![2, 2, 8192, 16, 128]⟩
abbrev S2x2x8192x128x1 : Shape := ⟨5, ![2, 2, 8192, 128, 1]⟩
abbrev S2x2x8192x128x64 : Shape := ⟨5, ![2, 2, 8192, 128, 64]⟩
abbrev S2x2x8192x8192 : Shape := ⟨4, ![2, 2, 8192, 8192]⟩
abbrev S1x8192 : Shape := ⟨2, ![1, 8192]⟩
abbrev S8192x8192 : Shape := ⟨2, ![8192, 8192]⟩
abbrev S2x1x2x8192x64 : Shape := ⟨5, ![2, 1, 2, 8192, 64]⟩
abbrev S2x2x8192x64 : Shape := ⟨4, ![2, 2, 8192, 64]⟩
abbrev S1x1x8192x8192 : Shape := ⟨4, ![1, 1, 8192, 8192]⟩
abbrev S2x2x1x8192x8192 : Shape := ⟨5, ![2, 2, 1, 8192, 8192]⟩
abbrev S2x2x8x8192x8192 : Shape := ⟨5, ![2, 2, 8, 8192, 8192]⟩
abbrev S2x8192x1x2x8x1 : Shape := ⟨6, ![2, 8192, 1, 2, 8, 1]⟩
abbrev S2x8192x2x8x1 : Shape := ⟨5, ![2, 8192, 2, 8, 1]⟩
abbrev S2x8192x1024 : Shape := ⟨3, ![2, 8192, 1024]⟩

abbrev nBuf : Space → Nat
  | .hbm => 290
  | .vmem => 0
  | .smem => 0
  | _ => 0

abbrev hbmTy0_0 (i : Nat) : BufTy := match i % 128 with
  | 0 => ⟨S2x16x8192x64, .bf16⟩
  | 1 => ⟨S2x16x8192x64, .bf16⟩
  | 2 => ⟨S2x2x2x512x64, .bf16⟩
  | 3 => ⟨S2x256x8192, .bf16⟩
  | 4 => ⟨S2x256x8192, .bf16⟩
  | 5 => ⟨S2x8192x128, .f32⟩
  | 6 => ⟨S2x16x8192x64, .f32⟩
  | 7 => ⟨S2x2x8x8192x64, .f32⟩
  | 8 => ⟨S2x16x8192x64, .f32⟩
  | 9 => ⟨S2x2x8x8192x64, .f32⟩
  | 10 => ⟨S2x2x2x512x64, .f32⟩
  | 11 => ⟨S2x2x2x511x64, .f32⟩
  | 12 => ⟨S2x256x8192, .f32⟩
  | 13 => ⟨S2x2x2x64x8192, .f32⟩
  | 14 => ⟨S2x2x2x8192x64, .f32⟩
  | 15 => ⟨S2x256x8192, .f32⟩
  | 16 => ⟨S2x2x2x64x8192, .f32⟩
  | 17 => ⟨S2x2x2x8192x64, .f32⟩
  | 18 => ⟨S2x8192x48, .f32⟩
  | 19 => ⟨S2x8192x3x2x8x1, .f32⟩
  | 20 => ⟨S8192, .i32⟩
  | 21 => ⟨S511, .i32⟩
  | 22 => ⟨S_, .i32⟩
  | 23 => ⟨S511, .i32⟩
  | 24 => ⟨S511, .i32⟩
  | 25 => ⟨S_, .i32⟩
  | 26 => ⟨S511, .i32⟩
  | 27 => ⟨S511, .i32⟩
  | 28 => ⟨S2x1x2x511x64, .f32⟩
  | 29 => ⟨S2x2x511x64, .f32⟩
  | 30 => ⟨S2x1x2x511x64, .f32⟩
  | 31 => ⟨S2x2x511x64, .f32⟩
  | 32 => ⟨S1x511, .i32⟩
  | 33 => ⟨S8192x1, .i32⟩
  | 34 => ⟨S8192x511, .i32⟩
  | 35 => ⟨S8192x511, .i32⟩
  | 36 => ⟨S8192x511, .i1⟩
  | 37 => ⟨S2x2x8x8192x511, .f32⟩
  | 38 => ⟨S_, .f32⟩
  | 39 => ⟨S_, .f32⟩
  | 40 => ⟨S2x2x8x8192x511, .i1⟩
  | 41 => ⟨S2x2x8x8192x511, .f32⟩
  | 42 => ⟨S2x2x8x8192x511, .f32⟩
  | 43 => ⟨S_, .f32⟩
  | 44 => ⟨S2x2x8x8192, .f32⟩
  | 45 => ⟨S2x2x8x8192x1, .f32⟩
  | 46 => ⟨S_, .f32⟩
  | 47 => ⟨S2x2x8x8192x1, .f32⟩
  | 48 => ⟨S2x2x8x8192x1, .i1⟩
  | 49 => ⟨S_, .f32⟩
  | 50 => ⟨S2x2x8x8192x1, .f32⟩
  | 51 => ⟨S2x2x8x8192x1, .i1⟩
  | 52 => ⟨S2x2x8x8192x1, .i1⟩
  | 53 => ⟨S_, .f32⟩
  | 54 => ⟨S_, .f32⟩
  | 55 => ⟨S2x2x8x8192x1, .f32⟩
  | 56 => ⟨S2x2x8x8192x1, .f32⟩
  | 57 => ⟨S2x2x8x8192x511, .f32⟩
  | 58 => ⟨S2x2x8x8192x511, .f32⟩
  | 59 => ⟨S2x2x8x8192x511, .f32⟩
  | 60 => ⟨S_, .f32⟩
  | 61 => ⟨S2x2x8x8192, .f32⟩
  | 62 => ⟨S2x2x8x8192x1, .f32⟩
  | 63 => ⟨S_, .f32⟩
  | 64 => ⟨S2x2x8x8192x1, .f32⟩
  | 65 => ⟨S2x2x8x8192x1, .i1⟩
  | 66 => ⟨S_, .f32⟩
  | 67 => ⟨S_, .f32⟩
  | 68 => ⟨S2x2x8x8192x1, .f32⟩
  | 69 => ⟨S2x2x8x8192x1, .f32⟩
  | 70 => ⟨S2x2x8x8192x511, .f32⟩
  | 71 => ⟨S2x2x8x8192x511, .f32⟩
  | 72 => ⟨S2x2x64x8x8192, .f32⟩
  | 73 => ⟨S2x8192x2x8x64, .f32⟩
  | 74 => ⟨S511, .i32⟩
  | 75 => ⟨S511x1, .i32⟩
  | 76 => ⟨S_, .i32⟩
  | 77 => ⟨S511x1, .i32⟩
  | 78 => ⟨S511x1, .i32⟩
  | 79 => ⟨S128, .i32⟩
  | 80 => ⟨S1x128, .i32⟩
  | 81 => ⟨S_, .i32⟩
  | 82 => ⟨S1x128, .i32⟩
  | 83 => ⟨S1x128, .i32⟩
  | 84 => ⟨S_, .i32⟩
  | 85 => ⟨S1x128, .i32⟩
  | 86 => ⟨S1x128, .i32⟩
  | 87 => ⟨S511x128, .i32⟩
  | 88 => ⟨S511x128, .i32⟩
  | 89 => ⟨S511x128, .i1⟩
  | 90 => ⟨S_, .i32⟩
  | 91 => ⟨S511x1, .i32⟩
  | 92 => ⟨S511x1, .i32⟩
  | 93 => ⟨S511x128, .i32⟩
  | 94 => ⟨S511x128, .i32⟩
  | 95 => ⟨S511x128, .i1⟩
  | 96 => ⟨S511x128, .i1⟩
  | 97 => ⟨S511x128, .f32⟩
  | 98 => ⟨S_, .f32⟩
  | 99 => ⟨S2x2x8192x511, .f32⟩
  | 100 => ⟨S2x2x8192x128, .f32⟩
  | 101 => ⟨S128, .i32⟩
  | 102 => ⟨S1x128, .i32⟩
  | 103 => ⟨S_, .i32⟩
  | 104 => ⟨S_, .i32⟩
  | 105 => ⟨S8192, .i32⟩
  | 106 => ⟨S8192, .i32⟩
  | 107 => ⟨S8192, .i32⟩
  | 108 => ⟨S_, .i32⟩
  | 109 => ⟨S8192, .i32⟩
  | 110 => ⟨S8192, .i1⟩
  | 111 => ⟨S8192, .i32⟩
  | 112 => ⟨S8192, .i32⟩
  | 113 => ⟨S_, .i32⟩
  | 114 => ⟨S8192, .i32⟩
  | 115 => ⟨S8192, .i1⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S_, .i32⟩
  | 123 => ⟨S1x128, .i32⟩
  | 124 => ⟨S1x128, .i1⟩
  | 125 => ⟨S8192x128, .i32⟩
  | 126 => ⟨S8192x128, .i32⟩
  | 127 => ⟨S8192x128, .i1⟩
  | _ => ⟨S2x16x8192x64, .bf16⟩

abbrev hbmTy0_1 (i : Nat) : BufTy := match i % 128 with
  | 0 => ⟨S8192x128, .i1⟩
  | 1 => ⟨S8192x128, .i1⟩
  | 2 => ⟨S_, .i32⟩
  | 3 => ⟨S8192x1, .i32⟩
  | 4 => ⟨S8192x1, .i32⟩
  | 5 => ⟨S8192x128, .i32⟩
  | 6 => ⟨S8192x128, .i32⟩
  | 7 => ⟨S8192x128, .i1⟩
  | 8 => ⟨S8192x128, .i1⟩
  | 9 => ⟨S_, .i32⟩
  | 10 => ⟨S1x128, .i32⟩
  | 11 => ⟨S1x128, .i32⟩
  | 12 => ⟨S8192x1, .i32⟩
  | 13 => ⟨S8192x128, .i32⟩
  | 14 => ⟨S8192x128, .i32⟩
  | 15 => ⟨S8192x128, .i1⟩
  | 16 => ⟨S_, .f32⟩
  | 17 => ⟨S_, .f32⟩
  | 18 => ⟨S8192x128, .f32⟩
  | 19 => ⟨S8192x128, .f32⟩
  | 20 => ⟨S8192x128, .f32⟩
  | 21 => ⟨S8192x128, .f32⟩
  | 22 => ⟨S1x1x8192x128, .f32⟩
  | 23 => ⟨S2x2x8192x128, .f32⟩
  | 24 => ⟨S2x2x8192x128, .f32⟩
  | 25 => ⟨S_, .f32⟩
  | 26 => ⟨S_, .f32⟩
  | 27 => ⟨S2x2x8192x128, .i1⟩
  | 28 => ⟨S2x2x8192x128, .f32⟩
  | 29 => ⟨S2x2x8192x128, .f32⟩
  | 30 => ⟨S2x2x8192x16, .f32⟩
  | 31 => ⟨S2x2x8192x16, .i32⟩
  | 32 => ⟨S2x2x8192x16x1, .i32⟩
  | 33 => ⟨S128, .i32⟩
  | 34 => ⟨S1x1x1x1x128, .i32⟩
  | 35 => ⟨S2x2x8192x16x128, .i32⟩
  | 36 => ⟨S2x2x8192x16x128, .i32⟩
  | 37 => ⟨S2x2x8192x16x128, .i1⟩
  | 38 => ⟨S_, .i1⟩
  | 39 => ⟨S2x2x8192x128, .i1⟩
  | 40 => ⟨S2x2x8192x128x1, .i1⟩
  | 41 => ⟨S2x2x8192x128x64, .i1⟩
  | 42 => ⟨S2x2x8192x8192, .i1⟩
  | 43 => ⟨S1x8192, .i32⟩
  | 44 => ⟨S8192x1, .i32⟩
  | 45 => ⟨S8192x8192, .i32⟩
  | 46 => ⟨S8192x8192, .i32⟩
  | 47 => ⟨S8192x8192, .i1⟩
  | 48 => ⟨S2x1x2x8192x64, .f32⟩
  | 49 => ⟨S2x2x8192x64, .f32⟩
  | 50 => ⟨S2x1x2x8192x64, .f32⟩
  | 51 => ⟨S2x2x8192x64, .f32⟩
  | 52 => ⟨S1x1x8192x8192, .i1⟩
  | 53 => ⟨S2x2x8192x8192, .i1⟩
  | 54 => ⟨S2x2x8192x8192, .i1⟩
  | 55 => ⟨S2x2x1x8192x8192, .i1⟩
  | 56 => ⟨S2x2x8x8192x8192, .f32⟩
  | 57 => ⟨S_, .f32⟩
  | 58 => ⟨S_, .f32⟩
  | 59 => ⟨S2x2x8x8192x8192, .i1⟩
  | 60 => ⟨S2x2x8x8192x8192, .f32⟩
  | 61 => ⟨S2x2x8x8192x8192, .f32⟩
  | 62 => ⟨S_, .f32⟩
  | 63 => ⟨S2x2x8x8192, .f32⟩
  | 64 => ⟨S2x2x8x8192x1, .f32⟩
  | 65 => ⟨S_, .f32⟩
  | 66 => ⟨S2x2x8x8192x1, .f32⟩
  | 67 => ⟨S2x2x8x8192x1, .i1⟩
  | 68 => ⟨S_, .f32⟩
  | 69 => ⟨S2x2x8x8192x1, .f32⟩
  | 70 => ⟨S2x2x8x8192x1, .i1⟩
  | 71 => ⟨S2x2x8x8192x1, .i1⟩
  | 72 => ⟨S_, .f32⟩
  | 73 => ⟨S_, .f32⟩
  | 74 => ⟨S2x2x8x8192x1, .f32⟩
  | 75 => ⟨S2x2x8x8192x1, .f32⟩
  | 76 => ⟨S2x2x8x8192x8192, .f32⟩
  | 77 => ⟨S2x2x8x8192x8192, .f32⟩
  | 78 => ⟨S2x2x8x8192x8192, .f32⟩
  | 79 => ⟨S_, .f32⟩
  | 80 => ⟨S2x2x8x8192, .f32⟩
  | 81 => ⟨S2x2x8x8192x1, .f32⟩
  | 82 => ⟨S_, .f32⟩
  | 83 => ⟨S2x2x8x8192x1, .f32⟩
  | 84 => ⟨S2x2x8x8192x1, .i1⟩
  | 85 => ⟨S_, .f32⟩
  | 86 => ⟨S_, .f32⟩
  | 87 => ⟨S2x2x8x8192x1, .f32⟩
  | 88 => ⟨S2x2x8x8192x1, .f32⟩
  | 89 => ⟨S2x2x8x8192x8192, .f32⟩
  | 90 => ⟨S2x2x8x8192x8192, .f32⟩
  | 91 => ⟨S2x2x64x8x8192, .f32⟩
  | 92 => ⟨S2x8192x2x8x64, .f32⟩
  | 93 => ⟨S8192x1, .i32⟩
  | 94 => ⟨S1x8192, .i32⟩
  | 95 => ⟨S8192x8192, .i32⟩
  | 96 => ⟨S8192x8192, .i32⟩
  | 97 => ⟨S8192x8192, .i32⟩
  | 98 => ⟨S2x1x2x8192x64, .f32⟩
  | 99 => ⟨S2x2x8192x64, .f32⟩
  | 100 => ⟨S2x1x2x8192x64, .f32⟩
  | 101 => ⟨S2x2x8192x64, .f32⟩
  | 102 => ⟨S_, .i32⟩
  | 103 => ⟨S8192x8192, .i32⟩
  | 104 => ⟨S8192x8192, .i1⟩
  | 105 => ⟨S_, .i32⟩
  | 106 => ⟨S8192x8192, .i32⟩
  | 107 => ⟨S8192x8192, .i1⟩
  | 108 => ⟨S8192x8192, .i1⟩
  | 109 => ⟨S2x2x8x8192x8192, .f32⟩
  | 110 => ⟨S_, .f32⟩
  | 111 => ⟨S_, .f32⟩
  | 112 => ⟨S2x2x8x8192x8192, .i1⟩
  | 113 => ⟨S2x2x8x8192x8192, .f32⟩
  | 114 => ⟨S2x2x8x8192x8192, .f32⟩
  | 115 => ⟨S_, .f32⟩
  | 116 => ⟨S2x2x8x8192, .f32⟩
  | 117 => ⟨S2x2x8x8192x1, .f32⟩
  | 118 => ⟨S_, .f32⟩
  | 119 => ⟨S2x2x8x8192x1, .f32⟩
  | 120 => ⟨S2x2x8x8192x1, .i1⟩
  | 121 => ⟨S_, .f32⟩
  | 122 => ⟨S2x2x8x8192x1, .f32⟩
  | 123 => ⟨S2x2x8x8192x1, .i1⟩
  | 124 => ⟨S2x2x8x8192x1, .i1⟩
  | 125 => ⟨S_, .f32⟩
  | 126 => ⟨S_, .f32⟩
  | 127 => ⟨S2x2x8x8192x1, .f32⟩
  | _ => ⟨S2x16x8192x64, .bf16⟩

abbrev hbmTy0_2 (i : Nat) : BufTy := match i % 128 with
  | 0 => ⟨S2x2x8x8192x1, .f32⟩
  | 1 => ⟨S2x2x8x8192x8192, .f32⟩
  | 2 => ⟨S2x2x8x8192x8192, .f32⟩
  | 3 => ⟨S2x2x8x8192x8192, .f32⟩
  | 4 => ⟨S_, .f32⟩
  | 5 => ⟨S2x2x8x8192, .f32⟩
  | 6 => ⟨S2x2x8x8192x1, .f32⟩
  | 7 => ⟨S_, .f32⟩
  | 8 => ⟨S2x2x8x8192x1, .f32⟩
  | 9 => ⟨S2x2x8x8192x1, .i1⟩
  | 10 => ⟨S_, .f32⟩
  | 11 => ⟨S_, .f32⟩
  | 12 => ⟨S2x2x8x8192x1, .f32⟩
  | 13 => ⟨S2x2x8x8192x1, .f32⟩
  | 14 => ⟨S2x2x8x8192x8192, .f32⟩
  | 15 => ⟨S2x2x8x8192x8192, .f32⟩
  | 16 => ⟨S2x2x64x8x8192, .f32⟩
  | 17 => ⟨S2x8192x2x8x64, .f32⟩
  | 18 => ⟨S2x8192x1x2x8x1, .f32⟩
  | 19 => ⟨S2x8192x2x8x1, .f32⟩
  | 20 => ⟨S2x8192x2x8x64, .f32⟩
  | 21 => ⟨S2x8192x2x8x64, .f32⟩
  | 22 => ⟨S2x8192x1x2x8x1, .f32⟩
  | 23 => ⟨S2x8192x2x8x1, .f32⟩
  | 24 => ⟨S2x8192x2x8x64, .f32⟩
  | 25 => ⟨S2x8192x2x8x64, .f32⟩
  | 26 => ⟨S2x8192x2x8x64, .f32⟩
  | 27 => ⟨S2x8192x1x2x8x1, .f32⟩
  | 28 => ⟨S2x8192x2x8x1, .f32⟩
  | 29 => ⟨S2x8192x2x8x64, .f32⟩
  | 30 => ⟨S2x8192x2x8x64, .f32⟩
  | 31 => ⟨S2x8192x2x8x64, .f32⟩
  | 32 => ⟨S2x8192x1024, .f32⟩
  | 33 => ⟨S2x8192x1024, .bf16⟩
  | _ => ⟨S2x16x8192x64, .bf16⟩

abbrev hbmTy (i : Nat) : BufTy := match i / 128 with
  | 0 => hbmTy0_0 i
  | 1 => hbmTy0_1 i
  | 2 => hbmTy0_2 i
  | _ => ⟨S2x16x8192x64, .bf16⟩

abbrev bufTy : (tb : Table) → Fin (tcTables nBuf tb) → BufTy
  | .hbm, ⟨i, _⟩ => hbmTy i
  | _, _ => ⟨S2x16x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_c : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_0 : Ref sig .tc := ⟨.hbm, 117, rfl⟩
abbrev main_call3_v12 : Ref sig .tc := ⟨.hbm, 118, rfl⟩
abbrev main_call3_v13 : Ref sig .tc := ⟨.hbm, 119, rfl⟩
abbrev main_v75 : Ref sig .tc := ⟨.hbm, 120, rfl⟩
abbrev main_v76 : Ref sig .tc := ⟨.hbm, 121, rfl⟩
abbrev main_c_14 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_15 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_16 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_17 : Ref sig .tc := ⟨.hbm, 144, rfl⟩
abbrev main_cst_18 : Ref sig .tc := ⟨.hbm, 145, rfl⟩
abbrev main_call4_v0 : Ref sig .tc := ⟨.hbm, 146, rfl⟩
abbrev main_call4_v1 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_19 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_v101 : Ref sig .tc := ⟨.hbm, 157, rfl⟩
abbrev main_values : Ref sig .tc := ⟨.hbm, 158, rfl⟩
abbrev main_indices : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_c_20 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_21 : Ref sig .tc := ⟨.hbm, 185, rfl⟩
abbrev main_call6_v0 : Ref sig .tc := ⟨.hbm, 186, rfl⟩
abbrev main_call6_v1 : Ref sig .tc := ⟨.hbm, 187, rfl⟩
abbrev main_call6_v2 : Ref sig .tc := ⟨.hbm, 188, rfl⟩
abbrev main_v126 : Ref sig .tc := ⟨.hbm, 189, rfl⟩
abbrev main_cst_22 : Ref sig .tc := ⟨.hbm, 190, rfl⟩
abbrev main_v127 : Ref sig .tc := ⟨.hbm, 191, rfl⟩
abbrev main_v128 : Ref sig .tc := ⟨.hbm, 192, rfl⟩
abbrev main_cst_23 : Ref sig .tc := ⟨.hbm, 193, rfl⟩
abbrev main_v129 : Ref sig .tc := ⟨.hbm, 194, rfl⟩
abbrev main_v130 : Ref sig .tc := ⟨.hbm, 195, rfl⟩
abbrev main_cst_24 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_cst_25 : Ref sig .tc := ⟨.hbm, 200, rfl⟩
abbrev main_call7_v0 : Ref sig .tc := ⟨.hbm, 201, rfl⟩
abbrev main_call7_v1 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_26 : Ref sig .tc := ⟨.hbm, 207, rfl⟩
abbrev main_v138 : Ref sig .tc := ⟨.hbm, 208, rfl⟩
abbrev main_v139 : Ref sig .tc := ⟨.hbm, 209, rfl⟩
abbrev main_cst_27 : Ref sig .tc := ⟨.hbm, 210, rfl⟩
abbrev main_v140 : Ref sig .tc := ⟨.hbm, 211, rfl⟩
abbrev main_v141 : Ref sig .tc := ⟨.hbm, 212, rfl⟩
abbrev main_cst_28 : Ref sig .tc := ⟨.hbm, 213, rfl⟩
abbrev main_call8_v0 : Ref sig .tc := ⟨.hbm, 214, rfl⟩
abbrev main_call8_v1 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_c_29 : Ref sig .tc := ⟨.hbm, 230, rfl⟩
abbrev main_v156 : Ref sig .tc := ⟨.hbm, 231, rfl⟩
abbrev main_v157 : Ref sig .tc := ⟨.hbm, 232, rfl⟩
abbrev main_c_30 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_cst_31 : Ref sig .tc := ⟨.hbm, 238, rfl⟩
abbrev main_call9_v0 : Ref sig .tc := ⟨.hbm, 239, rfl⟩
abbrev main_call9_v1 : Ref sig .tc := ⟨.hbm, 240, rfl⟩
abbrev main_call9_v2 : Ref sig .tc := ⟨.hbm, 241, rfl⟩
abbrev main_v162 : Ref sig .tc := ⟨.hbm, 242, rfl⟩
abbrev main_cst_32 : Ref sig .tc := ⟨.hbm, 243, rfl⟩
abbrev main_v163 : Ref sig .tc := ⟨.hbm, 244, rfl⟩
abbrev main_v164 : Ref sig .tc := ⟨.hbm, 245, rfl⟩
abbrev main_cst_33 : Ref sig .tc := ⟨.hbm, 246, rfl⟩
abbrev main_v165 : Ref sig .tc := ⟨.hbm, 247, rfl⟩
abbrev main_v166 : Ref sig .tc := ⟨.hbm, 248, rfl⟩
abbrev main_cst_34 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_cst_35 : Ref sig .tc := ⟨.hbm, 253, rfl⟩
abbrev main_call10_v0 : Ref sig .tc := ⟨.hbm, 254, rfl⟩
abbrev main_call10_v1 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_cst_36 : Ref sig .tc := ⟨.hbm, 260, rfl⟩
abbrev main_v174 : Ref sig .tc := ⟨.hbm, 261, rfl⟩
abbrev main_v175 : Ref sig .tc := ⟨.hbm, 262, rfl⟩
abbrev main_cst_37 : Ref sig .tc := ⟨.hbm, 263, rfl⟩
abbrev main_v176 : Ref sig .tc := ⟨.hbm, 264, rfl⟩
abbrev main_v177 : Ref sig .tc := ⟨.hbm, 265, rfl⟩
abbrev main_cst_38 : Ref sig .tc := ⟨.hbm, 266, rfl⟩
abbrev main_call11_v0 : Ref sig .tc := ⟨.hbm, 267, rfl⟩
abbrev main_call11_v1 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩

abbrev nD : Nat := 1
abbrev τ : Topo := Topo.v7x

variable {F : FTy → Type} [FloatOps F]
-- ==== Post.lean ====
abbrev S2x8192x1024 : Shape := ⟨3, ![2, 8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 17
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x5632, .bf16⟩
  | .hbm, ⟨9, _⟩ => ⟨S2816x1024, .bf16⟩
  | .hbm, ⟨10, _⟩ => ⟨S16384x1024, .f32⟩
  | .hbm, ⟨11, _⟩ => ⟨S16384x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostReferenceIdeal.lean ====
abbrev S2x8192x1024 : Shape := ⟨3, ![2, 8192, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S2x8192x5632, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S_, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192, .f32⟩
  | .hbm, ⟨60, _⟩ => ⟨S2x8192x1, .f32⟩
  | .hbm, ⟨61, _⟩ => ⟨S_, .f32⟩
  | .hbm, ⟨62, _⟩ => ⟨S2x8192x1, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S2x8192x1, .f32⟩
  | .hbm, ⟨68, _⟩ => ⟨S2x8192x1024, .f32⟩
  | .hbm, ⟨69, _⟩ => ⟨S2x8192x1024, .f32⟩
  | .hbm, ⟨70, _⟩ => ⟨S1x1x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Step.lean ====
abbrev S128x1024 : Shape := ⟨2, ![128, 1024]⟩
abbrev S128x4096 : Shape := ⟨2, ![128, 4096]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x1x64x1024 : Shape := ⟨4, ![16, 1, 64, 1024]⟩
abbrev S16 : Shape := ⟨1, ![16]⟩
abbrev S_ : Shape := ⟨0, ![]⟩
abbrev S4 : Shape := ⟨1, ![4]⟩
abbrev S1x4 : Shape := ⟨2, ![1, 4]⟩
abbrev S16x1 : Shape := ⟨2, ![16, 1]⟩
abbrev S16x4 : Shape := ⟨2, ![16, 4]⟩
abbrev S16x4x1x1 : Shape := ⟨4, ![16, 4, 1, 1]⟩
abbrev S16x4x64x1024 : Shape := ⟨4, ![16, 4, 64, 1024]⟩
abbrev S4096x1024 : Shape := ⟨2, ![4096, 1024]⟩
abbrev S1x1024 : Shape := ⟨2, ![1, 1024]⟩
abbrev S128 : Shape := ⟨1, ![128]⟩
abbrev S128x1 : Shape := ⟨2, ![128, 1]⟩
abbrev S128x5632 : Shape := ⟨2, ![128, 5632]⟩
abbrev S128x2816 : Shape := ⟨2, ![128, 2816]⟩

abbrev nBuf : Space → Nat
  | .hbm => 52
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x4096, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x5632, .bf16⟩
  | .hbm, ⟨9, _⟩ => ⟨S2816x1024, .bf16⟩
  | .hbm, ⟨10, _⟩ => ⟨S16x1x64x1024, .f32⟩
  | .hbm, ⟨11, _⟩ => ⟨S16, .i32⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S16, .i1⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S4, .i32⟩
  | .hbm, ⟨31, _⟩ => ⟨S1x4, .i32⟩
  | .hbm, ⟨32, _⟩ => ⟨S16x1, .i32⟩
  | .hbm, ⟨33, _⟩ => ⟨S_, .i32⟩
  | .hbm, ⟨34, _⟩ => ⟨S16x1, .i32⟩
  | .hbm, ⟨35, _⟩ => ⟨S16x1, .i32⟩
  | .hbm, ⟨36, _⟩ => ⟨S16x4, .i32⟩
  | .hbm, ⟨37, _⟩ => ⟨S16x4, .i32⟩
  | .hbm, ⟨38, _⟩ => ⟨S16x4, .i1⟩
  | .hbm, ⟨39, _⟩ => ⟨S16x4x1x1, .i1⟩
  | .hbm, ⟨40, _⟩ => ⟨S_, .f32⟩
  | .hbm, ⟨41, _⟩ => ⟨S_, .f32⟩
  | .hbm, ⟨42, _⟩ => ⟨S16x4x64x1024, .i1⟩
  | .hbm, ⟨43, _⟩ => ⟨S16x4x64x1024, .f32⟩
  | .hbm, ⟨44, _⟩ => ⟨S16x4x64x1024, .f32⟩
  | .hbm, ⟨45, _⟩ => ⟨S16x4x64x1024, .f32⟩
  | .hbm, ⟨46, _⟩ => ⟨S4096x1024, .f32⟩
  | .hbm, ⟨47, _⟩ => ⟨S4096x1024, .bf16⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S128x1024, .f32⟩
  | .local _ .vmem, ⟨0, _⟩ => ⟨S128x1024, .f32⟩
  | .local _ .vmem, ⟨1, _⟩ => ⟨S128x4096, .f32⟩
  | .local _ .vmem, ⟨2, _⟩ => ⟨S4096x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== StepReferenceIdeal.lean ====
abbrev S128x1024 : Shape := ⟨2, ![128, 1024]⟩
abbrev S128x4096 : Shape := ⟨2, ![128, 4096]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S128x2x8x4x64 : Shape := ⟨5, ![128, 2, 8, 4, 64]⟩
abbrev S128x1x8x1x64 : Shape := ⟨5, ![128, 1, 8, 1, 64]⟩
abbrev S128x8x64 : Shape := ⟨3, ![128, 8, 64]⟩
abbrev S128x1x8x64 : Shape := ⟨4, ![128, 1, 8, 64]⟩
abbrev S128x2x8x64 : Shape := ⟨4, ![128, 2, 8, 64]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩

abbrev nBuf : Space → Nat
  | .hbm => 82
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x4096, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S128x2x8x4x64, .f32⟩
  | .hbm, ⟨9, _⟩ => ⟨S128x1x8x1x64, .f32⟩
  | .hbm, ⟨10, _⟩ => ⟨S128x8x64, .f32⟩
  | .hbm, ⟨11, _⟩ => ⟨S128x1x8x1x64, .f32⟩
  | .hbm, ⟨12, _⟩ => ⟨S128x8x64, .f32⟩
  | .hbm, ⟨13, _⟩ => ⟨S128x1x8x64, .f32⟩
  | .hbm, ⟨14, _⟩ => ⟨S128x1x8x64, .f32⟩
  | .hbm, ⟨15, _⟩ => ⟨S128x2x8x64, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S1x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x1024, .f32⟩
  | .hbm, ⟨47, _⟩ => ⟨S128x1024, .f32⟩
  | .hbm, ⟨48, _⟩ => ⟨S1x1024, .f32⟩
  | .hbm, ⟨49, _⟩ => ⟨S128x1024, .f32⟩
  | .hbm, ⟨50, _⟩ => ⟨S128x1024, .f32⟩
  | .hbm, ⟨51, _⟩ => ⟨S128x5632, .f32⟩
  | .hbm, ⟨52, _⟩ => ⟨S128x2816, .f32⟩
  | .hbm, ⟨53, _⟩ => ⟨S128x2816, .f32⟩
  | .hbm, ⟨54, _⟩ => ⟨S128x2816, .f32⟩
  | .hbm, ⟨55, _⟩ => ⟨S128x2816, .f32⟩
  | .hbm, ⟨56, _⟩ => ⟨S_, .f32⟩
  | .hbm, ⟨57, _⟩ => ⟨S128x2816, .f32⟩
  | .hbm, ⟨58, _⟩ => ⟨S128x2816, .f32⟩
  | .hbm, ⟨59, _⟩ => ⟨S_, .f32⟩
  | .hbm, ⟨60, _⟩ => ⟨S128x2816, .f32⟩
  | .hbm, ⟨61, _⟩ => ⟨S128x2816, .f32⟩
  | .hbm, ⟨62, _⟩ => ⟨S128x2816, .f32⟩
  | .hbm, ⟨63, _⟩ => ⟨S128x2816, .f32⟩
  | .hbm, ⟨64, _⟩ => ⟨S128x1024, .f32⟩
  | .hbm, ⟨65, _⟩ => ⟨S128x1024, .f32⟩
  | .hbm, ⟨66, _⟩ => ⟨S_, .f32⟩
  | .hbm, ⟨67, _⟩ => ⟨S128, .f32⟩
  | .hbm, ⟨68, _⟩ => ⟨S128x1, .f32⟩
  | .hbm, ⟨69, _⟩ => ⟨S_, .f32⟩
  | .hbm, ⟨70, _⟩ => ⟨S128x1, .f32⟩
  | .hbm, ⟨71, _⟩ => ⟨S128x1, .f32⟩
  | .hbm, ⟨72, _⟩ => ⟨S_, .f32⟩
  | .hbm, ⟨73, _⟩ => ⟨S128x1, .f32⟩
  | .hbm, ⟨74, _⟩ => ⟨S128x1, .f32⟩
  | .hbm, ⟨75, _⟩ => ⟨S128x1, .f32⟩
  | .hbm, ⟨76, _⟩ => ⟨S128x1024, .f32⟩
  | .hbm, ⟨77, _⟩ => ⟨S128x1024, .f32⟩
  | .hbm, ⟨78, _⟩ => ⟨S1x1024, .f32⟩
  | .hbm, ⟨79, _⟩ => ⟨S128x1024, .f32⟩
  | .hbm, ⟨80, _⟩ => ⟨S128x1024, .f32⟩
  | .hbm, ⟨81, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Proof.SwitchIdeal.lean ====
/- The body's switch over the number of compressed columns in reach, run by itself. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The program's switch: which of the four widths of the compressed branch runs, as the index `v49`
    says; the two arrays it yields are the branch's output and its importances. -/
noncomputable def switchP (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (v0 : BitVec 32) (v3 : FVec F S2048x64 .bf16) (v49 : BitVec 32) (v50 : BitVec 1) :
    Prog (TpuEff nD τ sig (Elt F) Λ₀ .tc) (FVec F S8x256x128 .f32 × FVec F S256x128 .f32) :=
  if k0_h1 : v50 = 1#1 then do
      let v581 : BitVec 32 := Scalar.subi v49 1#32
      let v582 : BitVec 1 := Scalar.cmpi .ne v581 0#32
      let (v583_0, v583_1) : FVec F S8x256x128 .f32 × FVec F S256x128 .f32 ← if k0_h2 : v582 = 1#1 then do
          let v584 : BitVec 32 := Scalar.subi v581 1#32
          let v585 : BitVec 1 := Scalar.cmpi .ne v584 0#32
          let (v586_0, v586_1) : FVec F S8x256x128 .f32 × FVec F S256x128 .f32 ← if k0_h3 : v585 = 1#1 then do
              let ⟨v619, v626⟩ : Σ' (v619 : FVec F S8x256x512 .f32), FVec F S8x256x128 .f32 ← k0_part1 i arg3 harg3 arg4 harg4 arg5 harg5 arg6 harg6 arg7 harg7 arg8 harg8 arg9 harg9 arg10 harg10 arg11 harg11 arg12 harg12 arg13 harg13 arg14 harg14 v0 v3
              pure (v626, k0_pay12 v619)
            else do
              let ⟨v619, v626⟩ : Σ' (v619 : FVec F S8x256x384 .f32), FVec F S8x256x128 .f32 ← k0_part2 i arg3 harg3 arg4 harg4 arg5 harg5 arg6 harg6 arg7 harg7 arg8 harg8 arg9 harg9 arg10 harg10 arg11 harg11 arg12 harg12 arg13 harg13 arg14 harg14 v0 v3
              pure (v626, k0_pay13 v619)
          pure (v586_0, v586_1)
        else do
          let ⟨v616, v623⟩ : Σ' (v616 : FVec F S8x256x256 .f32), FVec F S8x256x128 .f32 ← k0_part3 i arg3 harg3 arg4 harg4 arg5 harg5 arg6 harg6 arg7 harg7 arg8 harg8 arg9 harg9 arg10 harg10 arg11 harg11 arg12 harg12 arg13 harg13 arg14 harg14 v0 v3
          pure (v623, k0_pay14 v616)
      pure (v583_0, v583_1)
    else do
      let ⟨v613, v620⟩ : Σ' (v613 : FVec F S8x256x128 .f32), FVec F S8x256x128 .f32 ← k0_part4 i arg3 harg3 arg4 harg4 arg5 harg5 arg6 harg6 arg7 harg7 arg8 harg8 arg9 harg9 arg10 harg10 arg11 harg11 arg12 harg12 arg13 harg13 arg14 harg14 v0 v3
      pure (v620, k0_pay15 v613)

/-- The part of the body that holds the switch, with the switch called by its name. -/
noncomputable def part6 (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (arg2 : BitVec 32) (v0 : BitVec 32) (v3 : FVec F S2048x64 .bf16) (v6 : FVec F S2048x64 .bf16) (v28 : BitVec 32) (c128_i32_14 : BitVec 32) (v29 : BitVec 32) (v31 : BitVec 32) (v32 : BitVec 1) :
    Prog (TpuEff nD τ sig (Elt F) Λ₀ .tc) (Σ' (v51_0 : FVec F S8x256x128 .f32) (v51_1 : FVec F S256x128 .f32) (v55 : BitVec 32) (v67 : FVec F S8x256x768 .f32) (cst_30 : F .f32), IVec S1x256x768 1) := do
  let v33 : BitVec 32 := Scalar.extui v32
  let v34 : BitVec 32 := Scalar.subi v31 v33
  let v35 : BitVec 1 := Scalar.cmpi .sgt c128_i32_14 0#32
  let v36 : BitVec 32 := Scalar.extui v35
  let v37 : BitVec 1 := Scalar.cmpi .slt c128_i32_14 0#32
  let v38 : BitVec 32 := Scalar.extui v37
  let v39 : BitVec 32 := Scalar.subi v36 v38
  let v40 : BitVec 1 := Scalar.cmpi .ne v34 v39
  let v41 : BitVec 32 := Scalar.remsi v28 c128_i32_14
  let v42 : BitVec 1 := Scalar.cmpi .ne v41 0#32
  let v43 : BitVec 1 := Scalar.andi v40 v42
  let v44 : BitVec 32 := Scalar.subi v29 1#32
  let v45 : BitVec 32 := Scalar.select v43 v44 v29
  let v46 : BitVec 32 := Scalar.minsi v45 4#32
  let v47 : BitVec 32 := Scalar.subi v46 1#32
  let v48 : BitVec 32 := Scalar.maxsi v47 0#32
  let v49 : BitVec 32 := Scalar.minsi v48 3#32
  let v50 : BitVec 1 := Scalar.cmpi .ne v49 0#32
  let (v51_0, v51_1) ← switchP i arg3 harg3 arg4 harg4 arg5 harg5 arg6 harg6 arg7 harg7 arg8 harg8 arg9 harg9 arg10 harg10 arg11 harg11 arg12 harg12 arg13 harg13 arg14 harg14 v0 v3 v49 v50
  let v52 : BitVec 32 := Scalar.muli arg2 256#32
  let v53 : BitVec 32 := Scalar.subi v52 512#32
  let v54 : BitVec 32 := Scalar.maxsi v53 0#32
  let v55 : BitVec 32 := v54
  let v64 : Vec F S1x64x768 .bf16 ← Prog.lift (.load arg9 (Rect.unit (s := S1x64x8192) (k0_off1 i) S1x64x768.size (k0_off1_inb i)).toLoadRect (View.loadsAt_vmem h_S1x64x768))
  have cst_30 : F .f32 := Named.named κ "neg" 0xF149F2CA#32
  pure ⟨v51_0, v51_1, v55, k0_pay16 v6 v64, cst_30, k0_pay17 arg2⟩

set_option maxRecDepth 65536 in
/-- The printed part is the one that calls the switch by its name. -/
theorem part6_eq : k0_part6 (F := F) = part6 (F := F) := by
  rw [k0_part6_eq_skeleton]
  funext i arg3 harg3 arg4 harg4 arg5 harg5 arg6 harg6 arg7 harg7 arg8 harg8 arg9 harg9 arg10 harg10 arg11 harg11 arg12 harg12 arg13 harg13 arg14 harg14 arg2 v0 v3 v6 v28 c128 v29 v31 v32
  delta k0_part6_skel part6 switchP
  dsimp only

  split
  · split
    · split
      · exact (Prog.bind_assoc ..).symm
      · exact (Prog.bind_assoc ..).symm
    · exact (Prog.bind_assoc ..).symm
  · exact (Prog.bind_assoc ..).symm

/-- The compressed keys' and values' buffers, at their contents. -/
abbrev Held (c : Dev nD) (arg5 : Memref sig .tc .vmem S1x1x1x512x64 .bf16) (arg6 : Memref sig .tc .vmem S1x1x1x512x64 .bf16) (X5 : BufTy.Contents (Elt F) arg5.view.ty) (X6 : BufTy.Contents (Elt F) arg6.view.ty) : sProp 𝕄 :=
  iprop((arg5.view.loc (c : Thread nD τ) ↦[arg5.view.set]{fullShare} X5) ∗ (arg6.view.loc (c : Thread nD τ) ↦[arg6.view.set]{fullShare} X6))

set_option maxHeartbeats 1000000 in
/-- The switch run at each of its four branches: it reads the two buffers, leaves them as they were, and what it
    yields is the branch's, each found by its run. -/
@[irreducible] noncomputable def switchRun (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (v0 : BitVec 32) (v3 : FVec F S2048x64 .bf16) (v49 : BitVec 32) (v50 : BitVec 1)
    (X5 : BufTy.Contents (Elt F) arg5.view.ty) (X6 : BufTy.Contents (Elt F) arg6.view.ty) :
    { R : FVec F S8x256x128 .f32 × FVec F S256x128 .f32 //
      ∀ (E : Set ℕ), Held c arg5 arg6 X5 X6
        ⊢ wp frame (wpE (defs₀ (F := F)) Variants.none c none) E (switchP i arg3 harg3 arg4 harg4 arg5 harg5 arg6 harg6 arg7 harg7 arg8 harg8 arg9 harg9 arg10 harg10 arg11 harg11 arg12 harg12 arg13 harg13 arg14 harg14 v0 v3 v49 v50)
            (fun y => iprop(⌜y = R⌝ ∗ Held c arg5 arg6 X5 X6)) } := by
  refine ⟨if v50 = 1#1 then
      (if Scalar.cmpi .ne (Scalar.subi v49 1#32) 0#32 = 1#1 then
        (if Scalar.cmpi .ne (Scalar.subi (Scalar.subi v49 1#32) 1#32) 0#32 = 1#1 then ?_ else ?_)
      else ?_)
    else ?_, fun E => ?run⟩
  case run =>
    unfold switchP
    simp only [k0_part1_eq_skeleton, k0_part2_eq_skeleton, k0_part3_eq_skeleton, k0_part4_eq_skeleton]
    iintro ⟨H5, H6⟩
    by_cases h1 : v50 = 1#1
    · rw [if_pos h1]
      by_cases h2 : Scalar.cmpi .ne (Scalar.subi v49 1#32) 0#32 = 1#1
      · rw [if_pos h2]
        by_cases h3 : Scalar.cmpi .ne (Scalar.subi (Scalar.subi v49 1#32) 1#32) 0#32 = 1#1
        · rw [if_pos h3]
          sl_exec (disch := assumption)
          sl_step
          sl_close
        · rw [if_neg h3]
          sl_exec (disch := assumption)
          sl_step
          sl_close
      · rw [if_neg h2]
        sl_exec (disch := assumption)
        sl_step
        sl_close
    · rw [if_neg h1]
      sl_exec (disch := assumption)
      sl_step
      sl_close

/-- What the switch yields. -/
noncomputable def switchOut (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (v0 : BitVec 32) (v3 : FVec F S2048x64 .bf16) (v49 : BitVec 32) (v50 : BitVec 1)
    (X5 : BufTy.Contents (Elt F) arg5.view.ty) (X6 : BufTy.Contents (Elt F) arg6.view.ty) : FVec F S8x256x128 .f32 × FVec F S256x128 .f32 :=
  (switchRun c i arg3 harg3 arg4 harg4 arg5 harg5 arg6 harg6 arg7 harg7 arg8 harg8 arg9 harg9 arg10 harg10 arg11 harg11 arg12 harg12 arg13 harg13 arg14 harg14 v0 v3 v49 v50 X5 X6).1

/-- The switch before the rest of the body: from the two buffers, to the rest at what the switch yields. -/
theorem switch_step {c : Dev nD} {i : grid0.Coords} (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) {v0 : BitVec 32} {v3 : FVec F S2048x64 .bf16} {v49 : BitVec 32} {v50 : BitVec 1}
    (X5 : BufTy.Contents (Elt F) arg5.view.ty) (X6 : BufTy.Contents (Elt F) arg6.view.ty) {E : Set ℕ} {β : Type} {Q : β → sProp 𝕄}
    {k : FVec F S8x256x128 .f32 × FVec F S256x128 .f32 → Prog (TpuEff nD τ sig (Elt F) Λ₀ .tc) β}
    : iprop(Held c arg5 arg6 X5 X6 ∗ (Held c arg5 arg6 X5 X6 -∗ wp frame (wpE (defs₀ (F := F)) Variants.none c none) E (k (switchOut c i arg3 harg3 arg4 harg4 arg5 harg5 arg6 harg6 arg7 harg7 arg8 harg8 arg9 harg9 arg10 harg10 arg11 harg11 arg12 harg12 arg13 harg13 arg14 harg14 v0 v3 v49 v50 X5 X6)) Q))
    ⊢ wp frame (wpE (defs₀ (F := F)) Variants.none c none) E (switchP i arg3 harg3 arg4 harg4 arg5 harg5 arg6 harg6 arg7 harg7 arg8 harg8 arg9 harg9 arg10 harg10 arg11 harg11 arg12 harg12 arg13 harg13 arg14 harg14 v0 v3 v49 v50 >>= k) Q := by
  rw [wp_bind]
  iintro ⟨HH, Hk⟩
  iapply (wp_wand_r Idealize.ShloMosaic.frame (wpE (defs₀ (F := F)) Variants.none (c : Thread nD τ) none) E)
  isplitl [HH]
  · iapply ((switchRun c i arg3 harg3 arg4 harg4 arg5 harg5 arg6 harg6 arg7 harg7 arg8 harg8 arg9 harg9 arg10 harg10 arg11 harg11 arg12 harg12 arg13 harg13 arg14 harg14 v0 v3 v49 v50 X5 X6).2 E)
    iexact HH
  · iintro %yld ⟨%h_res, HH⟩
    subst h_res
    iapply Hk
    iexact HH

end Cert.KernelIdeal.Hand
-- ==== Proof.BodyIdeal.lean ====
/- The whole body run once at a symbolic grid point: what it leaves in the output block. -/
module

public import proofs.«01_k».proof.Proof.SwitchIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the run's proof term is large
set_option maxHeartbeats 1000000 in
/-- The body at a grid point, from the input blocks `x0 … x10` in whole buffers: it ends with the inputs as they were
    and the output's buffer written with the pieces the run finds. -/
noncomputable def bodyRun (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole)
    (x0 : Vec F S1x8x256x64 .bf16) (x1 : Vec F S1x8x256x64 .bf16) (x2 : Vec F S1x1x1x512x64 .bf16) (x3 : Vec F S1x1x1x512x64 .bf16) (x4 : Vec F S1x64x8192 .bf16) (x5 : Vec F S1x64x8192 .bf16) (x6 : Vec F S1x64x8192 .bf16) (x7 : Vec F S1x64x8192 .bf16) (x8 : Vec F S1x256x128 .f32) (x9 : Vec F S128x8192 .bf16) (x10 : Vec F S1x128x1536 .bf16) :
    { L : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L)) -∗ K ⟨⟩))
          ⊢ wp frame (wpE (defs₀ (F := F)) Variants.none c none) E (cc0_nsa_attn i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_nsa_attn_eq_skeleton]; unfold cc0_nsa_attn_skel
    simp only [k0_part17_eq_skeleton]; unfold k0_part17_skel
    simp only [part6_eq]; unfold part6
    simp only [k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    generalize hsw : @switchP F _ _ = sw
    sl_exec
    subst hsw
    rw [bind_assoc, bind_assoc]
    iapply (switch_step arg3 harg3 arg4 harg4 arg5 harg5 arg6 harg6 arg7 harg7 arg8 harg8 arg9 harg9 arg10 harg10 arg11 harg11 arg12 harg12 arg13 harg13 arg14 harg14 (harg5.unread x2) (harg6.unread x3))
    isplitl [H2 H3]
    · isplitl [H2]; · iexact H2
      iexact H3
    iintro ⟨H2, H3⟩
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    iexists _; iexact H11

end Cert.KernelIdeal.Hand
-- ==== Proof.FrameIdeal.lean ====
/- The frame: the proof data over the body's run, the body obligation, the launch, and the arguments unchanged. -/
module

public import proofs.«01_k».proof.Proof.BodyIdeal
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers at a point -/

abbrev outView : View sig .tc .vmem S1x256x512 .bf16 := (Memref.whole cc0_stg11_0 : Memref sig .tc .vmem S1x256x512 .bf16).view
abbrev buf0 (t : Fin cfg0.N) : Memref sig .tc .vmem S1x8x256x64 .bf16 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x8x256x64 .bf16 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x1x1x512x64 .bf16 := win0_2.stage (cfg0.slots t 2)
abbrev whole2 (t : Fin cfg0.N) : (buf2 t).IsWhole := hstage0_2 ((cfg0.slots t 2).cast nbuf0_2)
abbrev buf3 (t : Fin cfg0.N) : Memref sig .tc .vmem S1x1x1x512x64 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S1x64x8192 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S1x64x8192 .bf16 := win0_5.stage (cfg0.slots t 5)
abbrev whole5 (t : Fin cfg0.N) : (buf5 t).IsWhole := hstage0_5 ((cfg0.slots t 5).cast nbuf0_5)
abbrev buf6 (t : Fin cfg0.N) : Memref sig .tc .vmem S1x64x8192 .bf16 := win0_6.stage (cfg0.slots t 6)
abbrev whole6 (t : Fin cfg0.N) : (buf6 t).IsWhole := hstage0_6 ((cfg0.slots t 6).cast nbuf0_6)
abbrev buf7 (t : Fin cfg0.N) : Memref sig .tc .vmem S1x64x8192 .bf16 := win0_7.stage (cfg0.slots t 7)
abbrev whole7 (t : Fin cfg0.N) : (buf7 t).IsWhole := hstage0_7 ((cfg0.slots t 7).cast nbuf0_7)
abbrev buf8 (t : Fin cfg0.N) : Memref sig .tc .vmem S1x256x128 .f32 := win0_8.stage (cfg0.slots t 8)
abbrev whole8 (t : Fin cfg0.N) : (buf8 t).IsWhole := hstage0_8 ((cfg0.slots t 8).cast nbuf0_8)
abbrev buf9 (t : Fin cfg0.N) : Memref sig .tc .vmem S128x8192 .bf16 := win0_9.stage (cfg0.slots t 9)
abbrev whole9 (t : Fin cfg0.N) : (buf9 t).IsWhole := hstage0_9 ((cfg0.slots t 9).cast nbuf0_9)
abbrev buf10 (t : Fin cfg0.N) : Memref sig .tc .vmem S1x128x1536 .bf16 := win0_10.stage (cfg0.slots t 10)
abbrev whole10 (t : Fin cfg0.N) : (buf10 t).IsWhole := hstage0_10 ((cfg0.slots t 10).cast nbuf0_10)
abbrev buf11 (t : Fin cfg0.N) : Memref sig .tc .vmem S1x256x512 .bf16 := win0_11.stage (cfg0.slots t 11)
abbrev whole11 (t : Fin cfg0.N) : (buf11 t).IsWhole := hstage0_11 ((cfg0.slots t 11).cast nbuf0_11)

/-- The body's one store covers the output block. -/
theorem covers (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole)
    (x0 : Vec F S1x8x256x64 .bf16) (x1 : Vec F S1x8x256x64 .bf16) (x2 : Vec F S1x1x1x512x64 .bf16) (x3 : Vec F S1x1x1x512x64 .bf16) (x4 : Vec F S1x64x8192 .bf16) (x5 : Vec F S1x64x8192 .bf16) (x6 : Vec F S1x64x8192 .bf16) (x7 : Vec F S1x64x8192 .bf16) (x8 : Vec F S1x256x128 .f32) (x9 : Vec F S128x8192 .bf16) (x10 : Vec F S1x128x1536 .bf16) (y : S1x256x512.Idx) :
    ∃ pc ∈ (bodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1, y ∈ pc.1.set :=
  View.cover_of_tiledL (bodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1 S1x256x512.size (by sl_kernel_rfl) y

/-- What the body leaves in the output block. -/
def outOf (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole)
    (x0 : Vec F S1x8x256x64 .bf16) (x1 : Vec F S1x8x256x64 .bf16) (x2 : Vec F S1x1x1x512x64 .bf16) (x3 : Vec F S1x1x1x512x64 .bf16) (x4 : Vec F S1x64x8192 .bf16) (x5 : Vec F S1x64x8192 .bf16) (x6 : Vec F S1x64x8192 .bf16) (x7 : Vec F S1x64x8192 .bf16) (x8 : Vec F S1x256x128 .f32) (x9 : Vec F S128x8192 .bf16) (x10 : Vec F S1x128x1536 .bf16) : Vec F S1x256x512 .bf16 :=
  outView.read (Elt F) (outView.writes (Elt F) outView.junk (bodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1)

/-- What the output's buffer holds after point `t`: the run's contents at the point's input blocks. -/
def outAt (c : Dev nD) (t : Fin cfg0.N) : Vec F S1x256x512 .bf16 :=
  outOf c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The pipeline's proof data: arrays as the region finds them, each input's buffer left at its block, the output's at
    `outAt`, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-! ## The body at any point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t))

/-- The body at any point, by its run at the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  unfold outAt outOf
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (covers c _ _ _ _ _ _ _ _ _ _ _ _ _ _ _ _ _ _ _ _ _ _ _ _ _ _ _ _ _ _ _ _ _ _ _ _ )

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

set_option backward.isDefEq.respectTransparency.types false in
/-- The launch: every array of the pipeline ends at what the proof data says, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Hand
-- ==== Proof.PostSpec.lean ====
module

public import Idealize.ShloMosaic.Lib.Pointwise

/-! The end of a layer, row by row: the output projection of the attention, the residual sum, the gated feed-forward part. -/

@[expose] public section

noncomputable section

namespace Cert.Ffn
open Idealize.ShloMosaic Idealize.ShloMosaic.Pointwise

/-- A row times a matrix. -/
def prod {n k : ℕ} (x : Fin n → EReal) (w : (⟨2, ![n, k]⟩ : Shape).Idx → EReal) (j : Fin k) : EReal := ∑ i, x i * w (ix2 i j)

/-- The root mean square norm of a row, with its weights: 1024 and the small constant are the words both programs print. -/
def norm (x g : Fin 1024 → EReal) (j : Fin 1024) : EReal :=
  x j * Ideal.rsqrt (Ideal.div (∑ k, x k * x k) (Ideal.ofBits FTy.f32 1149239296#32) + Ideal.ofBits FTy.f32 897988541#32) * g j

/-- The first half of a row times its logistic function, times the second half. -/
def swish (p : Fin 5632 → EReal) (j : Fin 2816) : EReal :=
  p ⟨j, by omega⟩ * Ideal.logistic (p ⟨j, by omega⟩) * p ⟨2816 + j, by omega⟩

/-- The eight arguments. -/
structure Arrays where
  h : (⟨3, ![2, 8192, 1024]⟩ : Shape).Idx → EReal
  o : (⟨3, ![2, 8192, 1024]⟩ : Shape).Idx → EReal
  wOut : (⟨2, ![1024, 1024]⟩ : Shape).Idx → EReal
  gPost : (⟨1, ![1024]⟩ : Shape).Idx → EReal
  fPre : (⟨1, ![1024]⟩ : Shape).Idx → EReal
  fPost : (⟨1, ![1024]⟩ : Shape).Idx → EReal
  wIn : (⟨2, ![1024, 5632]⟩ : Shape).Idx → EReal
  wDown : (⟨2, ![2816, 1024]⟩ : Shape).Idx → EReal

/-- The batch element of a row. -/
def elemOf (r : Fin 16384) : Fin 2 := ⟨(r : ℕ) / 8192, by omega⟩
/-- The position of a row. -/
def posOf (r : Fin 16384) : Fin 8192 := ⟨(r : ℕ) % 8192, by omega⟩

/-- A row of the stream after the attention, from the row before it and the attention's row. -/
def mid (h o : Fin 1024 → EReal) (w : (⟨2, ![1024, 1024]⟩ : Shape).Idx → EReal) (g : Fin 1024 → EReal) (j : Fin 1024) : EReal :=
  h j + norm (prod o w) g j

/-- A row of the stream after the feed-forward part, from the row before it. -/
def last (h f g : Fin 1024 → EReal) (w : (⟨2, ![1024, 5632]⟩ : Shape).Idx → EReal) (d : (⟨2, ![2816, 1024]⟩ : Shape).Idx → EReal)
    (j : Fin 1024) : EReal :=
  h j + norm (prod (swish (prod (norm h f) w)) d) g j

namespace Arrays
variable (A : Arrays)

/-- A row of the result. -/
def row (b : Fin 2) (q : Fin 8192) : Fin 1024 → EReal :=
  last (mid (fun j => A.h (ix3 b q j)) (fun j => A.o (ix3 b q j)) A.wOut fun j => A.gPost (ix1 j))
    (fun j => A.fPre (ix1 j)) (fun j => A.fPost (ix1 j)) A.wIn A.wDown

/-- The result, the rows of the two batch elements one after the other. -/
def result (i : (⟨2, ![16384, 1024]⟩ : Shape).Idx) : EReal := A.row (elemOf (i 0)) (posOf (i 0)) (i 1)

end Arrays

end Cert.Ffn
-- ==== Proof.PostBody.lean ====
module

public import proofs.«01_k».proof.Proof.Gen.PostIdeal.Value
public import proofs.«01_k».proof.Proof.PostSpec
public import Idealize.ShloMosaic.Lib.Pointwise

@[expose] public section

set_option maxRecDepth 16384

noncomputable section

namespace Cert.PostIdeal.Value
open Idealize.ShloMosaic Idealize.ShloMosaic.Pointwise
open Cert.PostIdeal Cert.PostIdeal.Gen

theorem mid_at (v0 : Vec Ideal S512x1024 .bf16) (v2 : Vec Ideal S1024x1024 .bf16) (v5 : Vec Ideal S512x1024 .f32) (v7 : Vec Ideal S1x1024 .f32)
    (r : Fin 512) (j : Fin 1024) :
    k0_pay2 v0 v2 v5 v7 (ix2 r j) = Cert.Ffn.mid (fun j => v5 (ix2 r j)) (fun j => v0 (ix2 r j)) v2 (fun j => v7 (ix2 0 j)) j := by
  unfold k0_pay2
  pointwise
  rfl

theorem normed_at (v0 : Vec Ideal S512x1024 .bf16) (v2 : Vec Ideal S1024x1024 .bf16) (v5 : Vec Ideal S512x1024 .f32) (v7 v22 : Vec Ideal S1x1024 .f32)
    (r : Fin 512) (j : Fin 1024) :
    k0_pay3 v0 v2 v5 v7 v22 (ix2 r j) = Cert.Ffn.norm (fun j => k0_pay2 v0 v2 v5 v7 (ix2 r j)) (fun j => v22 (ix2 0 j)) j := by
  unfold k0_pay3
  pointwise
  rfl

theorem out_at (v21 : FVec Ideal S512x1024 .f32) (v36 : FVec Ideal S512x1024 .bf16) (v38 : FVec Ideal S1024x5632 .bf16) (v46 : Vec Ideal S2816x1024 .bf16) (v49 : Vec Ideal S1x1024 .f32)
    (r : Fin 512) (j : Fin 1024) :
    k0_pay1 v21 v36 v38 (constant S512x5632 .f32 0x00000000#32) v46 v49 (ix2 r j)
      = v21 (ix2 r j) + Cert.Ffn.norm (Cert.Ffn.prod (Cert.Ffn.swish (Cert.Ffn.prod (fun j => v36 (ix2 r j)) v38)) v46) (fun j => v49 (ix2 0 j)) j := by
  unfold k0_pay1
  pointwise
  rfl

theorem weight_at (w : Vec Ideal S1024x5632 .bf16) : k0_pay4 w = w := by
  funext i
  idx_vars i
  unfold k0_pay4
  pointwise

/-- What the body leaves in the block of the result, row by row. -/
theorem block_at (x0 : Vec Ideal S512x1024 .f32) (x1 : Vec Ideal S512x1024 .bf16) (x2 : Vec Ideal S1024x1024 .bf16) (x3 x4 x5 : Vec Ideal S1x1024 .f32)
    (x6 : Vec Ideal S1024x5632 .bf16) (x7 : Vec Ideal S2816x1024 .bf16) (r : Fin 512) (j : Fin 1024) :
    out0_8 x0 x1 x2 x3 x4 x5 x6 x7 (ix2 r j)
      = Cert.Ffn.last (Cert.Ffn.mid (fun j => x0 (ix2 r j)) (fun j => x1 (ix2 r j)) x2 (fun j => x3 (ix2 0 j)))
          (fun j => x4 (ix2 0 j)) (fun j => x5 (ix2 0 j)) x6 x7 j := by
  unfold out0_8
  have z : (![0, 0] : Fin 2 → ℕ) = fun _ => 0 := by funext a; match a with | ⟨0, _⟩ => rfl | ⟨1, _⟩ => rfl
  rw [View.canon_unit_zero z, View.ld_unit_zero z _ x1, View.ld_unit_zero z _ x2, View.ld_unit_zero z _ x0, View.ld_unit_zero z _ x3,
    View.ld_unit_zero z _ x4, View.ld_unit_zero z _ x6, View.ld_unit_zero z _ x7, View.ld_unit_zero z _ x5, out_at]
  simp only [normed_at, mid_at, weight_at]
  rfl

end Cert.PostIdeal.Value
-- ==== Proof.PostBlocks.lean ====
module

public import proofs.«01_k».proof.Proof.PostBody
public import Idealize.ShloMosaic.Lib.Claim
public import Idealize.ShloMosaic.Lib.StableHlo.ReadAt
public import Idealize.ShloMosaic.Lib.Pipeline.ValueKit

@[expose] public section

set_option maxRecDepth 16384

noncomputable section

namespace Cert.PostIdeal.Value
open Idealize.ShloMosaic Idealize.ShloMosaic.Pointwise Idealize.ShloMosaic.TcCoe Idealize.SL.Sem
open Idealize.ShloMosaic.Pipeline (Dat)
open Cert.PostIdeal Cert.PostIdeal.Gen Cert.Ffn

variable (m : (ℓ : Loc nD τ sig) → Buf (Elt Ideal) ℓ) (ρ : Dev nD → PrngReg) (c : Dev nD)

/-- The kernel's arguments. -/
def launched : Cert.Ffn.Arrays where
  h := m ((c : Thread nD τ).loc main_arg0)
  o := m ((c : Thread nD τ).loc main_arg1)
  wOut := m ((c : Thread nD τ).loc main_arg2)
  gPost := m ((c : Thread nD τ).loc main_arg3)
  fPre := m ((c : Thread nD τ).loc main_arg4)
  fPost := m ((c : Thread nD τ).loc main_arg5)
  wIn := m ((c : Thread nD τ).loc main_arg6)
  wDown := m ((c : Thread nD τ).loc main_arg7)

theorem stream_at (r : Fin 16384) (j : Fin 1024) :
    (V m c main_v2 : Vec Ideal S16384x1024 .f32) (ix2 r j) = (launched m c).h (ix3 (elemOf r) (posOf r) j) := by
  unfold V
  simp only [hostOps0]
  after_reads_at
  rfl

theorem heads_at (r : Fin 16384) (j : Fin 1024) :
    (V m c main_v3 : Vec Ideal S16384x1024 .bf16) (ix2 r j) = (launched m c).o (ix3 (elemOf r) (posOf r) j) := by
  unfold V
  simp only [hostOps0]
  after_reads_at
  rfl

theorem out_weight : (V m c main_v4 : Vec Ideal S1024x1024 .bf16) = (launched m c).wOut := by
  funext i
  unfold V
  simp only [hostOps0]
  after_reads_at
  rfl

theorem in_weight : (V m c main_v0 : Vec Ideal S1024x5632 .bf16) = (launched m c).wIn := by
  funext i
  unfold V
  simp only [hostOps0]
  after_reads_at
  rfl

theorem down_weight : (V m c main_v1 : Vec Ideal S2816x1024 .bf16) = (launched m c).wDown := by
  funext i
  unfold V
  simp only [hostOps0]
  after_reads_at
  rfl

theorem post_weight (j : Fin 1024) : (V m c main_v5 : Vec Ideal S1x1024 .f32) (ix2 0 j) = (launched m c).gPost (ix1 j) := by
  unfold V
  simp only [hostOps0]
  after_reads_at
  rfl

theorem pre_weight (j : Fin 1024) : (V m c main_v6 : Vec Ideal S1x1024 .f32) (ix2 0 j) = (launched m c).fPre (ix1 j) := by
  unfold V
  simp only [hostOps0]
  after_reads_at
  rfl

theorem end_weight (j : Fin 1024) : (V m c main_v7 : Vec Ideal S1x1024 .f32) (ix2 0 j) = (launched m c).fPost (ix1 j) := by
  unfold V
  simp only [hostOps0]
  after_reads_at
  rfl

/-- The block of rows of a grid point. -/
abbrev rowsOf (i : grid0.Coords) : Fin 32 := i 0

/-- A row of a block among all rows. -/
def rowAt (t : Fin cfg0.N) (r : Fin 512) : Fin 16384 := ⟨(rowsOf (grid0.coords t) : ℕ) * 512 + r, by have := (rowsOf (grid0.coords t)).isLt; omega⟩

theorem place0 : ∀ t : Fin cfg0.N, win0_0.index t = ![(rowsOf (grid0.coords t) : ℕ), 0] := (by decide +kernel : ∀ t : Fin grid0.N, _)
theorem place1 : ∀ t : Fin cfg0.N, win0_1.index t = ![(rowsOf (grid0.coords t) : ℕ), 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![0, 0] := (by decide +kernel : ∀ t : Fin grid0.N, _)
theorem place6 : ∀ t : Fin cfg0.N, win0_6.index t = ![0, 0] := (by decide +kernel : ∀ t : Fin grid0.N, _)
theorem place7 : ∀ t : Fin cfg0.N, win0_7.index t = ![0, 0] := (by decide +kernel : ∀ t : Fin grid0.N, _)
theorem place8 : ∀ t : Fin cfg0.N, win0_8.index t = ![(rowsOf (grid0.coords t) : ℕ), 0] := (by decide +kernel : ∀ t : Fin grid0.N, _)

theorem block0 (t : Fin cfg0.N) (r : Fin 512) (j : Fin 1024) :
    (iblk m c 0 t : Vec Ideal S512x1024 .f32) (ix2 r j) = (launched m c).h (ix3 (elemOf (rowAt t r)) (posOf (rowAt t r)) j) := by
  rw [← stream_at]
  unfold iblk rowAt
  show _ = V m c (Pipeline.arrRef spec0 0) (ix2 _ j)
  generalize V m c (Pipeline.arrRef spec0 0) = X
  blk_ext [place0 t]

theorem block1 (t : Fin cfg0.N) (r : Fin 512) (j : Fin 1024) :
    (iblk m c 1 t : Vec Ideal S512x1024 .bf16) (ix2 r j) = (launched m c).o (ix3 (elemOf (rowAt t r)) (posOf (rowAt t r)) j) := by
  rw [← heads_at]
  unfold iblk rowAt
  show _ = V m c (Pipeline.arrRef spec0 1) (ix2 _ j)
  generalize V m c (Pipeline.arrRef spec0 1) = X
  blk_ext [place1 t]

theorem block2 (t : Fin cfg0.N) : (iblk m c 2 t : Vec Ideal S1024x1024 .bf16) = (launched m c).wOut := by
  rw [← out_weight]
  funext i
  idx_vars i
  unfold iblk
  show _ = V m c (Pipeline.arrRef spec0 2) (ix2 i0 i1)
  generalize V m c (Pipeline.arrRef spec0 2) = X
  blk_ext [place2 t]

theorem block3 (t : Fin cfg0.N) (j : Fin 1024) : (iblk m c 3 t : Vec Ideal S1x1024 .f32) (ix2 0 j) = (launched m c).gPost (ix1 j) := by
  rw [← post_weight]
  unfold iblk
  show _ = V m c (Pipeline.arrRef spec0 3) (ix2 0 j)
  generalize V m c (Pipeline.arrRef spec0 3) = X
  blk_ext [place3 t]

theorem block4 (t : Fin cfg0.N) (j : Fin 1024) : (iblk m c 4 t : Vec Ideal S1x1024 .f32) (ix2 0 j) = (launched m c).fPre (ix1 j) := by
  rw [← pre_weight]
  unfold iblk
  show _ = V m c (Pipeline.arrRef spec0 4) (ix2 0 j)
  generalize V m c (Pipeline.arrRef spec0 4) = X
  blk_ext [place4 t]

theorem block5 (t : Fin cfg0.N) (j : Fin 1024) : (iblk m c 5 t : Vec Ideal S1x1024 .f32) (ix2 0 j) = (launched m c).fPost (ix1 j) := by
  rw [← end_weight]
  unfold iblk
  show _ = V m c (Pipeline.arrRef spec0 5) (ix2 0 j)
  generalize V m c (Pipeline.arrRef spec0 5) = X
  blk_ext [place5 t]

theorem block6 (t : Fin cfg0.N) : (iblk m c 6 t : Vec Ideal S1024x5632 .bf16) = (launched m c).wIn := by
  rw [← in_weight]
  funext i
  idx_vars i
  unfold iblk
  show _ = V m c (Pipeline.arrRef spec0 6) (ix2 i0 i1)
  generalize V m c (Pipeline.arrRef spec0 6) = X
  blk_ext [place6 t]

theorem block7 (t : Fin cfg0.N) : (iblk m c 7 t : Vec Ideal S2816x1024 .bf16) = (launched m c).wDown := by
  rw [← down_weight]
  funext i
  idx_vars i
  unfold iblk
  show _ = V m c (Pipeline.arrRef spec0 7) (ix2 i0 i1)
  generalize V m c (Pipeline.arrRef spec0 7) = X
  blk_ext [place7 t]

theorem place_out (t : Fin cfg0.N) (r : Fin 512) (j : Fin 1024) :
    ((cfg0.win 8).blk t).view.emb (ix2 r j : S512x1024.Idx) = (ix2 (rowAt t r) j : S16384x1024.Idx) := by
  unfold rowAt
  blk_ext [place8 t]

/-- What a grid point leaves in its block is the result's rows there. -/
theorem rows_eq (t : Fin cfg0.N) (r : Fin 512) (j : Fin 1024) :
    out0_8 (iblk m c 0 t) (iblk m c 1 t) (iblk m c 2 t) (iblk m c 3 t) (iblk m c 4 t) (iblk m c 5 t) (iblk m c 6 t) (iblk m c 7 t) (ix2 r j)
      = (launched m c).result (ix2 (rowAt t r) j) := by
  refine (block_at _ _ _ _ _ _ _ _ r j).trans ?_
  rw [block2, block6, block7]
  simp only [block0, block1, block3, block4, block5]
  rfl

/-- The result array after the run. -/
theorem final : (dats m 0 c).arrAt 8 cfg0.N = (launched m c).result := by
  refine (dats m 0 c).arrAt_eq_of_covers 8 _ (by decide +kernel) fun t hf y => ?_
  blk_simp
  rw [after0_8]
  idx_vars y
  refine (rows_eq m c t y0 y1).trans ?_
  exact congrArg (launched m c).result (place_out t y0 y1).symm

/-- The run: the result array holds the rows' result and the arguments are unchanged. -/
theorem run_result : θ_run defs (onTc (τ := τ) (main (F := Ideal))) ⟨m, fun _ => 0, ρ⟩ fun r => ∀ c : Dev nD,
      r.2.mem ((c : Thread nD τ).loc main_v8) = (launched m c).result
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)

end Cert.PostIdeal.Value
-- ==== Proof.PostRef.lean ====
module

public import proofs.«01_k».proof.Proof.Gen.PostReferenceIdeal.Run
public import proofs.«01_k».proof.Proof.PostSpec
public import Idealize.ShloMosaic.Lib.Pointwise

@[expose] public section

set_option maxRecDepth 16384

noncomputable section

namespace Cert.PostReferenceIdeal.Value
open Idealize.ShloMosaic Idealize.ShloMosaic.Pointwise
open Cert.PostReferenceIdeal Cert.PostReferenceIdeal.Gen

/-- The root mean square norm over the last axis. -/
def norm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf x x) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The gate times its logistic function, times the other half. -/
def swish (p : FVec Ideal S2x8192x5632 .f32) : FVec Ideal S2x8192x2816 .f32 :=
  mulf (mulf (extractStridedSlice S2x8192x2816 ![0, 0, 0] p slices_S2x8192x5632_S2x8192x2816_0_0_0)
    (Host.divf (broadcastInDim S2x8192x2816 ![] bcast_S_S2x8192x2816 (constant S_ .f32 0x3F800000#32))
      (addf (broadcastInDim S2x8192x2816 ![] bcast_S_S2x8192x2816 (constant S_ .f32 0x3F800000#32))
        (Host.exp (Host.negf (extractStridedSlice S2x8192x2816 ![0, 0, 0] p slices_S2x8192x5632_S2x8192x2816_0_0_0))))))
    (extractStridedSlice S2x8192x2816 ![0, 0, 2816] p slices_S2x8192x5632_S2x8192x2816_0_0_2816)

/-- The stream after the attention. -/
def mid (h : FVec Ideal S2x8192x1024 .f32) (o : FVec Ideal S2x8192x1024 .bf16) (w : FVec Ideal S1024x1024 .f32) (g : FVec Ideal S1024 .f32) :
    FVec Ideal S2x8192x1024 .f32 :=
  addf h (norm (Host.dotGeneral dot_S2x8192x1024_S1024x1024_S2x8192x1024_2_0_01_1_n_n none (extf .f32 o bitsLt_bf16_f32) w) g)

/-- The stream after the feed-forward part. -/
def last (h : FVec Ideal S2x8192x1024 .f32) (f g : FVec Ideal S1024 .f32) (w : FVec Ideal S1024x5632 .f32) (d : FVec Ideal S2816x1024 .f32) :
    FVec Ideal S2x8192x1024 .f32 :=
  addf h (norm (Host.dotGeneral dot_S2x8192x2816_S2816x1024_S2x8192x1024_2_0_01_1_n_n none
    (swish (Host.dotGeneral dot_S2x8192x1024_S1024x5632_S2x8192x5632_2_0_01_1_n_n none (norm h f) w)) d) g)

open Idealize.ShloMosaic.StableHlo in
theorem parts (m : (ℓ : Loc nD τ sig) → Buf (Elt Ideal) ℓ) (c : Dev nD) :
    res_main_v49 m c = shapeCast S16384x1024 (last (mid (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4))
      (m ((c.tc : Thread nD τ).loc main_arg5)) (m ((c.tc : Thread nD τ).loc main_arg6)) (m ((c.tc : Thread nD τ).loc main_arg7)))
      shapeCasts_S2x8192x1024_S16384x1024 := rfl

theorem norm_at (x : FVec Ideal S2x8192x1024 .f32) (g : FVec Ideal S1024 .f32) (b : Fin 2) (q : Fin 8192) (j : Fin 1024) :
    norm x g (ix3 b q j) = Cert.Ffn.norm (fun j => x (ix3 b q j)) (fun j => g (ix1 j)) j := by
  unfold norm
  pointwise
  rfl

theorem swish_at (p : FVec Ideal S2x8192x5632 .f32) (b : Fin 2) (q : Fin 8192) (j : Fin 2816) :
    swish p (ix3 b q j) = Cert.Ffn.swish (fun j => p (ix3 b q j)) j := by
  unfold swish
  pointwise
  rfl

theorem prod_out (x : FVec Ideal S2x8192x1024 .f32) (w : FVec Ideal S1024x1024 .f32) (b : Fin 2) (q : Fin 8192) (j : Fin 1024) :
    Host.dotGeneral dot_S2x8192x1024_S1024x1024_S2x8192x1024_2_0_01_1_n_n none x w (ix3 b q j)
      = Cert.Ffn.prod (fun j => x (ix3 b q j)) w j := by
  pointwise
  rfl

theorem prod_in (x : FVec Ideal S2x8192x1024 .f32) (w : FVec Ideal S1024x5632 .f32) (b : Fin 2) (q : Fin 8192) (j : Fin 5632) :
    Host.dotGeneral dot_S2x8192x1024_S1024x5632_S2x8192x5632_2_0_01_1_n_n none x w (ix3 b q j)
      = Cert.Ffn.prod (fun j => x (ix3 b q j)) w j := by
  pointwise
  rfl

theorem prod_down (x : FVec Ideal S2x8192x2816 .f32) (w : FVec Ideal S2816x1024 .f32) (b : Fin 2) (q : Fin 8192) (j : Fin 1024) :
    Host.dotGeneral dot_S2x8192x2816_S2816x1024_S2x8192x1024_2_0_01_1_n_n none x w (ix3 b q j)
      = Cert.Ffn.prod (fun j => x (ix3 b q j)) w j := by
  pointwise
  rfl

theorem mid_at (h : FVec Ideal S2x8192x1024 .f32) (o : FVec Ideal S2x8192x1024 .bf16) (w : FVec Ideal S1024x1024 .f32) (g : FVec Ideal S1024 .f32)
    (b : Fin 2) (q : Fin 8192) (j : Fin 1024) :
    mid h o w g (ix3 b q j) = Cert.Ffn.mid (fun j => h (ix3 b q j)) (fun j => o (ix3 b q j)) w (fun j => g (ix1 j)) j := by
  unfold mid Cert.Ffn.mid
  refine congrArg (h (ix3 b q j) + ·) ((norm_at _ g b q j).trans ?_)
  simp only [prod_out]
  rfl

theorem last_at (h : FVec Ideal S2x8192x1024 .f32) (f g : FVec Ideal S1024 .f32) (w : FVec Ideal S1024x5632 .f32) (d : FVec Ideal S2816x1024 .f32)
    (b : Fin 2) (q : Fin 8192) (j : Fin 1024) :
    last h f g w d (ix3 b q j) = Cert.Ffn.last (fun j => h (ix3 b q j)) (fun j => f (ix1 j)) (fun j => g (ix1 j)) w d j := by
  unfold last Cert.Ffn.last
  refine congrArg (h (ix3 b q j) + ·) ((norm_at _ g b q j).trans ?_)
  simp only [prod_down, swish_at, prod_in, norm_at]

/-- The reference's arguments. -/
def launched (m : (ℓ : Loc nD τ sig) → Buf (Elt Ideal) ℓ) (c : Dev nD) : Cert.Ffn.Arrays where
  h := m ((c.tc : Thread nD τ).loc main_arg0)
  o := m ((c.tc : Thread nD τ).loc main_arg1)
  wOut := m ((c.tc : Thread nD τ).loc main_arg2)
  gPost := m ((c.tc : Thread nD τ).loc main_arg3)
  fPre := m ((c.tc : Thread nD τ).loc main_arg4)
  fPost := m ((c.tc : Thread nD τ).loc main_arg5)
  wIn := m ((c.tc : Thread nD τ).loc main_arg6)
  wDown := m ((c.tc : Thread nD τ).loc main_arg7)

/-- The reference's result is the rows' result. -/
theorem result_eq (m : (ℓ : Loc nD τ sig) → Buf (Elt Ideal) ℓ) (c : Dev nD) : res_main_v49 m c = (launched m c).result := by
  rw [parts]
  funext i
  idx_vars i
  generalize hX : last _ _ _ _ _ = X
  pointwise
  subst hX
  refine (last_at _ _ _ _ _ _ _ _).trans ?_
  simp only [mid_at]
  rfl

end Cert.PostReferenceIdeal.Value
-- ==== Proof.StepSpec.lean ====
module

public import proofs.«01_k».proof.Proof.PostSpec
public import Idealize.ShloMosaic.Lib.Pointwise

/-! The end of a layer over the decode step: the attention's output comes with each head's 64 values in a row of 256, the
output weights are spread to the same rows with zeros between, and the product is that of the 64 values by the plain weights. -/

@[expose] public section

noncomputable section

namespace Cert.Ffn
open Idealize.ShloMosaic Idealize.ShloMosaic.Pointwise

/-- Where a column of the attention's output lies among the 4096. -/
def laneOf (k : Fin 1024) : Fin 4096 := ⟨(k : ℕ) / 64 * 256 + ((k : ℕ) / 512 + 2) * 64 + (k : ℕ) % 64, by omega⟩

/-- The column of the plain weights for one of the 4096. -/
def plainOf (i : Fin 4096) : Fin 1024 := ⟨(i : ℕ) / 256 * 64 + (i : ℕ) % 64, by omega⟩

/-- The weights spread to 4096 rows. -/
def spreadW (w : (⟨2, ![1024, 1024]⟩ : Shape).Idx → EReal) (i : Fin 4096) (j : Fin 1024) : EReal :=
  if (i : ℕ) / 64 % 4 = (i : ℕ) / 256 / 8 + 2 then w (ix2 (plainOf i) j) else 0

/-- The spread weights as an array. -/
def spreadArr (w : (⟨2, ![1024, 1024]⟩ : Shape).Idx → EReal) : (⟨2, ![4096, 1024]⟩ : Shape).Idx → EReal := fun i => spreadW w (i 0) (i 1)

theorem laneOf_injective : Function.Injective laneOf := fun a b h => by
  have h := congrArg (fun x : Fin 4096 => (x : ℕ)) h
  simp only [laneOf] at h
  exact Fin.ext (by omega)

theorem plainOf_laneOf (k : Fin 1024) : plainOf (laneOf k) = k := Fin.ext (by simp only [plainOf, laneOf]; omega)

theorem slot_laneOf : ∀ k : Fin 1024, ((laneOf k : Fin 4096) : ℕ) / 64 % 4 = ((laneOf k : Fin 4096) : ℕ) / 256 / 8 + 2 := by decide +kernel

theorem laneOf_plainOf : ∀ i : Fin 4096, (i : ℕ) / 64 % 4 = (i : ℕ) / 256 / 8 + 2 → laneOf (plainOf i) = i := by decide +kernel

/-- The product with the spread weights is the product of the heads' own values with the plain ones. -/
theorem prod_spread (o : Fin 4096 → EReal) (w : (⟨2, ![1024, 1024]⟩ : Shape).Idx → EReal) (j : Fin 1024) :
    ∑ i, o i * spreadW w i j = prod (fun k => o (laneOf k)) w j := by
  unfold prod
  symm
  refine Finset.sum_of_injOn laneOf (laneOf_injective.injOn) (fun _ _ => Finset.mem_coe.2 (Finset.mem_univ _)) (fun i _ hi => ?_) fun k _ => ?_
  · have hn : ¬ (i : ℕ) / 64 % 4 = (i : ℕ) / 256 / 8 + 2 := fun h => hi ⟨plainOf i, Finset.mem_coe.2 (Finset.mem_univ _), laneOf_plainOf i h⟩
    unfold spreadW
    rw [if_neg hn, mul_zero]
  · unfold spreadW
    rw [if_pos (slot_laneOf k), plainOf_laneOf]

/-- The eight arguments of the decode step. -/
structure StepArrays where
  h : (⟨2, ![128, 1024]⟩ : Shape).Idx → EReal
  o : (⟨2, ![128, 4096]⟩ : Shape).Idx → EReal
  wOut : (⟨2, ![1024, 1024]⟩ : Shape).Idx → EReal
  gPost : (⟨1, ![1024]⟩ : Shape).Idx → EReal
  fPre : (⟨1, ![1024]⟩ : Shape).Idx → EReal
  fPost : (⟨1, ![1024]⟩ : Shape).Idx → EReal
  wIn : (⟨2, ![1024, 5632]⟩ : Shape).Idx → EReal
  wDown : (⟨2, ![2816, 1024]⟩ : Shape).Idx → EReal

namespace StepArrays
variable (A : StepArrays)

/-- A row of the result. -/
def row (r : Fin 128) : Fin 1024 → EReal :=
  last (mid (fun j => A.h (ix2 r j)) (fun k => A.o (ix2 r (laneOf k))) A.wOut fun j => A.gPost (ix1 j))
    (fun j => A.fPre (ix1 j)) (fun j => A.fPost (ix1 j)) A.wIn A.wDown

/-- The result. -/
def result (i : (⟨2, ![128, 1024]⟩ : Shape).Idx) : EReal := A.row (i 0) (i 1)

end StepArrays

end Cert.Ffn
-- ==== Proof.StepBody.lean ====
module

public import proofs.«01_k».proof.Proof.Gen.StepIdeal.Value
public import proofs.«01_k».proof.Proof.StepSpec
public import Idealize.ShloMosaic.Lib.Pointwise

@[expose] public section

set_option maxRecDepth 16384

noncomputable section

namespace Cert.StepIdeal.Value
open Idealize.ShloMosaic Idealize.ShloMosaic.Pointwise
open Cert.StepIdeal Cert.StepIdeal.Gen

/-- The stream after the attention, with weights of any 4096 rows. -/
def mid (h : Fin 1024 → EReal) (o : Fin 4096 → EReal) (w : (⟨2, ![4096, 1024]⟩ : Shape).Idx → EReal) (g : Fin 1024 → EReal) (j : Fin 1024) : EReal :=
  h j + Cert.Ffn.norm (fun j => ∑ i, o i * w (ix2 i j)) g j

theorem mid_at (v0 : Vec Ideal S128x4096 .f32) (v2 : Vec Ideal S4096x1024 .bf16) (v5 : Vec Ideal S128x1024 .f32) (v6 : Vec Ideal S1x1024 .f32)
    (r : Fin 128) (j : Fin 1024) :
    k0_pay2 v0 v2 v5 v6 (ix2 r j) = mid (fun j => v5 (ix2 r j)) (fun j => v0 (ix2 r j)) v2 (fun j => v6 (ix2 0 j)) j := by
  unfold k0_pay2
  pointwise
  rfl

theorem wide_at (v0 : Vec Ideal S128x4096 .f32) (v2 : Vec Ideal S4096x1024 .bf16) (v5 : Vec Ideal S128x1024 .f32) (v6 v21 : Vec Ideal S1x1024 .f32)
    (v36 : Vec Ideal S1024x5632 .bf16) (r : Fin 128) (j : Fin 5632) :
    k0_pay3 v0 v2 v5 v6 v21 v36 (ix2 r j)
      = Cert.Ffn.prod (Cert.Ffn.norm (fun j => k0_pay2 v0 v2 v5 v6 (ix2 r j)) (fun j => v21 (ix2 0 j))) v36 j := by
  unfold k0_pay3
  pointwise
  rfl

theorem out_at (v20 : FVec Ideal S128x1024 .f32) (v38 : FVec Ideal S128x5632 .f32) (v45 : Vec Ideal S2816x1024 .bf16) (v48 : Vec Ideal S1x1024 .f32)
    (r : Fin 128) (j : Fin 1024) :
    k0_pay1 v20 v38 v45 v48 (ix2 r j)
      = v20 (ix2 r j) + Cert.Ffn.norm (Cert.Ffn.prod (Cert.Ffn.swish (fun j => v38 (ix2 r j))) v45) (fun j => v48 (ix2 0 j)) j := by
  unfold k0_pay1
  pointwise
  rfl

/-- What the body leaves in the block of the result, row by row. -/
theorem block_at (x0 : Vec Ideal S128x1024 .f32) (x1 : Vec Ideal S128x4096 .f32) (x2 : Vec Ideal S4096x1024 .bf16) (x3 x4 x5 : Vec Ideal S1x1024 .f32)
    (x6 : Vec Ideal S1024x5632 .bf16) (x7 : Vec Ideal S2816x1024 .bf16) (r : Fin 128) (j : Fin 1024) :
    out0_8 x0 x1 x2 x3 x4 x5 x6 x7 (ix2 r j)
      = Cert.Ffn.last (mid (fun j => x0 (ix2 r j)) (fun j => x1 (ix2 r j)) x2 (fun j => x3 (ix2 0 j)))
          (fun j => x4 (ix2 0 j)) (fun j => x5 (ix2 0 j)) x6 x7 j := by
  unfold out0_8
  have z : (![0, 0] : Fin 2 → ℕ) = fun _ => 0 := by funext a; match a with | ⟨0, _⟩ => rfl | ⟨1, _⟩ => rfl
  rw [View.canon_unit_zero z, View.ld_unit_zero z _ x1, View.ld_unit_zero z _ x2, View.ld_unit_zero z _ x0, View.ld_unit_zero z _ x3,
    View.ld_unit_zero z _ x4, View.ld_unit_zero z _ x6, View.ld_unit_zero z _ x7, View.ld_unit_zero z _ x5, out_at]
  simp only [wide_at, mid_at]
  rfl

end Cert.StepIdeal.Value
-- ==== Proof.StepBlocks.lean ====
module

public import proofs.«01_k».proof.Proof.StepBody
public import Idealize.ShloMosaic.Lib.Claim
public import Idealize.ShloMosaic.Lib.StableHlo.ReadAt
public import Idealize.ShloMosaic.Lib.Pipeline.ValueKit

@[expose] public section

set_option maxRecDepth 16384

noncomputable section

namespace Cert.StepIdeal.Value
open Idealize.ShloMosaic Idealize.ShloMosaic.Pointwise Idealize.ShloMosaic.TcCoe Idealize.SL.Sem
open Idealize.ShloMosaic.Pipeline (Dat)
open Cert.StepIdeal Cert.StepIdeal.Gen Cert.Ffn

variable (m : (ℓ : Loc nD τ sig) → Buf (Elt Ideal) ℓ) (ρ : Dev nD → PrngReg) (c : Dev nD)

/-- The kernel's arguments. -/
def launched : Cert.Ffn.StepArrays where
  h := m ((c : Thread nD τ).loc main_arg0)
  o := m ((c : Thread nD τ).loc main_arg1)
  wOut := m ((c : Thread nD τ).loc main_arg2)
  gPost := m ((c : Thread nD τ).loc main_arg3)
  fPre := m ((c : Thread nD τ).loc main_arg4)
  fPost := m ((c : Thread nD τ).loc main_arg5)
  wIn := m ((c : Thread nD τ).loc main_arg6)
  wDown := m ((c : Thread nD τ).loc main_arg7)

theorem stream : (V m c main_arg0 : Vec Ideal S128x1024 .f32) = (launched m c).h := V_main_arg0 m c

theorem heads : (V m c main_arg1 : Vec Ideal S128x4096 .f32) = (launched m c).o := V_main_arg1 m c

/-- The sign of a word. -/
def signWord (x : BitVec 32) : BitVec 32 := if x = 0 then 0 else if x.msb = true then -1 else 1

/-- The floor of a quotient of words, as the host computes it. -/
def floorWord (x d : BitVec 32) : BitVec 32 :=
  Scalar.select (IntOp.andi (IntOp.cmpi .ne (signWord x) (signWord d)) (IntOp.cmpi .ne (IntOp.remsi .host x d) 0#32))
    (IntOp.subi (IntOp.divsi .host x d) 1#32) (IntOp.divsi .host x d)

theorem own_slot : ∀ (h : Fin 16) (s : Fin 4), IntOp.cmpi .eq (BitVec.ofNat 32 (s : ℕ)) (IntOp.addi (floorWord (BitVec.ofNat 32 (h : ℕ)) 8#32) 2#32)
    = if (s : ℕ) = (h : ℕ) / 8 + 2 then 1#1 else 0#1 := by decide +kernel

set_option maxHeartbeats 1000000 in
theorem out_weight_at (i : Fin 4096) (j : Fin 1024) : (V m c main_v16 : Vec Ideal S4096x1024 .bf16) (ix2 i j) = spreadW (launched m c).wOut i j := by
  unfold V
  simp only [hostOps0, hostOps0_1, hostOps0_2, hostOps0_3, hostOps0_4, List.flatten_cons, List.flatten_nil, List.cons_append, List.nil_append, List.append_nil]
  after_reads_at
  have hw := own_slot ⟨(i : ℕ) / 256, by omega⟩ ⟨(i : ℕ) / 64 % 4, by omega⟩
  refine (congrArg (fun b => Scalar.select b ((launched m c).wOut (ix2 (plainOf i) j)) (Ideal.ofBits FTy.f32 0#32)) hw).trans ?_
  unfold spreadW
  by_cases h : (i : ℕ) / 64 % 4 = (i : ℕ) / 256 / 8 + 2
  · rw [if_pos h, if_pos h]
    rfl
  · rw [if_neg h, if_neg h]
    show Ideal.ofBits FTy.f32 0#32 = 0
    simp [Ideal.ofBits, Ideal.ieee]

theorem out_weight : (V m c main_v16 : Vec Ideal S4096x1024 .bf16) = spreadArr (launched m c).wOut := by
  funext i
  idx_vars i
  exact out_weight_at m c i0 i1

theorem in_weight : (V m c main_v0 : Vec Ideal S1024x5632 .bf16) = (launched m c).wIn := by
  funext i
  unfold V
  simp only [hostOps0, hostOps0_1, hostOps0_2, hostOps0_3, hostOps0_4, List.flatten_cons, List.flatten_nil, List.cons_append, List.nil_append, List.append_nil]
  after_reads_at
  rfl

theorem down_weight : (V m c main_v1 : Vec Ideal S2816x1024 .bf16) = (launched m c).wDown := by
  funext i
  unfold V
  simp only [hostOps0, hostOps0_1, hostOps0_2, hostOps0_3, hostOps0_4, List.flatten_cons, List.flatten_nil, List.cons_append, List.nil_append, List.append_nil]
  after_reads_at
  rfl

theorem post_weight (j : Fin 1024) : (V m c main_v17 : Vec Ideal S1x1024 .f32) (ix2 0 j) = (launched m c).gPost (ix1 j) := by
  unfold V
  simp only [hostOps0, hostOps0_1, hostOps0_2, hostOps0_3, hostOps0_4, List.flatten_cons, List.flatten_nil, List.cons_append, List.nil_append, List.append_nil]
  after_reads_at
  rfl

theorem pre_weight (j : Fin 1024) : (V m c main_v18 : Vec Ideal S1x1024 .f32) (ix2 0 j) = (launched m c).fPre (ix1 j) := by
  unfold V
  simp only [hostOps0, hostOps0_1, hostOps0_2, hostOps0_3, hostOps0_4, List.flatten_cons, List.flatten_nil, List.cons_append, List.nil_append, List.append_nil]
  after_reads_at
  rfl

theorem end_weight (j : Fin 1024) : (V m c main_v19 : Vec Ideal S1x1024 .f32) (ix2 0 j) = (launched m c).fPost (ix1 j) := by
  unfold V
  simp only [hostOps0, hostOps0_1, hostOps0_2, hostOps0_3, hostOps0_4, List.flatten_cons, List.flatten_nil, List.cons_append, List.nil_append, List.append_nil]
  after_reads_at
  rfl

theorem place0 : ∀ t : Fin cfg0.N, win0_0.index t = ![0, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![0, 0] := (by decide +kernel : ∀ t : Fin grid0.N, _)
theorem place6 : ∀ t : Fin cfg0.N, win0_6.index t = ![0, 0] := (by decide +kernel : ∀ t : Fin grid0.N, _)
theorem place7 : ∀ t : Fin cfg0.N, win0_7.index t = ![0, 0] := (by decide +kernel : ∀ t : Fin grid0.N, _)
theorem place8 : ∀ t : Fin cfg0.N, win0_8.index t = ![0, 0] := (by decide +kernel : ∀ t : Fin grid0.N, _)

theorem block0 (t : Fin cfg0.N) : (iblk m c 0 t : Vec Ideal S128x1024 .f32) = (launched m c).h := by
  rw [← stream]
  funext i
  idx_vars i
  unfold iblk
  show _ = V m c (Pipeline.arrRef spec0 0) (ix2 i0 i1)
  generalize V m c (Pipeline.arrRef spec0 0) = X
  blk_ext [place0 t]

theorem block1 (t : Fin cfg0.N) : (iblk m c 1 t : Vec Ideal S128x4096 .f32) = (launched m c).o := by
  rw [← heads]
  funext i
  idx_vars i
  unfold iblk
  show _ = V m c (Pipeline.arrRef spec0 1) (ix2 i0 i1)
  generalize V m c (Pipeline.arrRef spec0 1) = X
  blk_ext [place1 t]

theorem block2 (t : Fin cfg0.N) : (iblk m c 2 t : Vec Ideal S4096x1024 .bf16) = spreadArr (launched m c).wOut := by
  rw [← out_weight]
  funext i
  idx_vars i
  unfold iblk
  show _ = V m c (Pipeline.arrRef spec0 2) (ix2 i0 i1)
  generalize V m c (Pipeline.arrRef spec0 2) = X
  blk_ext [place2 t]

theorem block3 (t : Fin cfg0.N) (j : Fin 1024) : (iblk m c 3 t : Vec Ideal S1x1024 .f32) (ix2 0 j) = (launched m c).gPost (ix1 j) := by
  rw [← post_weight]
  unfold iblk
  show _ = V m c (Pipeline.arrRef spec0 3) (ix2 0 j)
  generalize V m c (Pipeline.arrRef spec0 3) = X
  blk_ext [place3 t]

theorem block4 (t : Fin cfg0.N) (j : Fin 1024) : (iblk m c 4 t : Vec Ideal S1x1024 .f32) (ix2 0 j) = (launched m c).fPre (ix1 j) := by
  rw [← pre_weight]
  unfold iblk
  show _ = V m c (Pipeline.arrRef spec0 4) (ix2 0 j)
  generalize V m c (Pipeline.arrRef spec0 4) = X
  blk_ext [place4 t]

theorem block5 (t : Fin cfg0.N) (j : Fin 1024) : (iblk m c 5 t : Vec Ideal S1x1024 .f32) (ix2 0 j) = (launched m c).fPost (ix1 j) := by
  rw [← end_weight]
  unfold iblk
  show _ = V m c (Pipeline.arrRef spec0 5) (ix2 0 j)
  generalize V m c (Pipeline.arrRef spec0 5) = X
  blk_ext [place5 t]

theorem block6 (t : Fin cfg0.N) : (iblk m c 6 t : Vec Ideal S1024x5632 .bf16) = (launched m c).wIn := by
  rw [← in_weight]
  funext i
  idx_vars i
  unfold iblk
  show _ = V m c (Pipeline.arrRef spec0 6) (ix2 i0 i1)
  generalize V m c (Pipeline.arrRef spec0 6) = X
  blk_ext [place6 t]

theorem block7 (t : Fin cfg0.N) : (iblk m c 7 t : Vec Ideal S2816x1024 .bf16) = (launched m c).wDown := by
  rw [← down_weight]
  funext i
  idx_vars i
  unfold iblk
  show _ = V m c (Pipeline.arrRef spec0 7) (ix2 i0 i1)
  generalize V m c (Pipeline.arrRef spec0 7) = X
  blk_ext [place7 t]

theorem place_out (t : Fin cfg0.N) (r : Fin 128) (j : Fin 1024) :
    ((cfg0.win 8).blk t).view.emb (ix2 r j : S128x1024.Idx) = (ix2 r j : S128x1024.Idx) := by
  blk_ext [place8 t]

/-- What a grid point leaves in its block is the result's rows there. -/
theorem rows_eq (t : Fin cfg0.N) (r : Fin 128) (j : Fin 1024) :
    out0_8 (iblk m c 0 t) (iblk m c 1 t) (iblk m c 2 t) (iblk m c 3 t) (iblk m c 4 t) (iblk m c 5 t) (iblk m c 6 t) (iblk m c 7 t) (ix2 r j)
      = (launched m c).result (ix2 r j) := by
  refine (block_at _ _ _ _ _ _ _ _ r j).trans ?_
  rw [block0, block1, block2, block6, block7]
  simp only [block3, block4, block5]
  have e : mid (fun j => (launched m c).h (ix2 r j)) (fun j => (launched m c).o (ix2 r j)) (spreadArr (launched m c).wOut)
      (fun j => (launched m c).gPost (ix1 j)) = Cert.Ffn.mid (fun j => (launched m c).h (ix2 r j))
        (fun k => (launched m c).o (ix2 r (laneOf k))) (launched m c).wOut (fun j => (launched m c).gPost (ix1 j)) := by
    funext j
    unfold mid Cert.Ffn.mid
    refine congrArg (fun x => _ + norm x _ j) (funext fun k => ?_)
    exact prod_spread _ _ k
  refine (congrArg (fun f => last f _ _ _ _ j) e).trans ?_
  rfl

/-- The result array after the run. -/
theorem final : (dats m 0 c).arrAt 8 cfg0.N = (launched m c).result := by
  refine (dats m 0 c).arrAt_eq_of_covers 8 _ (by decide +kernel) fun t hf y => ?_
  blk_simp
  rw [after0_8]
  idx_vars y
  refine (rows_eq m c t y0 y1).trans ?_
  exact congrArg (launched m c).result (place_out t y0 y1).symm

/-- The run: the result array holds the rows' result and the arguments are unchanged. -/
theorem run_result : θ_run defs (onTc (τ := τ) (main (F := Ideal))) ⟨m, fun _ => 0, ρ⟩ fun r => ∀ c : Dev nD,
      r.2.mem ((c : Thread nD τ).loc main_v20) = (launched m c).result
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)

end Cert.StepIdeal.Value
-- ==== Proof.StepRef.lean ====
module

public import proofs.«01_k».proof.Proof.Gen.StepReferenceIdeal.Run
public import proofs.«01_k».proof.Proof.StepSpec
public import Idealize.ShloMosaic.Lib.Pointwise

@[expose] public section

set_option maxRecDepth 16384

noncomputable section

namespace Cert.StepReferenceIdeal.Value
open Idealize.ShloMosaic Idealize.ShloMosaic.Pointwise
open Cert.StepReferenceIdeal Cert.StepReferenceIdeal.Gen

/-- The root mean square norm over the last axis. -/
def norm (x : FVec Ideal S128x1024 .f32) (g : FVec Ideal S1024 .f32) : FVec Ideal S128x1024 .f32 :=
  mulf (mulf x (broadcastInDim S128x1024 ![0, 1] bcast_S128x1_S128x1024_0_1 (Host.rsqrt (addf (Host.divf
    (broadcastInDim S128x1 ![0] bcast_S128_S128x1_0 (Host.reduceAdd (mulf x x) (constant S_ .f32 0x00000000#32) reducesTo_S128x1024_S128_d1 h_S_))
    (broadcastInDim S128x1 ![] bcast_S_S128x1 (constant S_ .f32 0x44800000#32)))
    (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The gate times its logistic function, times the other half. -/
def swish (p : FVec Ideal S128x5632 .f32) : FVec Ideal S128x2816 .f32 :=
  mulf (mulf (extractStridedSlice S128x2816 ![0, 0] p slices_S128x5632_S128x2816_0_0)
    (Host.divf (broadcastInDim S128x2816 ![] bcast_S_S128x2816 (constant S_ .f32 0x3F800000#32))
      (addf (broadcastInDim S128x2816 ![] bcast_S_S128x2816 (constant S_ .f32 0x3F800000#32))
        (Host.exp (Host.negf (extractStridedSlice S128x2816 ![0, 0] p slices_S128x5632_S128x2816_0_0))))))
    (extractStridedSlice S128x2816 ![0, 2816] p slices_S128x5632_S128x2816_0_2816)

/-- The heads' own values out of their rows of 256. -/
def own (o : FVec Ideal S128x4096 .f32) : FVec Ideal S128x1024 .f32 :=
  shapeCast _ (concatenate S128x2x8x64 1 [⟨S128x1x8x64, (broadcastInDim S128x1x8x64 ![0, 2, 3] bcast_S128x8x64_S128x1x8x64_0_2_3 (shapeCast _ (extractStridedSlice S128x1x8x1x64 ![0, 0, 0, 2, 0] (shapeCast _ o shapeCasts_S128x4096_S128x2x8x4x64) slices_S128x2x8x4x64_S128x1x8x1x64_0_0_0_2_0) shapeCasts_S128x1x8x1x64_S128x8x64))⟩,
    ⟨S128x1x8x64, (broadcastInDim S128x1x8x64 ![0, 2, 3] bcast_S128x8x64_S128x1x8x64_0_2_3 (shapeCast _ (extractStridedSlice S128x1x8x1x64 ![0, 1, 0, 3, 0] (shapeCast _ o shapeCasts_S128x4096_S128x2x8x4x64) slices_S128x2x8x4x64_S128x1x8x1x64_0_1_0_3_0) shapeCasts_S128x1x8x1x64_S128x8x64))⟩] concatenates_S128x1x8x64_S128x1x8x64_S128x2x8x64_d1) shapeCasts_S128x2x8x64_S128x1024

theorem own_at (o : FVec Ideal S128x4096 .f32) (q : Fin 128) (k : Fin 1024) : own o (ix2 q k) = o (ix2 q (Cert.Ffn.laneOf k)) := by
  unfold own
  pointwise
  split
  · exact congrArg (fun x => o (ix2 q x)) (Fin.ext (by simp only [Cert.Ffn.laneOf]; omega))
  · exact congrArg (fun x => o (ix2 q x)) (Fin.ext (by simp only [Cert.Ffn.laneOf]; omega))

/-- The stream after the attention. -/
def mid (h : FVec Ideal S128x1024 .f32) (o : FVec Ideal S128x4096 .f32) (w : FVec Ideal S1024x1024 .f32) (g : FVec Ideal S1024 .f32) :
    FVec Ideal S128x1024 .f32 :=
  addf h (norm (Host.dotGeneral dot_S128x1024_S1024x1024_S128x1024_1_0_0_1_n_n none (own o) w) g)

/-- The stream after the feed-forward part. -/
def last (h : FVec Ideal S128x1024 .f32) (f g : FVec Ideal S1024 .f32) (w : FVec Ideal S1024x5632 .f32) (d : FVec Ideal S2816x1024 .f32) :
    FVec Ideal S128x1024 .f32 :=
  addf h (norm (Host.dotGeneral dot_S128x2816_S2816x1024_S128x1024_1_0_0_1_n_n none
    (swish (Host.dotGeneral dot_S128x1024_S1024x5632_S128x5632_1_0_0_1_n_n none (norm h f) w)) d) g)

/-- The result the run names. -/
def resultTerm (m : (ℓ : Loc nD τ sig) → Buf (Elt Ideal) ℓ) (c : Dev nD) : FVec Ideal S128x1024 .f32 :=
  last (mid (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7))

open Idealize.ShloMosaic.StableHlo in
theorem parts (m : (ℓ : Loc nD τ sig) → Buf (Elt Ideal) ℓ) (c : Dev nD) :
    addf (res_main_v23 (launchContents m c)) (mulf (mulf (res_main_v42 (launchContents m c)) (broadcastInDim S128x1024 ![0, 1] bcast_S128x1_S128x1024_0_1 (Host.rsqrt (addf (Host.divf (broadcastInDim S128x1 ![0] bcast_S128_S128x1_0 (Host.reduceAdd (mulf (res_main_v42 (launchContents m c)) (res_main_v42 (launchContents m c))) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 ((launchContents m c) (Proc.devRef .tc main_arg5)))))
      = resultTerm m c := rfl

theorem norm_at (x : FVec Ideal S128x1024 .f32) (g : FVec Ideal S1024 .f32) (q : Fin 128) (j : Fin 1024) :
    norm x g (ix2 q j) = Cert.Ffn.norm (fun j => x (ix2 q j)) (fun j => g (ix1 j)) j := by
  unfold norm
  pointwise
  rfl

theorem swish_at (p : FVec Ideal S128x5632 .f32) (q : Fin 128) (j : Fin 2816) :
    swish p (ix2 q j) = Cert.Ffn.swish (fun j => p (ix2 q j)) j := by
  unfold swish
  pointwise
  rfl

theorem prod_out (x : FVec Ideal S128x1024 .f32) (w : FVec Ideal S1024x1024 .f32) (q : Fin 128) (j : Fin 1024) :
    Host.dotGeneral dot_S128x1024_S1024x1024_S128x1024_1_0_0_1_n_n none x w (ix2 q j)
      = Cert.Ffn.prod (fun j => x (ix2 q j)) w j := by
  pointwise
  rfl

theorem prod_in (x : FVec Ideal S128x1024 .f32) (w : FVec Ideal S1024x5632 .f32) (q : Fin 128) (j : Fin 5632) :
    Host.dotGeneral dot_S128x1024_S1024x5632_S128x5632_1_0_0_1_n_n none x w (ix2 q j)
      = Cert.Ffn.prod (fun j => x (ix2 q j)) w j := by
  pointwise
  rfl

theorem prod_down (x : FVec Ideal S128x2816 .f32) (w : FVec Ideal S2816x1024 .f32) (q : Fin 128) (j : Fin 1024) :
    Host.dotGeneral dot_S128x2816_S2816x1024_S128x1024_1_0_0_1_n_n none x w (ix2 q j)
      = Cert.Ffn.prod (fun j => x (ix2 q j)) w j := by
  pointwise
  rfl

theorem mid_at (h : FVec Ideal S128x1024 .f32) (o : FVec Ideal S128x4096 .f32) (w : FVec Ideal S1024x1024 .f32) (g : FVec Ideal S1024 .f32)
    (q : Fin 128) (j : Fin 1024) :
    mid h o w g (ix2 q j) = Cert.Ffn.mid (fun j => h (ix2 q j)) (fun k => o (ix2 q (Cert.Ffn.laneOf k))) w (fun j => g (ix1 j)) j := by
  unfold mid Cert.Ffn.mid
  refine congrArg (h (ix2 q j) + ·) ((norm_at _ g q j).trans ?_)
  simp only [prod_out, own_at]

theorem last_at (h : FVec Ideal S128x1024 .f32) (f g : FVec Ideal S1024 .f32) (w : FVec Ideal S1024x5632 .f32) (d : FVec Ideal S2816x1024 .f32)
    (q : Fin 128) (j : Fin 1024) :
    last h f g w d (ix2 q j) = Cert.Ffn.last (fun j => h (ix2 q j)) (fun j => f (ix1 j)) (fun j => g (ix1 j)) w d j := by
  unfold last Cert.Ffn.last
  refine congrArg (h (ix2 q j) + ·) ((norm_at _ g q j).trans ?_)
  simp only [prod_down, swish_at, prod_in, norm_at]

/-- The reference's arguments. -/
def launched (m : (ℓ : Loc nD τ sig) → Buf (Elt Ideal) ℓ) (c : Dev nD) : Cert.Ffn.StepArrays where
  h := m ((c.tc : Thread nD τ).loc main_arg0)
  o := m ((c.tc : Thread nD τ).loc main_arg1)
  wOut := m ((c.tc : Thread nD τ).loc main_arg2)
  gPost := m ((c.tc : Thread nD τ).loc main_arg3)
  fPre := m ((c.tc : Thread nD τ).loc main_arg4)
  fPost := m ((c.tc : Thread nD τ).loc main_arg5)
  wIn := m ((c.tc : Thread nD τ).loc main_arg6)
  wDown := m ((c.tc : Thread nD τ).loc main_arg7)

/-- The reference's result is the rows' result. -/
theorem result_eq (m : (ℓ : Loc nD τ sig) → Buf (Elt Ideal) ℓ) (c : Dev nD) : resultTerm m c = (launched m c).result := by
  funext i
  idx_vars i
  unfold resultTerm
  refine (last_at _ _ _ _ _ _ _).trans ?_
  simp only [mid_at]
  rfl

end Cert.StepReferenceIdeal.Value
-- ==== Proof.Rows.lean ====
/- Weights of masked score rows over the extended reals, and what a softmax of such a row is.

   A row holds real scores, with `⊥` where a score is masked. `ew x` is the weight `exp x` as a real (`0` at
   `⊥`). Every way of computing a softmax met in this proof (the maximum subtracted, a row without any score
   guarded, tile by tile with a running maximum) is read as a quotient of sums of weights. -/
module

public import Idealize.ShloMosaic.Lib.Pointwise

@[expose] public section

noncomputable section

namespace Cert.Nsa

open Idealize.ShloMosaic

/-- The weight of a score: its exponential, `0` where the score is masked. -/
def ew (x : EReal) : ℝ := (Ideal.exp x).toReal

theorem ew_bot : ew ⊥ = 0 := by simp [ew]

theorem ew_coe (r : ℝ) : ew (r : EReal) = Real.exp r := by simp [ew]

/-- A score that is not `⊤` is `⊥` or a real. -/
theorem bot_or_coe {x : EReal} (hx : x ≠ ⊤) : x = ⊥ ∨ ∃ r : ℝ, x = (r : EReal) := by
  induction x with
  | bot => exact Or.inl rfl
  | coe r => exact Or.inr ⟨r, rfl⟩
  | top => exact absurd rfl hx

theorem ew_nonneg (x : EReal) (hx : x ≠ ⊤) : 0 ≤ ew x := by
  rcases bot_or_coe hx with rfl | ⟨r, rfl⟩
  · rw [ew_bot]
  · rw [ew_coe]; exact (Real.exp_pos r).le

theorem ew_pos {x : EReal} (hx : x ≠ ⊤) (hb : x ≠ ⊥) : 0 < ew x := by
  rcases bot_or_coe hx with rfl | ⟨r, rfl⟩
  · exact absurd rfl hb
  · rw [ew_coe]; exact Real.exp_pos r

/-- The exponential of a score less a real. -/
theorem exp_sub_coe (x : EReal) (hx : x ≠ ⊤) (m : ℝ) :
    Ideal.exp (x - (m : EReal)) = ((ew x * Real.exp (-m) : ℝ) : EReal) := by
  rcases bot_or_coe hx with rfl | ⟨r, rfl⟩
  · rw [EReal.bot_sub, ew_bot, Ideal.exp_bot]; simp
  · rw [← EReal.coe_sub, Ideal.exp_coe, ew_coe, ← Real.exp_add, sub_eq_add_neg]

/-- A finite sum of reals, read in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

/-- The greatest score of a row without `⊤`: `⊥` when all are masked, a real otherwise. -/
theorem maxRow {ι : Type*} [Fintype ι] (s : ι → EReal) (hs : ∀ k, s k ≠ ⊤) :
    (Finset.univ.fold max ⊥ s = ⊥ ∧ ∀ k, s k = ⊥) ∨
      ((∃ m : ℝ, Finset.univ.fold max ⊥ s = (m : EReal)) ∧ ∃ k, s k ≠ ⊥) := by
  have hle : ∀ k, s k ≤ Finset.univ.fold max ⊥ s := fun k =>
    (Finset.le_fold_max _).mpr (Or.inr ⟨k, Finset.mem_univ k, le_rfl⟩)
  have htop : Finset.univ.fold max ⊥ s ≠ ⊤ := by
    refine ne_of_lt ((Finset.fold_max_lt _).mpr ⟨bot_lt_top, fun k _ => lt_top_iff_ne_top.mpr (hs k)⟩)
  rcases bot_or_coe htop with h | ⟨m, h⟩
  · exact Or.inl ⟨h, fun k => le_bot_iff.mp (h ▸ hle k)⟩
  · refine Or.inr ⟨⟨m, h⟩, ?_⟩
    by_contra hc
    push Not at hc
    have : Finset.univ.fold max ⊥ s ≤ ⊥ :=
      (Finset.fold_max_le _).mpr ⟨le_rfl, fun k _ => (hc k).le⟩
    rw [h] at this
    exact absurd (le_bot_iff.mp this) (EReal.coe_ne_bot m)

section row
variable {ι : Type*} [Fintype ι] (s : ι → EReal)

/-- The sum of a row's weights. -/
def den : ℝ := ∑ k, ew (s k)

/-- A row's softmax: the weight over the sum of the weights, `0` in a row without any score. -/
def prob (k : ι) : ℝ := ew (s k) / den s

variable (hs : ∀ k, s k ≠ ⊤)
include hs

theorem sum_exp_sub (m : ℝ) :
    ∑ k, Ideal.exp (s k - (m : EReal)) = ((den s * Real.exp (-m) : ℝ) : EReal) := by
  rw [den, Finset.sum_mul, ← coe_sum]
  exact Finset.sum_congr rfl fun k _ => exp_sub_coe (s k) (hs k) m

theorem den_nonneg : 0 ≤ den s := Finset.sum_nonneg fun k _ => ew_nonneg _ (hs k)

theorem den_pos (h : ∃ k, s k ≠ ⊥) : 0 < den s := by
  obtain ⟨k, hk⟩ := h
  exact Finset.sum_pos' (fun i _ => ew_nonneg _ (hs i)) ⟨k, Finset.mem_univ k, ew_pos (hs k) hk⟩

omit hs in
theorem den_eq_zero (h : ∀ k, s k = ⊥) : den s = 0 :=
  Finset.sum_eq_zero fun k _ => by rw [h k, ew_bot]

theorem ew_eq_zero_of_den (h : den s = 0) (k : ι) : ew (s k) = 0 :=
  (Finset.sum_eq_zero_iff_of_nonneg (fun i _ => ew_nonneg _ (hs i))).mp h k (Finset.mem_univ k)

/-- The guarded softmax: any real subtracted, and the sum of the exponentials replaced by `1` where it is not
    positive. -/
theorem guarded_softmax (r : ℝ) (D : EReal)
    (hD : D = if 0 < ∑ i, Ideal.exp (s i - (r : EReal)) then ∑ i, Ideal.exp (s i - (r : EReal)) else 1) (k : ι) :
    Ideal.div (Ideal.exp (s k - (r : EReal))) D = ((prob s k : ℝ) : EReal) := by
  rw [sum_exp_sub s hs] at hD
  rw [exp_sub_coe _ (hs k)]
  have he := Real.exp_pos (-r)
  by_cases h0 : den s = 0
  · have : ew (s k) = 0 := ew_eq_zero_of_den s hs h0 k
    have hD1 : D = ((1 : ℝ) : EReal) := by rw [hD, h0]; simp
    rw [hD1, this, div_real _ one_ne_zero, prob, this]; simp
  · have hp : 0 < den s := lt_of_le_of_ne (den_nonneg s hs) (Ne.symm h0)
    have hp' : 0 < den s * Real.exp (-r) := mul_pos hp he
    rw [if_pos (by exact_mod_cast hp')] at hD
    rw [hD, div_real _ hp'.ne', prob, mul_div_mul_right _ _ he.ne']

/-- The softmax by the reciprocal of the sum, `0` where the maximum is `⊥`. -/
theorem reciprocal_softmax (k : ι) :
    Ideal.exp (s k - Finset.univ.fold max ⊥ s) *
        (if ⊥ < Finset.univ.fold max ⊥ s then
          Ideal.div 1 (∑ i, Ideal.exp (s i - Finset.univ.fold max ⊥ s)) else 0)
      = ((prob s k : ℝ) : EReal) := by
  rcases maxRow s hs with ⟨h, hb⟩ | ⟨⟨m, h⟩, hk⟩
  · rw [h, if_neg (lt_irrefl _), mul_zero, prob, hb k, ew_bot]; simp
  · rw [h, if_pos (EReal.bot_lt_coe m), sum_exp_sub s hs, exp_sub_coe _ (hs k)]
    have hp := den_pos s hs hk
    have he := Real.exp_pos (-m)
    rw [← EReal.coe_one, div_real _ (mul_pos hp he).ne', ← EReal.coe_mul, prob]
    congr 1
    field_simp

/-- The sum of values by the exponentials, over the sum of the exponentials. -/
theorem quotient_softmax (v : ι → ℝ) (hk : ∃ k, s k ≠ ⊥) :
    Ideal.div (∑ k, Ideal.exp (s k - Finset.univ.fold max ⊥ s) * ((v k : ℝ) : EReal))
        (∑ k, Ideal.exp (s k - Finset.univ.fold max ⊥ s) * 1)
      = (((∑ k, ew (s k) * v k) / den s : ℝ) : EReal) := by
  rcases maxRow s hs with ⟨_, hb⟩ | ⟨⟨m, h⟩, -⟩
  · obtain ⟨k, hk⟩ := hk; exact absurd (hb k) hk
  · have hp := den_pos s hs hk
    have he := Real.exp_pos (-m)
    have h1 : ∑ k, Ideal.exp (s k - Finset.univ.fold max ⊥ s) * ((v k : ℝ) : EReal)
        = (((∑ k, ew (s k) * v k) * Real.exp (-m) : ℝ) : EReal) := by
      rw [h, Finset.sum_mul, ← coe_sum]
      refine Finset.sum_congr rfl fun k _ => ?_
      rw [exp_sub_coe _ (hs k), ← EReal.coe_mul]
      congr 1; ring
    have h2 : ∑ k, Ideal.exp (s k - Finset.univ.fold max ⊥ s) * 1
        = ((den s * Real.exp (-m) : ℝ) : EReal) := by
      rw [h, ← sum_exp_sub s hs]
      exact Finset.sum_congr rfl fun k _ => mul_one _
    rw [h1, h2, div_real _ (mul_pos hp he).ne', mul_div_mul_right _ _ he.ne']

end row

/-- The scale a running maximum stands for: `exp (-m)`, `0` before any score. -/
def scale (m : EReal) : ℝ := if m = ⊥ then 0 else Real.exp (-m.toReal)

theorem scale_bot : scale ⊥ = 0 := if_pos rfl

theorem scale_coe (r : ℝ) : scale (r : EReal) = Real.exp (-r) := by simp [scale]

/-- The running maximum after one more tile. -/
abbrev nextMax {ι : Type*} [Fintype ι] (m : EReal) (s : ι → EReal) : EReal := max m (Finset.univ.fold max ⊥ s)

theorem max_coe (t r : ℝ) : max (t : EReal) (r : EReal) = ((max t r : ℝ) : EReal) := by
  rcases le_total t r with h | h
  · rw [max_eq_right h, max_eq_right (EReal.coe_le_coe_iff.mpr h)]
  · rw [max_eq_left h, max_eq_left (EReal.coe_le_coe_iff.mpr h)]

/-- One more tile: the accumulated sum `E`, held at the scale of the running maximum, after the tile is the sum
    with the tile's weights added, held at the scale of the new maximum. -/
theorem online_step {ι : Type*} [Fintype ι] (s : ι → EReal) (hs : ∀ k, s k ≠ ⊤) (v : ι → ℝ) (m : EReal)
    (hm : m ≠ ⊤) (a : EReal) (E : ℝ) (ha : a = ((E * scale m : ℝ) : EReal)) (hE : m = ⊥ → E = 0) :
    Ideal.exp (m - nextMax m s) * a + ∑ k, Ideal.exp (s k - nextMax m s) * ((v k : ℝ) : EReal)
      = (((E + ∑ k, ew (s k) * v k) * scale (nextMax m s) : ℝ) : EReal) := by
  have key : ∀ r : ℝ, nextMax m s = (r : EReal) →
      Ideal.exp (m - nextMax m s) * a + ∑ k, Ideal.exp (s k - nextMax m s) * ((v k : ℝ) : EReal)
        = (((E + ∑ k, ew (s k) * v k) * scale (nextMax m s) : ℝ) : EReal) := by
    intro r hr
    rw [hr, scale_coe, exp_sub_coe _ hm, ha, ← EReal.coe_mul]
    have h1 : ∑ k, Ideal.exp (s k - (r : EReal)) * ((v k : ℝ) : EReal)
        = (((∑ k, ew (s k) * v k) * Real.exp (-r) : ℝ) : EReal) := by
      rw [Finset.sum_mul, ← coe_sum]
      refine Finset.sum_congr rfl fun k _ => ?_
      rw [exp_sub_coe _ (hs k), ← EReal.coe_mul]
      congr 1; ring
    rw [h1, ← EReal.coe_add]
    congr 1
    rcases bot_or_coe hm with rfl | ⟨t, rfl⟩
    · rw [hE rfl]; ring
    · rw [ew_coe, scale_coe]
      have : Real.exp t * Real.exp (-t) = 1 := by rw [← Real.exp_add]; simp
      linear_combination E * Real.exp (-r) * this
  rcases maxRow s hs with ⟨h, hb⟩ | ⟨⟨r, h⟩, -⟩
  · rcases bot_or_coe hm with rfl | ⟨t, rfl⟩
    · have hn : nextMax ⊥ s = ⊥ := by rw [nextMax, h, max_self]
      rw [hn, hE rfl, scale_bot, EReal.bot_sub, Ideal.exp_bot, zero_mul, zero_add, mul_zero, EReal.coe_zero]
      exact Finset.sum_eq_zero fun k _ => by rw [hb k, EReal.bot_sub, Ideal.exp_bot, zero_mul]
    · exact key t (by rw [nextMax, h]; exact max_eq_left bot_le)
  · rcases bot_or_coe hm with rfl | ⟨t, rfl⟩
    · exact key r (by rw [nextMax, h]; exact max_eq_right bot_le)
    · exact key (max t r) (by rw [nextMax, h]; exact max_coe t r)

theorem nextMax_ne_top {ι : Type*} [Fintype ι] (s : ι → EReal) (hs : ∀ k, s k ≠ ⊤) {m : EReal} (hm : m ≠ ⊤) :
    nextMax m s ≠ ⊤ := by
  refine ne_of_lt (max_lt (lt_top_iff_ne_top.mpr hm) ?_)
  exact (Finset.fold_max_lt _).mpr ⟨bot_lt_top, fun k _ => lt_top_iff_ne_top.mpr (hs k)⟩

/-- After the tile, a running maximum of `⊥` says that the tile held no score, nor did what came before. -/
theorem of_nextMax_bot {ι : Type*} [Fintype ι] (s : ι → EReal) (hs : ∀ k, s k ≠ ⊤) {m : EReal}
    (h : nextMax m s = ⊥) : m = ⊥ ∧ ∀ k, s k = ⊥ := by
  have h1 : m ≤ ⊥ := (le_max_left m (Finset.univ.fold max ⊥ s)).trans h.le
  have h2 : Finset.univ.fold max ⊥ s ≤ ⊥ := (le_max_right m _).trans h.le
  refine ⟨le_bot_iff.mp h1, ?_⟩
  rcases maxRow s hs with ⟨_, hb⟩ | ⟨⟨r, hr⟩, -⟩
  · exact hb
  · rw [hr] at h2; exact absurd (le_bot_iff.mp h2) (EReal.coe_ne_bot r)

/-- The two accumulated sums at one scale, divided. -/
theorem online_quotient (m : EReal) (E D : ℝ) (hD : 0 < D) (h0 : m = ⊥ → D = 0) (hm : m ≠ ⊤) :
    Ideal.div ((E * scale m : ℝ) : EReal) ((D * scale m : ℝ) : EReal) = ((E / D : ℝ) : EReal) := by
  rcases bot_or_coe hm with rfl | ⟨t, rfl⟩
  · exact absurd (h0 rfl) hD.ne'
  · rw [scale_coe]
    have he := Real.exp_pos (-t)
    rw [div_real _ (mul_pos hD he).ne', mul_div_mul_right _ _ he.ne']

end Cert.Nsa
-- ==== Proof.Select.lean ====
/- The choice of the best blocks of a query: by rank (a sorted list's first entries) and by repeated picking of
   the best one left.

   `beats s i l` says that `i` comes before `l` when the scores `s` are put in decreasing order, equal scores in
   index order. `rank s l` counts the indices that beat `l`. A sort's position `t` holds the index of rank `t`;
   after `r` rounds of picking, what has been picked among the scored indices is what has rank below `r`. -/
module

public import proofs.«01_k».proof.Proof.Rows
public import Idealize.ShloMosaic.Lib.SortFacts
public import Idealize.ShloMosaic.Lib.SortPrefix

@[expose] public section

noncomputable section

namespace Cert.Nsa

open Idealize.ShloMosaic
open scoped Classical

variable {n : ℕ} (s : Fin n → EReal)

/-- `i` comes before `l`: a greater score, or an equal one at a lower index. -/
def beats (i l : Fin n) : Prop := s l < s i ∨ (s l = s i ∧ i < l)

/-- How many indices come before `l`. -/
def rank (l : Fin n) : ℕ := (Finset.univ.filter fun i => beats s i l).card

theorem beats_irrefl (i : Fin n) : ¬beats s i i := by simp [beats]

theorem beats_trans {i j k : Fin n} (h : beats s i j) (h' : beats s j k) : beats s i k := by
  rcases h with h | ⟨h, l⟩ <;> rcases h' with h' | ⟨h', l'⟩
  · exact Or.inl (h'.trans h)
  · exact Or.inl (h' ▸ h)
  · exact Or.inl (h ▸ h')
  · exact Or.inr ⟨h'.trans h, l.trans l'⟩

theorem beats_total {i j : Fin n} (h : i ≠ j) : beats s i j ∨ beats s j i := by
  rcases lt_trichotomy (s i) (s j) with e | e | e
  · exact Or.inr (Or.inl e)
  · rcases lt_or_gt_of_ne h with l | l
    · exact Or.inl (Or.inr ⟨e.symm, l⟩)
    · exact Or.inr (Or.inr ⟨e, l⟩)
  · exact Or.inl (Or.inl e)

theorem rank_lt {i j : Fin n} (h : beats s i j) : rank s i < rank s j := by
  refine Finset.card_lt_card (Finset.ssubset_iff_of_subset ?_ |>.mpr ⟨i, ?_, ?_⟩)
  · intro k hk
    simp only [Finset.mem_filter, Finset.mem_univ, true_and] at hk ⊢
    exact beats_trans s hk h
  · simpa using h
  · simpa using beats_irrefl s i

theorem rank_inj {i j : Fin n} (h : rank s i = rank s j) : i = j := by
  by_contra hne
  rcases beats_total s hne with b | b
  · exact absurd h (rank_lt s b).ne
  · exact absurd h (rank_lt s b).ne'

theorem beats_iff {i j : Fin n} : beats s i j ↔ rank s i < rank s j := by
  refine ⟨rank_lt s, fun h => ?_⟩
  have hne : i ≠ j := fun e => by subst e; exact lt_irrefl _ h
  rcases beats_total s hne with b | b
  · exact b
  · exact absurd h (rank_lt s b).not_gt

/-! ## The sort -/

/-- The comparator of a sort by decreasing score. -/
abbrev greater (i j : Fin n) : Bool := decide (s j < s i)

/-- The comparator with ties in index order. -/
abbrev before (i j : Fin n) : Bool := decide (beats s i j)

theorem insert_congr (a : Fin n) : ∀ m : List (Fin n), (∀ b ∈ m, a < b) →
    insertBefore (greater s) a m = insertBefore (before s) a m
  | [], _ => rfl
  | b :: m, h => by
    have e : greater s b a = before s b a := by
      have hb : a < b := h b (by simp)
      rw [Bool.eq_iff_iff]
      simp only [greater, before, decide_eq_true_eq]
      show s a < s b ↔ s a < s b ∨ (s a = s b ∧ b < a)
      exact ⟨Or.inl, fun o => o.resolve_right fun p => absurd p.2 hb.not_gt⟩
    unfold insertBefore
    rw [e, insert_congr a m fun c hc => h c (by simp [hc])]

theorem stable_congr : ∀ m : List (Fin n), m.Pairwise (· < ·) →
    stableSort (greater s) m = stableSort (before s) m
  | [], _ => rfl
  | a :: m, h => by
    rw [List.pairwise_cons] at h
    unfold stableSort
    rw [stable_congr m h.2]
    exact insert_congr s a _ fun b hb => h.1 b ((perm_stableSort _ m).mem_iff.mp hb)

/-- The sort by decreasing score puts at position `t` the index of rank `t`. -/
theorem rank_sortedFrom (t : Fin n) : rank s (sortedFrom (greater s) t) = t := by
  have hs : sortPositions n (greater s) = sortPositions n (before s) :=
    stable_congr s _ (List.pairwise_lt_finRange n)
  have hcongr : sortedFrom (greater s) t = sortedFrom (before s) t := by
    unfold sortedFrom
    simp only [List.get_eq_getElem, Fin.val_cast]
    exact List.getElem_of_eq hs _
  rw [hcongr]
  have hno : ∀ i j : Fin n, i < j → ¬beats s (sortedFrom (before s) j) (sortedFrom (before s) i) := by
    intro i j hij
    have := sortedFrom_noInversion (before s) (before s) (fun a b h => by
        simp only [before, decide_eq_true_eq, decide_eq_false_iff_not] at h ⊢
        exact fun h' => beats_irrefl s a (beats_trans s h h')) (fun _ _ h => h)
      (fun a b c h h' => by
        simp only [before, decide_eq_false_iff_not] at h h' ⊢
        rw [beats_iff] at h h' ⊢; omega) i j hij
    simpa [before] using this
  have hlt : ∀ i : Fin n, beats s (sortedFrom (before s) i) (sortedFrom (before s) t) ↔ i < t := by
    intro i
    constructor
    · intro h
      by_contra hc
      rcases lt_or_eq_of_le (not_lt.mp hc) with l | e
      · exact hno t i l h
      · subst e; exact beats_irrefl s _ h
    · intro h
      rcases beats_total s (fun e => absurd (sortedFrom_injective (before s) e) h.ne) with b | b
      · exact b
      · exact absurd b (hno i t h)
  have himg : (Finset.univ.filter fun i => beats s i (sortedFrom (before s) t))
      = (Finset.univ.filter fun i : Fin n => i < t).image (sortedFrom (before s)) := by
    ext l
    obtain ⟨i, rfl⟩ := sortedFrom_surjective (before s) l
    simp only [Finset.mem_image, Finset.mem_filter, Finset.mem_univ, true_and]
    exact ⟨fun h => ⟨i, (hlt i).mp h, rfl⟩, fun ⟨j, hj, e⟩ => (hlt i).mpr (sortedFrom_injective (before s) e ▸ hj)⟩
  have hIio : (Finset.univ.filter fun i : Fin n => i < t) = Finset.Iio t := by ext; simp
  rw [rank, himg, Finset.card_image_of_injective _ (sortedFrom_injective (before s)), hIio, Fin.card_Iio]

/-- An index is among the first `k` of the sort exactly when its rank is below `k`. -/
theorem exists_sortedFrom (k : ℕ) (hk : k ≤ n) (l : Fin n) :
    (∃ t : Fin k, sortedFrom (greater s) (t.castLE hk) = l) ↔ rank s l < k := by
  constructor
  · rintro ⟨t, rfl⟩
    rw [rank_sortedFrom]; exact t.isLt
  · intro h
    refine ⟨⟨rank s l, h⟩, rank_inj s ?_⟩
    rw [rank_sortedFrom]; rfl

/-- A scored index, if there is one, comes first. -/
theorem exists_rank_zero (h : ∃ l, s l ≠ ⊥) : ∃ l, s l ≠ ⊥ ∧ rank s l = 0 := by
  obtain ⟨l, hl⟩ := h
  have hn : 0 < n := l.pos
  refine ⟨sortedFrom (greater s) ⟨0, hn⟩, fun hb => ?_, rank_sortedFrom s ⟨0, hn⟩⟩
  have hbt : beats s l (sortedFrom (greater s) ⟨0, hn⟩) := Or.inl (hb ▸ bot_lt_iff_ne_bot.mpr hl)
  have := rank_lt s hbt
  rw [rank_sortedFrom] at this
  exact absurd this (Nat.not_lt_zero _)

/-! ## Repeated picking -/

/-- The index picked from scores: the least of the greatest score. -/
def isPick (l : Fin n) : Prop := (∀ k, s k ≤ s l) ∧ ∀ k, k < l → s k < s l

/-- The scores with what has been picked put out. -/
def hide (A : Fin n → Prop) (l : Fin n) : EReal := if A l then ⊥ else s l

/-- What has been picked after `r` rounds. -/
def picked : ℕ → Fin n → Prop
  | 0 => fun _ => False
  | r + 1 => fun l => picked r l ∨ isPick (hide s (picked r)) l

/-- Among the scored indices, what has been picked after `r` rounds is what has rank below `r`. -/
theorem picked_iff (r : ℕ) (l : Fin n) (hl : s l ≠ ⊥) : picked s r l ↔ rank s l < r := by
  induction r generalizing l with
  | zero => simp [picked]
  | succ r ih =>
    constructor
    · rintro (h | h)
      · exact ((ih l hl).mp h).trans (Nat.lt_succ_self r)
      · by_cases hA : picked s r l
        · exact ((ih l hl).mp hA).trans (Nat.lt_succ_self r)
        have hb : ∀ i, beats s i l → rank s i < r := by
          intro i hi
          have hine : s i ≠ ⊥ := by
            rcases hi with e | ⟨e, -⟩
            · exact (lt_of_le_of_lt bot_le e).ne'
            · exact e ▸ hl
          rw [← ih i hine]
          by_contra hc
          have hi' : hide s (picked s r) i = s i := if_neg hc
          have hl' : hide s (picked s r) l = s l := if_neg hA
          rcases hi with e | ⟨e, hlt⟩
          · have := h.1 i; rw [hi', hl'] at this; exact absurd e this.not_gt
          · have := h.2 i hlt; rw [hi', hl', e] at this; exact lt_irrefl _ this
        have : rank s l ≤ r := by
          have hc : (Finset.univ.filter fun i => beats s i l).card ≤ (Finset.range r).card :=
            Finset.card_le_card_of_injOn (rank s) (fun i hi => by
              simp only [Finset.coe_filter, Finset.mem_univ, true_and, Set.mem_setOf_eq] at hi
              simpa using hb i hi) (fun i _ j _ e => rank_inj s e)
          rwa [Finset.card_range] at hc
        omega
    · intro h
      by_cases hr : rank s l < r
      · exact Or.inl ((ih l hl).mpr hr)
      have hA : ¬picked s r l := fun hp => hr ((ih l hl).mp hp)
      have hl' : hide s (picked s r) l = s l := if_neg hA
      have hnb : ∀ k, ¬picked s r k → ¬beats s k l := by
        intro k hk hb
        have hkne : s k ≠ ⊥ := by
          rcases hb with e | ⟨e, -⟩
          · exact (lt_of_le_of_lt bot_le e).ne'
          · exact e ▸ hl
        refine hk ((ih k hkne).mpr ?_)
        have := rank_lt s hb
        omega
      refine Or.inr ⟨fun k => ?_, fun k hkl => ?_⟩ <;> rw [hl'] <;> unfold hide <;> split_ifs with hk
      · exact bot_le
      · exact not_lt.mp fun e => hnb k hk (Or.inl e)
      · exact bot_lt_iff_ne_bot.mpr hl
      · refine lt_of_le_of_ne (not_lt.mp fun e => hnb k hk (Or.inl e)) fun e => ?_
        exact hnb k hk (Or.inr ⟨e.symm, hkl⟩)

/-- Picking by numbers: the index is the least of the numbers of the indices of the greatest score (a greater
    number, here `b`, standing for the others). -/
theorem pick_by_number (hn : 0 < n) (b : EReal) (hb : ∀ k : Fin n, ((k : ℕ) : EReal) < b) (l : Fin n) :
    (((l : ℕ) : EReal) = Finset.univ.fold min ⊤ (fun k : Fin n =>
        if s k = Finset.univ.fold max ⊥ s then ((k : ℕ) : EReal) else b)) ↔ isPick s l := by
  have hle : ∀ k, s k ≤ Finset.univ.fold max ⊥ s := fun k =>
    (Finset.le_fold_max _).mpr (Or.inr ⟨k, Finset.mem_univ k, le_rfl⟩)
  have hnum : ∀ i j : Fin n, ((i : ℕ) : EReal) ≤ ((j : ℕ) : EReal) ↔ i ≤ j := by
    intro i j; exact Nat.cast_le
  have hatt : ∃ k, s k = Finset.univ.fold max ⊥ s := by
    by_contra hc
    push Not at hc
    have hlt : Finset.univ.fold max ⊥ s < Finset.univ.fold max ⊥ s := by
      refine (Finset.fold_max_lt _).mpr ⟨?_, fun k _ => lt_of_le_of_ne (hle k) (hc k)⟩
      exact lt_of_le_of_lt bot_le (lt_of_le_of_ne (hle ⟨0, hn⟩) (hc _))
    exact lt_irrefl _ hlt
  generalize hM : Finset.univ.fold max ⊥ s = M at *
  constructor
  · intro h
    have hmin : ∀ k, s k = M → l ≤ k := by
      intro k hk
      rw [← hnum, h]
      exact (Finset.fold_min_le _).mpr (Or.inr ⟨k, Finset.mem_univ k, by rw [if_pos hk]⟩)
    have hl : s l = M := by
      by_contra hne
      obtain ⟨k, hk⟩ := hatt
      have hlt : ((l : ℕ) : EReal) < Finset.univ.fold min ⊤ (fun k : Fin n =>
          if s k = M then ((k : ℕ) : EReal) else b) := by
        refine (Finset.lt_fold_min _).mpr ⟨(hb l).trans_le le_top, fun j _ => ?_⟩
        split_ifs with hj
        · have := hmin j hj
          have hne' : l ≠ j := fun e => hne (e ▸ hj)
          exact_mod_cast lt_of_le_of_ne this hne'
        · exact hb l
      exact absurd h hlt.ne
    refine ⟨fun k => hl ▸ hle k, fun k hk => lt_of_le_of_ne (hl ▸ hle k) fun e => ?_⟩
    exact absurd (hmin k (e.trans hl)) hk.not_ge
  · rintro ⟨h1, h2⟩
    have hl : s l = M := by
      obtain ⟨k, hk⟩ := hatt
      exact le_antisymm (hle l) (hk ▸ h1 k)
    refine le_antisymm ?_ ?_
    · refine (Finset.le_fold_min _).mpr ⟨le_top, fun j _ => ?_⟩
      split_ifs with hj
      · rw [hnum]
        by_contra hc
        have := h2 j (not_le.mp hc)
        rw [hj, hl] at this
        exact lt_irrefl _ this
      · exact (hb l).le
    · exact (Finset.fold_min_le _).mpr (Or.inr ⟨l, Finset.mem_univ l, by rw [if_pos hl]⟩)

end Cert.Nsa
-- ==== Proof.Spec.lean ====
/- What the three attentions and their gated sum are, over the reals, for one query.

   Scores are rows over the natural numbers (`⊥` where masked), so that a sum over the key columns of one array
   and a sum over the columns of a narrower slice of it are the same sum once the columns left out are masked. -/
module

public import proofs.«01_k».proof.Proof.Select

@[expose] public section

noncomputable section

namespace Cert.Nsa

open Idealize.ShloMosaic
open scoped Classical

/-- The sum of the weights of the first `N` entries. -/
def wden (row : ℕ → EReal) (N : ℕ) : ℝ := ∑ k ∈ Finset.range N, ew (row k)

/-- The attention of a row of scores: the values by their weights, over the sum of the weights. -/
def att (row : ℕ → EReal) (N : ℕ) (V : ℕ → ℝ) : ℝ := (∑ k ∈ Finset.range N, ew (row k) * V k) / wden row N

theorem den_fin (row : ℕ → EReal) (N : ℕ) : den (fun k : Fin N => row k) = wden row N :=
  (Finset.sum_range fun k => ew (row k)).symm

theorem prob_fin (row : ℕ → EReal) (N : ℕ) (c : Fin N) :
    prob (fun k : Fin N => row k) c = ew (row c) / wden row N := by rw [prob, den_fin]

theorem sum_range_of_zero (f : ℕ → ℝ) {N M : ℕ} (hNM : N ≤ M) (h : ∀ k, N ≤ k → k < M → f k = 0) :
    ∑ k ∈ Finset.range N, f k = ∑ k ∈ Finset.range M, f k :=
  Finset.sum_subset (fun k hk => by simp at hk ⊢; omega) fun k hk hk' => h k (by simpa using hk') (by simpa using hk)

theorem wden_of_bot (row : ℕ → EReal) {N M : ℕ} (hNM : N ≤ M) (h : ∀ k, N ≤ k → k < M → row k = ⊥) :
    wden row N = wden row M := sum_range_of_zero _ hNM fun k h1 h2 => by rw [h k h1 h2, ew_bot]

theorem att_of_bot (row : ℕ → EReal) (V : ℕ → ℝ) {N M : ℕ} (hNM : N ≤ M) (h : ∀ k, N ≤ k → k < M → row k = ⊥) :
    att row N V = att row M V := by
  rw [att, att, wden_of_bot row hNM h, sum_range_of_zero _ hNM fun k h1 h2 => by rw [h k h1 h2, ew_bot, zero_mul]]

/-- The probabilities by the values, summed. -/
theorem sum_prob (row : ℕ → EReal) (N : ℕ) (V : ℕ → ℝ) :
    ∑ c : Fin N, prob (fun k : Fin N => row k) c * V c = att row N V := by
  simp only [prob_fin]
  rw [att, Finset.sum_range, Finset.sum_div]
  exact Finset.sum_congr rfl fun c _ => by ring

/-- The product of a query with the key of column `k`. -/
def dotp (Q : Fin 64 → ℝ) (K : ℕ → Fin 64 → ℝ) (k : ℕ) : ℝ := ∑ d, Q d * K k d

/-- The scores of the compressed keys: column `c` stands for the 32 keys from `16 c` on, seen when its last is. -/
def rowC (Q : Fin 64 → ℝ) (K : ℕ → Fin 64 → ℝ) (q c : ℕ) : EReal :=
  if 16 * c + 31 ≤ q then ((dotp Q K c : ℝ) : EReal) else ⊥

/-- Whether the keys of compressed column `c` overlap block `j`. -/
def ov (c j : ℕ) : ℝ := if 16 * c < 64 * j + 64 ∧ 64 * j < 16 * c + 32 then 1 else 0

/-- The importance of block `j`: the compressed probabilities of the group's heads over the columns overlapping it. -/
def imp (Q : Fin 8 → Fin 64 → ℝ) (K : ℕ → Fin 64 → ℝ) (q j : ℕ) : ℝ :=
  ∑ c ∈ Finset.range 511, (∑ m, ew (rowC (Q m) K q c) / wden (rowC (Q m) K q) 511) * ov c j

/-- The bonus of the first block and of the two blocks up to the query's own. -/
def bonus (q j : ℕ) : ℝ := if j = 0 ∨ j = q / 64 ∨ j + 1 = q / 64 then 1000 else 0

/-- The score of block `j`, masked when the block starts after the query. -/
def score (Q : Fin 8 → Fin 64 → ℝ) (K : ℕ → Fin 64 → ℝ) (q : ℕ) (j : Fin 128) : EReal :=
  if 64 * (j : ℕ) ≤ q then ((imp Q K q j + bonus q j : ℝ) : EReal) else ⊥

/-- Whether block `j` is among the 16 best. -/
def chosen (Q : Fin 8 → Fin 64 → ℝ) (K : ℕ → Fin 64 → ℝ) (q j : ℕ) : Prop :=
  ∃ h : j < 128, rank (score Q K q) ⟨j, h⟩ < 16

/-- The scores of the keys of the chosen blocks, up to the query. -/
def rowS (ch : ℕ → Prop) (Q : Fin 64 → ℝ) (K : ℕ → Fin 64 → ℝ) (q k : ℕ) : EReal :=
  if k ≤ q ∧ ch (k / 64) then ((dotp Q K k : ℝ) : EReal) else ⊥

/-- The scores of the window of 513 keys up to the query. -/
def rowW (Q : Fin 64 → ℝ) (K : ℕ → Fin 64 → ℝ) (q k : ℕ) : EReal :=
  if k ≤ q ∧ q ≤ k + 512 then ((dotp Q K k : ℝ) : EReal) else ⊥

theorem rowC_ne_top (Q : Fin 64 → ℝ) (K : ℕ → Fin 64 → ℝ) (q c : ℕ) : rowC Q K q c ≠ ⊤ := by
  unfold rowC; split_ifs <;> simp

theorem rowS_ne_top (ch : ℕ → Prop) (Q : Fin 64 → ℝ) (K : ℕ → Fin 64 → ℝ) (q k : ℕ) : rowS ch Q K q k ≠ ⊤ := by
  unfold rowS; split_ifs <;> simp

theorem rowW_ne_top (Q : Fin 64 → ℝ) (K : ℕ → Fin 64 → ℝ) (q k : ℕ) : rowW Q K q k ≠ ⊤ := by
  unfold rowW; split_ifs <;> simp

theorem rowW_self (Q : Fin 64 → ℝ) (K : ℕ → Fin 64 → ℝ) (q : ℕ) : rowW Q K q q ≠ ⊥ := by
  rw [rowW, if_pos ⟨le_rfl, by omega⟩]; exact EReal.coe_ne_bot _

theorem score_ne_bot (Q : Fin 8 → Fin 64 → ℝ) (K : ℕ → Fin 64 → ℝ) (q : ℕ) (j : Fin 128) :
    score Q K q j ≠ ⊥ ↔ 64 * (j : ℕ) ≤ q := by
  unfold score; split_ifs with h
  · exact ⟨fun _ => h, fun _ => EReal.coe_ne_bot _⟩
  · exact ⟨fun e => absurd rfl e, fun e => absurd e h⟩

/-- Some scored block is chosen: the best one. -/
theorem exists_chosen (Q : Fin 8 → Fin 64 → ℝ) (K : ℕ → Fin 64 → ℝ) (q : ℕ) :
    ∃ j, chosen Q K q j ∧ 64 * j ≤ q := by
  obtain ⟨l, hl, hr⟩ := exists_rank_zero (score Q K q) ⟨0, (score_ne_bot Q K q 0).mpr (by simp)⟩
  exact ⟨l, ⟨l.isLt, by rw [hr]; norm_num⟩, (score_ne_bot Q K q l).mp hl⟩

/-- The gated sum of the three attentions, for one query, one head and one value column. -/
def gated (Qn Qr : Fin 8 → Fin 64 → ℝ) (Kc Ks Kw : ℕ → Fin 64 → ℝ) (Vc Vs Vw : ℕ → ℝ) (g : Fin 3 → ℝ) (q : ℕ)
    (m : Fin 8) : ℝ :=
  g 0 * att (rowC (Qn m) Kc q) 511 Vc + g 1 * att (rowS (chosen Qn Kc q) (Qr m) Ks q) 8192 Vs
    + g 2 * att (rowW (Qr m) Kw q) 8192 Vw

end Cert.Nsa
-- ==== Proof.Data.lean ====
module

public import proofs.«01_k».proof.Proof.Spec
public import Idealize.ShloMosaic.Lib.Routing.Words

/-! The six arguments as arrays of extended reals, their real entries, the layer's result as an array of them; the words and
constants that both programs build their masks of. -/

@[expose] public section

noncomputable section

namespace Cert.Nsa
open Idealize.ShloMosaic Idealize.ShloMosaic.Pointwise
open scoped Classical

/-- The six arguments. -/
structure Arrays where
  qn : (⟨4, ![2, 16, 8192, 64]⟩ : Shape).Idx → EReal
  qr : (⟨4, ![2, 16, 8192, 64]⟩ : Shape).Idx → EReal
  cmp : (⟨5, ![2, 2, 2, 512, 64]⟩ : Shape).Idx → EReal
  sel : (⟨3, ![2, 256, 8192]⟩ : Shape).Idx → EReal
  win : (⟨3, ![2, 256, 8192]⟩ : Shape).Idx → EReal
  gates : (⟨3, ![2, 8192, 128]⟩ : Shape).Idx → EReal

/-- Every entry is a real number. -/
structure Arrays.Finite (A : Arrays) : Prop where
  qn : ∀ i, A.qn i = ((A.qn i).toReal : EReal)
  qr : ∀ i, A.qr i = ((A.qr i).toReal : EReal)
  cmp : ∀ i, A.cmp i = ((A.cmp i).toReal : EReal)
  sel : ∀ i, A.sel i = ((A.sel i).toReal : EReal)
  win : ∀ i, A.win i = ((A.win i).toReal : EReal)
  gates : ∀ i, A.gates i = ((A.gates i).toReal : EReal)

namespace Arrays
variable (A : Arrays) (b g : Fin 2)

/-- The query of one head without positions. -/
def rQn (q : Fin 8192) (m : Fin 8) (d : Fin 64) : ℝ :=
  (A.qn (ix4 b ⟨(g : ℕ) * 8 + m, by omega⟩ q d)).toReal
/-- The query of one head with positions. -/
def rQr (q : Fin 8192) (m : Fin 8) (d : Fin 64) : ℝ :=
  (A.qr (ix4 b ⟨(g : ℕ) * 8 + m, by omega⟩ q d)).toReal
/-- The compressed keys. -/
def rKc (c : ℕ) (d : Fin 64) : ℝ := if h : c < 512 then (A.cmp (ix5 b 0 g ⟨c, h⟩ d)).toReal else 0
/-- The compressed values. -/
def rVc (d : Fin 64) (c : ℕ) : ℝ := if h : c < 512 then (A.cmp (ix5 b 1 g ⟨c, h⟩ d)).toReal else 0
/-- The keys of the blocks. -/
def rKs (k : ℕ) (d : Fin 64) : ℝ :=
  if h : k < 8192 then (A.sel (ix3 b ⟨(g : ℕ) * 64 + d, by omega⟩ ⟨k, h⟩)).toReal else 0
/-- The values of the blocks. -/
def rVs (d : Fin 64) (k : ℕ) : ℝ :=
  if h : k < 8192 then (A.sel (ix3 b ⟨128 + (g : ℕ) * 64 + d, by omega⟩ ⟨k, h⟩)).toReal else 0
/-- The keys of the window. -/
def rKw (k : ℕ) (d : Fin 64) : ℝ :=
  if h : k < 8192 then (A.win (ix3 b ⟨(g : ℕ) * 64 + d, by omega⟩ ⟨k, h⟩)).toReal else 0
/-- The values of the window. -/
def rVw (d : Fin 64) (k : ℕ) : ℝ :=
  if h : k < 8192 then (A.win (ix3 b ⟨128 + (g : ℕ) * 64 + d, by omega⟩ ⟨k, h⟩)).toReal else 0
/-- The gate of one head and branch. -/
def rGate (q : Fin 8192) (m : Fin 8) (br : Fin 3) : ℝ :=
  (A.gates (ix3 b q ⟨(br : ℕ) * 16 + (g : ℕ) * 8 + m, by omega⟩)).toReal

/-- The layer's result for one batch element, group, query, head and value column. -/
def out (q : Fin 8192) (m : Fin 8) (d : Fin 64) : ℝ :=
  gated (A.rQn b g q) (A.rQr b g q) (A.rKc b g) (A.rKs b g) (A.rKw b g) (A.rVc b g d) (A.rVs b g d) (A.rVw b g d)
    (A.rGate b g q m) q m

/-- The layer's result at one row and column. -/
def resultAt (q : Fin 8192) (col : Fin 1024) : EReal :=
  ((A.out b ⟨(col : ℕ) / 512, by omega⟩ q ⟨(col : ℕ) / 64 % 8, by omega⟩ ⟨(col : ℕ) % 64, by omega⟩ : ℝ) : EReal)

/-- The layer's result as an array. -/
def result : (⟨3, ![2, 8192, 1024]⟩ : Shape).Idx → EReal := fun i => A.resultAt (i 0) (i 1) (i 2)

variable {A}

theorem Finite.qn_at (h : A.Finite) (q : Fin 8192) (m : Fin 8) (d : Fin 64) (e : Fin 16) (he : (e : ℕ) = (g : ℕ) * 8 + m) :
    A.qn (ix4 b e q d) = (A.rQn b g q m d : EReal) := by
  obtain ⟨e, hlt⟩ := e
  obtain rfl := he
  exact h.qn _

theorem Finite.qr_at (h : A.Finite) (q : Fin 8192) (m : Fin 8) (d : Fin 64) (e : Fin 16) (he : (e : ℕ) = (g : ℕ) * 8 + m) :
    A.qr (ix4 b e q d) = (A.rQr b g q m d : EReal) := by
  obtain ⟨e, hlt⟩ := e
  obtain rfl := he
  exact h.qr _

theorem Finite.kc_at (h : A.Finite) (c : Fin 512) (d : Fin 64) :
    A.cmp (ix5 b 0 g c d) = (A.rKc b g c d : EReal) := by
  rw [rKc, dif_pos c.isLt]; exact h.cmp _

theorem Finite.vc_at (h : A.Finite) (c : Fin 512) (d : Fin 64) :
    A.cmp (ix5 b 1 g c d) = (A.rVc b g d c : EReal) := by
  rw [rVc, dif_pos c.isLt]; exact h.cmp _

theorem Finite.ks_at (h : A.Finite) (k : Fin 8192) (d : Fin 64) (e : Fin 256) (he : (e : ℕ) = (g : ℕ) * 64 + d) :
    A.sel (ix3 b e k) = (A.rKs b g k d : EReal) := by
  obtain ⟨e, hlt⟩ := e
  obtain rfl := he
  rw [rKs, dif_pos k.isLt]; exact h.sel _

theorem Finite.vs_at (h : A.Finite) (k : Fin 8192) (d : Fin 64) (e : Fin 256) (he : (e : ℕ) = 128 + (g : ℕ) * 64 + d) :
    A.sel (ix3 b e k) = (A.rVs b g d k : EReal) := by
  obtain ⟨e, hlt⟩ := e
  obtain rfl := he
  rw [rVs, dif_pos k.isLt]; exact h.sel _

theorem Finite.kw_at (h : A.Finite) (k : Fin 8192) (d : Fin 64) (e : Fin 256) (he : (e : ℕ) = (g : ℕ) * 64 + d) :
    A.win (ix3 b e k) = (A.rKw b g k d : EReal) := by
  obtain ⟨e, hlt⟩ := e
  obtain rfl := he
  rw [rKw, dif_pos k.isLt]; exact h.win _

theorem Finite.vw_at (h : A.Finite) (k : Fin 8192) (d : Fin 64) (e : Fin 256) (he : (e : ℕ) = 128 + (g : ℕ) * 64 + d) :
    A.win (ix3 b e k) = (A.rVw b g d k : EReal) := by
  obtain ⟨e, hlt⟩ := e
  obtain rfl := he
  rw [rVw, dif_pos k.isLt]; exact h.win _

theorem Finite.gate_at (h : A.Finite) (q : Fin 8192) (m : Fin 8) (br : Fin 3) (e : Fin 128)
    (he : (e : ℕ) = (br : ℕ) * 16 + (g : ℕ) * 8 + m) :
    A.gates (ix3 b q e) = (A.rGate b g q m br : EReal) := by
  obtain ⟨e, hlt⟩ := e
  obtain rfl := he
  exact h.gates _

end Arrays

/-- A product summed over real entries. -/
theorem sum_mul_coe {ι : Type*} (s : Finset ι) (x y : ι → ℝ) :
    ∑ d ∈ s, (x d : EReal) * (y d : EReal) = ((∑ d ∈ s, x d * y d : ℝ) : EReal) := by
  simp only [← EReal.coe_mul]
  exact coe_sum _ _

/-! ## Constants -/

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_thousand : Ideal.ofBits .f32 0x447A0000#32 = ((1000 : ℝ) : EReal) := by
  simp [Ideal.ofBits, Ideal.ieee]; rw [← EReal.coe_mul]; norm_num
theorem bits_128 : Ideal.ofBits .f32 0x43000000#32 = ((128 : ℝ) : EReal) := by
  simp [Ideal.ofBits, Ideal.ieee]; rw [← EReal.coe_mul]; norm_num

/-! ## Words -/

theorem toInt_small {a : ℕ} (h : a < 2 ^ 31) : (BitVec.ofNat 32 a).toInt = (a : ℤ) :=
  WordCmp.toInt_ofNat_of_lt h

theorem sub_word {a b : ℕ} (h : b ≤ a) : BitVec.ofNat 32 a - BitVec.ofNat 32 b = BitVec.ofNat 32 (a - b) := by
  have e : BitVec.ofNat 32 a = BitVec.ofNat 32 (a - b) + BitVec.ofNat 32 b := by
    rw [← BitVec.ofNat_add, Nat.sub_add_cancel h]
  rw [e, BitVec.add_sub_cancel]

/-- A signed difference of small words. -/
theorem toInt_sub_small {a b : ℕ} (ha : a < 2 ^ 30) (hb : b < 2 ^ 30) :
    (BitVec.ofNat 32 a - BitVec.ofNat 32 b).toInt = (a : ℤ) - b := by
  rw [BitVec.toInt_sub, toInt_small (by omega), toInt_small (by omega), Int.bmod_def]
  split_ifs <;> omega

theorem mul_word (a b : ℕ) : IntOp.muli (BitVec.ofNat 32 a) (BitVec.ofNat 32 b) = BitVec.ofNat 32 (a * b) :=
  (BitVec.ofNat_mul a b).symm

theorem add_word (a b : ℕ) : IntOp.addi (BitVec.ofNat 32 a) (BitVec.ofNat 32 b) = BitVec.ofNat 32 (a + b) :=
  (BitVec.ofNat_add a b).symm

theorem subi_word {a b : ℕ} (h : b ≤ a) :
    IntOp.subi (BitVec.ofNat 32 a) (BitVec.ofNat 32 b) = BitVec.ofNat 32 (a - b) := sub_word h

/-- A word's sign as programs print it. -/
theorem sign_word {a : ℕ} (h : a < 2 ^ 31) :
    (if BitVec.ofNat 32 a = 0 then (0 : BitVec 32) else if (BitVec.ofNat 32 a).msb = true then -1 else 1)
      = BitVec.ofNat 32 (if a = 0 then 0 else 1) := by
  have h1 : BitVec.ofNat 32 a = 0 ↔ a = 0 := by
    rw [← BitVec.toNat_inj, BitVec.toNat_ofNat]
    simp only [BitVec.ofNat_eq_ofNat, BitVec.toNat_ofNat]
    omega
  have h2 : (BitVec.ofNat 32 a).msb = false := by
    rw [BitVec.msb_eq_decide, BitVec.toNat_ofNat, decide_eq_false_iff_not]
    omega
  by_cases e : a = 0
  · rw [if_pos (h1.mpr e), if_pos e]; rfl
  · rw [if_neg fun x => e (h1.mp x), if_neg e, h2]; simp

/-- A difference of small words is not negative exactly when the second is not greater. -/
theorem sub_nonneg_word {a b : ℕ} (ha : a < 2 ^ 30) (hb : b < 2 ^ 30) :
    IntOp.cmpi .sge (IntOp.subi (BitVec.ofNat 32 a) (BitVec.ofNat 32 b)) 0#32 = BitVec.ofBool (decide (b ≤ a)) := by
  rw [WordCmp.cmpi_sge_eq]
  refine congrArg BitVec.ofBool (decide_eq_decide.mpr ?_)
  show (0#32 : BitVec 32).toInt ≤ (BitVec.ofNat 32 a - BitVec.ofNat 32 b).toInt ↔ _
  rw [toInt_sub_small ha hb, toInt_small (by norm_num)]
  omega

/-- A difference of small words against a bound. -/
theorem sub_le_word {a b c : ℕ} (ha : a < 2 ^ 30) (hb : b < 2 ^ 30) (hc : c < 2 ^ 30) :
    IntOp.cmpi .sle (IntOp.subi (BitVec.ofNat 32 a) (BitVec.ofNat 32 b)) (BitVec.ofNat 32 c)
      = BitVec.ofBool (decide (a ≤ b + c)) := by
  rw [WordCmp.cmpi_sle_eq]
  refine congrArg BitVec.ofBool (decide_eq_decide.mpr ?_)
  show (BitVec.ofNat 32 a - BitVec.ofNat 32 b).toInt ≤ _ ↔ _
  rw [toInt_sub_small ha hb, toInt_small (by omega)]
  omega

end Cert.Nsa
-- ==== Proof.KBase.lean ====
module

public import proofs.«01_k».proof.Proof.FrameIdeal
public import proofs.«01_k».proof.Proof.Data
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

theorem neg_bot : (Named.named κ "neg" 0xF149F2CA#32 : Ideal .f32) = (⊥ : EReal) :=
  IdealRules.named_const.ideal_named_scalar _ _ _ _ rfl
theorem half_bot : (Named.named κ "half" 0xF0C9F2CA#32 : Ideal .f32) = (⊥ : EReal) :=
  IdealRules.named_const.ideal_named_scalar _ _ _ _ rfl
theorem picked_bot : (Named.named κ "picked" 0xF2177617#32 : Ideal .f32) = (⊥ : EReal) :=
  IdealRules.named_const.ideal_named_scalar _ _ _ _ rfl

/-- A sum over a stretch of the columns, when the columns outside it count nothing. -/
theorem sum_shift (f : ℕ → ℝ) (a N M : ℕ) (h : a + N ≤ M) (h0 : ∀ k, k < M → (k < a ∨ a + N ≤ k) → f k = 0) :
    ∑ c : Fin N, f (a + c) = ∑ k ∈ Finset.range M, f k := by
  have e : ∑ c : Fin N, f (a + c) = ∑ k ∈ Finset.Ico a (a + N), f k := by
    rw [Finset.sum_Ico_eq_sum_range, Nat.add_sub_cancel_left, Finset.sum_range]
  rw [e]
  refine Finset.sum_subset (fun k hk => ?_) fun k hk hk' => h0 k (by simpa using hk) ?_
  · simp only [Finset.mem_Ico, Finset.mem_range] at hk ⊢; omega
  · simp only [Finset.mem_Ico, not_and, not_lt] at hk'; omega

/-- The head and row of a row of the stacked queries. -/
def row8 (m : Fin 8) (r : Fin 256) : Fin 2048 := ⟨(m : ℕ) * 256 + r, by omega⟩

theorem dotp_coe (Q : Fin 64 → ℝ) (K : ℕ → Fin 64 → ℝ) (k : ℕ) (x y : Fin 64 → EReal) (hx : ∀ d, x d = (Q d : EReal))
    (hy : ∀ d, y d = (K k d : EReal)) : ∑ d, x d * y d = ((dotp Q K k : ℝ) : EReal) := by
  simp only [hx, hy]
  exact sum_mul_coe _ _ _

end Cert.KernelIdeal.Value
-- ==== Proof.KWord.lean ====
module

public import proofs.«01_k».proof.Proof.BodyIdeal
public import proofs.«01_k».proof.Proof.KBase
public import Idealize.ShloMosaic.Lib.WholeRead
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

open Cert.KernelIdeal.Hand

/-- The grid point at block `a` of queries, of the first batch row and group. -/
def pointAt (a : Fin 32) : grid0.Coords := fun x => match x with
  | ⟨0, _⟩ => (0 : Fin 2)
  | ⟨1, _⟩ => (0 : Fin 2)
  | ⟨2, _⟩ => a

/-- The block of queries of a grid point. -/
abbrev blockOf (i : grid0.Coords) : Fin 32 := i 2

theorem off1_val : ∀ a : Fin 32, k0_off1 (pointAt a) 2 = (a : ℕ) * 256 - 512 := by decide +kernel

theorem off1_at (i : grid0.Coords) : k0_off1 i = ![0, 0, (blockOf i : ℕ) * 256 - 512] := by
  have h : k0_off1 i 2 = (blockOf i : ℕ) * 256 - 512 := off1_val (blockOf i)
  rw [← h]
  rfl

theorem off6_val : ∀ a : Fin 32, k0_off6 (pointAt a) 1 = 1024 * ((a : ℕ) / 4) := by decide +kernel

theorem off6_at (i : grid0.Coords) : k0_off6 i = ![0, 1024 * ((blockOf i : ℕ) / 4)] := by
  have h : k0_off6 i 1 = 1024 * ((blockOf i : ℕ) / 4) := off6_val (blockOf i)
  rw [← h]
  rfl

theorem off7_val : ∀ a : Fin 32, k0_off7 (pointAt a) 2 = 1024 * ((a : ℕ) / 4) := by decide +kernel

theorem off7_at (i : grid0.Coords) : k0_off7 i = ![0, 0, 1024 * ((blockOf i : ℕ) / 4)] := by
  have h : k0_off7 i 2 = 1024 * ((blockOf i : ℕ) / 4) := off7_val (blockOf i)
  rw [← h]
  rfl

theorem trips1_val : ∀ a : Fin 32, (k0_t1_loop (pointAt a)).trips = (a : ℕ) / 4 := by decide +kernel

theorem trips1 (i : grid0.Coords) : (k0_t1_loop i).trips = (blockOf i : ℕ) / 4 := trips1_val (blockOf i)

theorem trips2_val : ∀ a : Fin 32, (k0_t2_loop (pointAt a)).trips = 0 := by decide +kernel

theorem trips2 (i : grid0.Coords) : (k0_t2_loop i).trips = 0 := trips2_val (blockOf i)

theorem trip_word : ∀ k : Fin 8, (Scalar.indexCast (Scalar.muli (Scf.iv 0#32 1#32 (k : ℕ)) 1024#32) : Index).toNat = 1024 * (k : ℕ) := by
  decide +kernel

theorem trip_lt {i : grid0.Coords} (k : Fin (k0_t1_loop i).trips) : (k : ℕ) < (blockOf i : ℕ) / 4 := by
  exact lt_of_lt_of_eq k.isLt (trips1 i)

theorem off2_at (i : grid0.Coords) (k : Fin (k0_t1_loop i).trips) : k0_off2 i k = ![0, 1024 * (k : ℕ)] := by
  have h := trip_word ⟨k, by have := trip_lt k; have := (blockOf i).isLt; omega⟩
  dsimp only at h
  rw [← h]
  rfl

theorem off3_at (i : grid0.Coords) (k : Fin (k0_t1_loop i).trips) : k0_off3 i k = ![0, 0, 1024 * (k : ℕ)] := by
  have h := trip_word ⟨k, by have := trip_lt k; have := (blockOf i).isLt; omega⟩
  dsimp only at h
  rw [← h]
  rfl

/-- The last tile's mask lets a query see the keys up to its own. -/
theorem last_word : ∀ a : Fin 32, Scalar.muli (Scalar.select (Scalar.andi (bodyRun.sl.v391 (pointAt a)) (Scalar.cmpi .ne (Scalar.remsi (bodyRun.sl.v0 (pointAt a)) 1024#32) 0#32))
    (Scalar.subi (bodyRun.sl.v380 (pointAt a)) 1#32) (bodyRun.sl.v380 (pointAt a))) 1024#32 = BitVec.ofNat 32 (1024 * ((a : ℕ) / 4)) := by
  decide +kernel

theorem block_start : ∀ a : Fin 32, bodyRun.sl.v0 (pointAt a) = BitVec.ofNat 32 ((a : ℕ) * 256) := by decide +kernel

theorem last_mask (i : grid0.Coords) (m : Fin 8) (r : Fin 256) (c : Fin 1024) :
    k0_pay68 (bodyRun.sl.v0 i) 1024#32 (bodyRun.sl.v380 i) (bodyRun.sl.v391 i) (ix3 m r c)
      = BitVec.ofBool (decide (1024 * ((blockOf i : ℕ) / 4) + (c : ℕ) ≤ (blockOf i : ℕ) * 256 + r)) := by
  have h1 : Scalar.muli (Scalar.select (Scalar.andi (bodyRun.sl.v391 i) (Scalar.cmpi .ne (Scalar.remsi (bodyRun.sl.v0 i) 1024#32) 0#32))
    (Scalar.subi (bodyRun.sl.v380 i) 1#32) (bodyRun.sl.v380 i)) 1024#32 = BitVec.ofNat 32 (1024 * ((blockOf i : ℕ) / 4)) := last_word (blockOf i)
  have h2 : bodyRun.sl.v0 i = BitVec.ofNat 32 ((blockOf i : ℕ) * 256) := block_start (blockOf i)
  generalize blockOf i = a at h1 h2 ⊢
  revert h1 h2
  generalize bodyRun.sl.v0 i = v0
  generalize bodyRun.sl.v380 i = v380
  generalize bodyRun.sl.v391 i = v391
  intro h1 h2
  have ha := a.isLt
  have hr := r.isLt
  have hc := c.isLt
  unfold k0_pay68
  dsimp only
  rw [h1, h2]
  pointwise
  rw [add_word, add_word, WordCmp.cmpi_sle_ofNat (by omega) (by omega)]

end Cert.KernelIdeal.Value
-- ==== Proof.KLoad.lean ====
module

public import proofs.«01_k».proof.Proof.KBase
public import Idealize.ShloMosaic.Lib.WholeRead
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

section
variable {F : FTy → Type} [FloatOps F]

theorem load_tile (mr : Memref sig .tc .vmem S1x64x8192 .bf16) (hm : mr.IsWhole) (x : Vec F S1x64x8192 .bf16) (off : Fin 3 → ℕ)
    (inb : ∀ a, off a + S1x64x1024.size a ≤ S1x64x8192.size a) (o : ℕ) (ho : o + 1024 ≤ 8192) (hoff : off = ![0, 0, o]) (d : Fin 64) (c : Fin 1024) :
    View.readAt (Elt F) mr.view (Rect.unit (s := S1x64x8192) off S1x64x1024.size inb).toLoadRect (hm.unread x) (ix3 0 d c)
      = x (ix3 0 d ⟨o + c, by omega⟩) := by
  subst hoff
  rw [View.readAt_eq_ld, Memref.IsWhole.read_unread]
  pointwise

theorem load_window (mr : Memref sig .tc .vmem S1x64x8192 .bf16) (hm : mr.IsWhole) (x : Vec F S1x64x8192 .bf16) (off : Fin 3 → ℕ)
    (inb : ∀ a, off a + S1x64x768.size a ≤ S1x64x8192.size a) (o : ℕ) (ho : o + 768 ≤ 8192) (hoff : off = ![0, 0, o]) (d : Fin 64) (c : Fin 768) :
    View.readAt (Elt F) mr.view (Rect.unit (s := S1x64x8192) off S1x64x768.size inb).toLoadRect (hm.unread x) (ix3 0 d c)
      = x (ix3 0 d ⟨o + c, by omega⟩) := by
  subst hoff
  rw [View.readAt_eq_ld, Memref.IsWhole.read_unread]
  pointwise

theorem load_rows (mr : Memref sig .tc .vmem S128x8192 .bf16) (hm : mr.IsWhole) (x : Vec F S128x8192 .bf16) (off : Fin 2 → ℕ)
    (inb : ∀ a, off a + S128x1024.size a ≤ S128x8192.size a) (o : ℕ) (ho : o + 1024 ≤ 8192) (hoff : off = ![0, o]) (j : Fin 128) (c : Fin 1024) :
    View.readAt (Elt F) mr.view (Rect.unit (s := S128x8192) off S128x1024.size inb).toLoadRect (hm.unread x) (ix2 j c)
      = x (ix2 j ⟨o + c, by omega⟩) := by
  subst hoff
  rw [View.readAt_eq_ld, Memref.IsWhole.read_unread]
  pointwise

theorem load_query (mr : Memref sig .tc .vmem S1x8x256x64 .bf16) (hm : mr.IsWhole) (x : Vec F S1x8x256x64 .bf16)
    (inb : ∀ a, (![0, 0, 0, 0] : Fin 4 → ℕ) a + S1x8x256x64.size a ≤ S1x8x256x64.size a) (m : Fin 8) (r : Fin 256) (d : Fin 64) :
    View.readAt (Elt F) mr.view (Rect.unit (s := S1x8x256x64) ![0, 0, 0, 0] S1x8x256x64.size inb).toLoadRect (hm.unread x) (ix4 0 m r d)
      = x (ix4 0 m r d) := by
  rw [View.readAt_eq_ld, Memref.IsWhole.read_unread]
  pointwise

theorem load_gates (mr : Memref sig .tc .vmem S1x256x128 .f32) (hm : mr.IsWhole) (x : Vec F S1x256x128 .f32)
    (inb : ∀ a, (![0, 0, 0] : Fin 3 → ℕ) a + S1x256x128.size a ≤ S1x256x128.size a) (r : Fin 256) (l : Fin 128) :
    View.readAt (Elt F) mr.view (Rect.unit (s := S1x256x128) ![0, 0, 0] S1x256x128.size inb).toLoadRect (hm.unread x) (ix3 0 r l)
      = x (ix3 0 r l) := by
  rw [View.readAt_eq_ld, Memref.IsWhole.read_unread]
  pointwise

theorem load_spread (mr : Memref sig .tc .vmem S1x128x1536 .bf16) (hm : mr.IsWhole) (x : Vec F S1x128x1536 .bf16)
    (inb : ∀ a, (![0, 0, 0] : Fin 3 → ℕ) a + S1x128x1536.size a ≤ S1x128x1536.size a) (l : Fin 128) (c : Fin 1536) :
    View.readAt (Elt F) mr.view (Rect.unit (s := S1x128x1536) ![0, 0, 0] S1x128x1536.size inb).toLoadRect (hm.unread x) (ix3 0 l c)
      = x (ix3 0 l c) := by
  rw [View.readAt_eq_ld, Memref.IsWhole.read_unread]
  pointwise

theorem load_cmp_512 (mr : Memref sig .tc .vmem S1x1x1x512x64 .bf16) (hm : mr.IsWhole) (x : Vec F S1x1x1x512x64 .bf16)
    (inb : ∀ a, (![0, 0, 0, 0, 0] : Fin 5 → ℕ) a + S1x1x1x512x64.size a ≤ S1x1x1x512x64.size a) (c : Fin 512) (d : Fin 64) :
    View.readAt (Elt F) mr.view (Rect.unit (s := S1x1x1x512x64) ![0, 0, 0, 0, 0] S1x1x1x512x64.size inb).toLoadRect (hm.unread x) (ix5 0 0 0 c d)
      = x (ix5 0 0 0 ⟨c, by omega⟩ d) := by
  rw [View.readAt_eq_ld, Memref.IsWhole.read_unread]
  pointwise

theorem load_cmp_384 (mr : Memref sig .tc .vmem S1x1x1x512x64 .bf16) (hm : mr.IsWhole) (x : Vec F S1x1x1x512x64 .bf16)
    (inb : ∀ a, (![0, 0, 0, 0, 0] : Fin 5 → ℕ) a + S1x1x1x384x64.size a ≤ S1x1x1x512x64.size a) (c : Fin 384) (d : Fin 64) :
    View.readAt (Elt F) mr.view (Rect.unit (s := S1x1x1x512x64) ![0, 0, 0, 0, 0] S1x1x1x384x64.size inb).toLoadRect (hm.unread x) (ix5 0 0 0 c d)
      = x (ix5 0 0 0 ⟨c, by omega⟩ d) := by
  rw [View.readAt_eq_ld, Memref.IsWhole.read_unread]
  pointwise

theorem load_cmp_256 (mr : Memref sig .tc .vmem S1x1x1x512x64 .bf16) (hm : mr.IsWhole) (x : Vec F S1x1x1x512x64 .bf16)
    (inb : ∀ a, (![0, 0, 0, 0, 0] : Fin 5 → ℕ) a + S1x1x1x256x64.size a ≤ S1x1x1x512x64.size a) (c : Fin 256) (d : Fin 64) :
    View.readAt (Elt F) mr.view (Rect.unit (s := S1x1x1x512x64) ![0, 0, 0, 0, 0] S1x1x1x256x64.size inb).toLoadRect (hm.unread x) (ix5 0 0 0 c d)
      = x (ix5 0 0 0 ⟨c, by omega⟩ d) := by
  rw [View.readAt_eq_ld, Memref.IsWhole.read_unread]
  pointwise

theorem load_cmp_128 (mr : Memref sig .tc .vmem S1x1x1x512x64 .bf16) (hm : mr.IsWhole) (x : Vec F S1x1x1x512x64 .bf16)
    (inb : ∀ a, (![0, 0, 0, 0, 0] : Fin 5 → ℕ) a + S1x1x1x128x64.size a ≤ S1x1x1x512x64.size a) (c : Fin 128) (d : Fin 64) :
    View.readAt (Elt F) mr.view (Rect.unit (s := S1x1x1x512x64) ![0, 0, 0, 0, 0] S1x1x1x128x64.size inb).toLoadRect (hm.unread x) (ix5 0 0 0 c d)
      = x (ix5 0 0 0 ⟨c, by omega⟩ d) := by
  rw [View.readAt_eq_ld, Memref.IsWhole.read_unread]
  pointwise

end

end Cert.KernelIdeal.Value
-- ==== Proof.KCmp.lean ====
module

public import proofs.«01_k».proof.Proof.KBase
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

/-- A row's scores over the sum of their exponentials, the row put out where all of it is masked. -/
theorem soft_of {n : ℕ} (hr : (⟨3, ![8, 256, n]⟩ : Shape).Reduces [2] S8x256) (hc : S8x256.ShapeCasts S8x256x1)
    (hb : S8x256x1.Broadcasts ⟨3, ![8, 256, n]⟩) (x E : FVec Ideal ⟨3, ![8, 256, n]⟩ .f32) (M : FVec Ideal S8x256x1 .f32)
    (hM : M = shapeCast S8x256x1 (multiReduction .maximumf [2] S8x256 x 0xFF800000#32 hr (.inl rfl) rfl) hc)
    (hE : E = exp (subf x (broadcastTo ⟨3, ![8, 256, n]⟩ M hb)))
    (m : Fin 8) (r : Fin 256) (s : Fin n → EReal) (hx : ∀ k, x (ix3 m r k) = s k) (hs : ∀ k, s k ≠ ⊤) (c : Fin n) :
    mulf E (broadcastTo ⟨3, ![8, 256, n]⟩ (select (cmpf .ogt M (broadcast S8x256x1 (Named.named κ "half" 0xF0C9F2CA#32)))
      (divf (broadcast S8x256x1 (Scalar.ofBits .f32 0x3F800000#32))
        (shapeCast S8x256x1 (multiReduction .add [2] S8x256 E 0x00000000#32 hr (.inl rfl) rfl) hc))
      (broadcast S8x256x1 (Scalar.ofBits .f32 0x00000000#32))) hb) (ix3 m r c) = ((prob s c : ℝ) : EReal) := by
  subst hE hM
  pointwise
  rw [half_bot, bits_bot]
  simp only [hx]
  have e := reciprocal_softmax s hs c
  convert e

/-- The score of a compressed key as the kernel masks it. -/
theorem cmp_score (Q : Fin 64 → ℝ) (K : ℕ → Fin 64 → ℝ) (a r c : ℕ) (ha : a < 32) (hr : r < 256) (hc : c < 512)
    (x y : Fin 64 → EReal) (hx : ∀ d, x d = ((Q d : ℝ) : EReal)) (hy : ∀ d, y d = ((K c d : ℝ) : EReal)) :
    Scalar.select (IntOp.cmpi .sle (IntOp.addi (IntOp.muli (BitVec.ofNat 32 c) 16#32) 31#32)
        (IntOp.addi (BitVec.ofNat 32 (a * 256)) (BitVec.ofNat 32 r)))
      (∑ d, x d * y d) (Named.named κ "neg" 0xF149F2CA#32 : Ideal FTy.f32) = rowC Q K (a * 256 + r) c := by
  rw [mul_word, add_word, add_word, WordCmp.cmpi_sle_ofNat (by omega) (by omega), WordCmp.select_decide, neg_bot,
    dotp_coe Q K c x y hx hy, rowC, if_congr (show c * 16 + 31 ≤ a * 256 + r ↔ 16 * c + 31 ≤ a * 256 + r by omega) rfl rfl]

theorem rowC_out (Q : Fin 64 → ℝ) (K : ℕ → Fin 64 → ℝ) {q n k : ℕ} (hq : q < 16 * n + 31) (hk : n ≤ k) : rowC Q K q k = ⊥ := by
  rw [rowC, if_neg (by omega)]

/-- The compressed attention over the columns a branch takes. -/
theorem cmp_att (Q : Fin 64 → ℝ) (K : ℕ → Fin 64 → ℝ) (V : ℕ → ℝ) {q n : ℕ} (hn : n ≤ 512) (hq : q < 16 * n + 31) (hq8 : q < 8192)
    (p : Fin n → EReal) (y : Fin n → EReal) (hp : ∀ c, p c = ((prob (fun k : Fin n => rowC Q K q k) c : ℝ) : EReal))
    (hy : ∀ c, y c = ((V c : ℝ) : EReal)) : ∑ c, p c * y c = ((att (rowC Q K q) 511 V : ℝ) : EReal) := by
  have e : att (rowC Q K q) n V = att (rowC Q K q) 511 V :=
    (att_of_bot (rowC Q K q) V hn fun k h1 _ => rowC_out Q K hq h1).trans
      (att_of_bot (rowC Q K q) V (N := 511) (M := 512) (by omega) fun k h1 _ => rowC_out Q K (n := 511) (by omega) h1).symm
  rw [← e, ← sum_prob, ← coe_sum]
  exact Finset.sum_congr rfl fun c _ => by rw [hp, hy, EReal.coe_mul]

end Cert.KernelIdeal.Value
-- ==== Proof.KSw.lean ====
module

public import proofs.«01_k».proof.Proof.KCmp
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

section
variable (Q : Fin 8 → Fin 256 → Fin 64 → ℝ) (K : ℕ → Fin 64 → ℝ) (V : Fin 64 → ℕ → ℝ) (a : Fin 32) (v3 : FVec Ideal S2048x64 .bf16)
  (hq : ∀ m r d, v3 (ix2 (row8 m r) d) = ((Q m r d : ℝ) : EReal))

/-- The block's importance, summed in three parts of which the last two are nothing. -/
theorem imp_of {n q : ℕ} (hn : n ≤ 512) (hqn : q < 16 * n + 31) (hq8 : q < 8192) (Q : Fin 8 → Fin 64 → ℝ) (S : Fin 8 → Fin n → EReal)
    (hS : ∀ m c, S m c = ((prob (fun k : Fin n => rowC (Q m) K q k) c : ℝ) : EReal)) (P : Fin n → EReal)
    (hP : ∀ c, P c = ∑ m, S m c) (l : Fin 128) (b : Fin n → BitVec 1)
    (hb : ∀ x : Fin n, b x = IntOp.andi
      (IntOp.cmpi CmpIPredicate.slt (IntOp.muli (BitVec.ofNat 32 (x : ℕ)) 16#32) (IntOp.addi (IntOp.muli (BitVec.ofNat 32 (l : ℕ)) 64#32) 64#32))
      (IntOp.cmpi CmpIPredicate.sgt (IntOp.addi (IntOp.muli (BitVec.ofNat 32 (x : ℕ)) 16#32) 32#32) (IntOp.muli (BitVec.ofNat 32 (l : ℕ)) 64#32))) :
    ((∑ x, Scalar.select (b x) (P x) (0 : EReal)) + ∑ x, Scalar.select (b x) (P x - P x) (0 : EReal))
      + ∑ x, Scalar.select (b x) (P x - P x - (P x - P x)) (0 : EReal) = ((imp Q K q l : ℝ) : EReal) := by
  have hw : ∀ m, wden (rowC (Q m) K q) n = wden (rowC (Q m) K q) 511 := fun m =>
    (wden_of_bot (rowC (Q m) K q) hn fun k h1 _ => rowC_out (Q m) K hqn h1).trans
      (wden_of_bot (rowC (Q m) K q) (N := 511) (M := 512) (by omega) fun k h1 _ => rowC_out (Q m) K (n := 511) (by omega) h1).symm
  have hp : ∀ c : Fin n, P c = (((∑ m, ew (rowC (Q m) K q c) / wden (rowC (Q m) K q) 511 : ℝ)) : EReal) := by
    intro c
    rw [hP, ← coe_sum]
    exact Finset.sum_congr rfl fun m _ => by rw [hS, prob_fin (rowC (Q m) K q) n c, hw]
  have hb' : ∀ (x : Fin n) (y : EReal), Scalar.select (b x) y (0 : EReal) = if 16 * (x : ℕ) < 64 * (l : ℕ) + 64 ∧ 64 * (l : ℕ) < 16 * (x : ℕ) + 32 then y else 0 := by
    intro x y
    have hx := x.isLt
    rw [hb, mul_word, mul_word, add_word, add_word, WordCmp.cmpi_slt_ofNat (by omega) (by omega), WordCmp.cmpi_sgt_ofNat (by omega) (by omega),
      WordCmp.andi_ofBool, WordCmp.select_ofBool]
    refine if_congr ?_ rfl rfl
    rw [Bool.and_eq_true, decide_eq_true_eq, decide_eq_true_eq]; omega
  have hz : ∀ x : Fin n, P x - P x = 0 := fun x => by rw [hp, ← EReal.coe_sub, sub_self, EReal.coe_zero]
  simp only [hb', hz, sub_zero, ite_self, Finset.sum_const_zero, add_zero]
  have e : imp Q K q l = ∑ c ∈ Finset.range n, (∑ m, ew (rowC (Q m) K q c) / wden (rowC (Q m) K q) 511) * ov c l := by
    have z : ∀ c, q < 16 * c + 31 → (∑ m, ew (rowC (Q m) K q c) / wden (rowC (Q m) K q) 511) * ov c l = 0 := by
      intro c hc
      rw [Finset.sum_eq_zero fun m _ => by rw [rowC, if_neg (by omega), ew_bot, zero_div], zero_mul]
    unfold imp
    rw [sum_range_of_zero _ hn fun k h1 _ => z k (by omega), sum_range_of_zero _ (N := 511) (M := 512) (by omega) fun k h1 _ => z k (by omega)]
  rw [e, Finset.sum_range, ← coe_sum]
  refine Finset.sum_congr rfl fun c _ => ?_
  rw [hp]
  unfold ov
  split_ifs <;> simp

include hq

section
variable (x y : Vec Ideal S1x1x1x512x64 .bf16) (hx : ∀ c d, x (ix5 0 0 0 c d) = ((K (c : ℕ) d : ℝ) : EReal))
  (hy : ∀ c d, y (ix5 0 0 0 c d) = ((V d (c : ℕ) : ℝ) : EReal))
include hx

theorem prob_512 (m : Fin 8) (r : Fin 256) (c : Fin 512) : k0_pay2 (BitVec.ofNat 32 ((a : ℕ) * 256)) v3 x (ix3 m r c)
    = ((prob (fun k : Fin 512 => rowC (Q m r) K ((a : ℕ) * 256 + r) k) c : ℝ) : EReal) := by
  unfold k0_pay2
  refine soft_of _ _ _ _ _ _ rfl rfl m r (fun k : Fin 512 => rowC (Q m r) K ((a : ℕ) * 256 + r) k) (fun k => ?_) (fun k => rowC_ne_top _ _ _ _) c
  pointwise
  exact cmp_score (Q m r) K a r k a.isLt r.isLt (by omega) _ _ (hq m r) (hx k)

theorem imp_512 (hn : (a : ℕ) * 256 + 256 ≤ 16 * 512 + 31) (r : Fin 256) (l : Fin 128) :
    k0_pay12 (k0_pay2 (BitVec.ofNat 32 ((a : ℕ) * 256)) v3 x) (ix2 r l)
      = ((imp (fun m => Q m r) K ((a : ℕ) * 256 + r) l : ℝ) : EReal) := by
  have hp := fun m c => prob_512 Q K a v3 hq x hx m r c
  revert hp
  generalize k0_pay2 (BitVec.ofNat 32 ((a : ℕ) * 256)) v3 x = P
  intro hp
  unfold k0_pay12
  pointwise
  exact imp_of K (by omega) (by omega) (by omega) _ (fun m c => P (ix3 m r c)) hp _ (fun c => rfl) l _ (fun x => rfl)

include hy

theorem out_512 (hn : (a : ℕ) * 256 + 256 ≤ 16 * 512 + 31) (m : Fin 8) (r : Fin 256) (l : Fin 128) :
    k0_pay3 (BitVec.ofNat 32 ((a : ℕ) * 256)) v3 x y (ix3 m r l)
      = ((att (rowC (Q m r) K ((a : ℕ) * 256 + r)) 511 (V ⟨(l : ℕ) % 64, by omega⟩) : ℝ) : EReal) := by
  have hp := fun c => prob_512 Q K a v3 hq x hx m r c
  revert hp
  unfold k0_pay3
  generalize k0_pay2 (BitVec.ofNat 32 ((a : ℕ) * 256)) v3 x = P
  intro hp
  pointwise
  refine cmp_att (Q m r) K (V ⟨(l : ℕ) % 64, by omega⟩) (n := 512) (by omega) (by omega) (by omega) _ _ hp fun c => ?_
  by_cases h : (l : ℕ) < 64
  · rw [dif_pos h, hy]
    exact congrArg (fun d => ((V d (c : ℕ) : ℝ) : EReal)) (Fin.ext (by dsimp only; omega))
  · rw [dif_neg h, hy]
    exact congrArg (fun d => ((V d (c : ℕ) : ℝ) : EReal)) (Fin.ext (by dsimp only; omega))

end

section
variable (x y : Vec Ideal S1x1x1x384x64 .bf16) (hx : ∀ c d, x (ix5 0 0 0 c d) = ((K (c : ℕ) d : ℝ) : EReal))
  (hy : ∀ c d, y (ix5 0 0 0 c d) = ((V d (c : ℕ) : ℝ) : EReal))
include hx

theorem prob_384 (m : Fin 8) (r : Fin 256) (c : Fin 384) : k0_pay4 (BitVec.ofNat 32 ((a : ℕ) * 256)) v3 x (ix3 m r c)
    = ((prob (fun k : Fin 384 => rowC (Q m r) K ((a : ℕ) * 256 + r) k) c : ℝ) : EReal) := by
  unfold k0_pay4
  refine soft_of _ _ _ _ _ _ rfl rfl m r (fun k : Fin 384 => rowC (Q m r) K ((a : ℕ) * 256 + r) k) (fun k => ?_) (fun k => rowC_ne_top _ _ _ _) c
  pointwise
  exact cmp_score (Q m r) K a r k a.isLt r.isLt (by omega) _ _ (hq m r) (hx k)

theorem imp_384 (hn : (a : ℕ) * 256 + 256 ≤ 16 * 384 + 31) (r : Fin 256) (l : Fin 128) :
    k0_pay13 (k0_pay4 (BitVec.ofNat 32 ((a : ℕ) * 256)) v3 x) (ix2 r l)
      = ((imp (fun m => Q m r) K ((a : ℕ) * 256 + r) l : ℝ) : EReal) := by
  have hp := fun m c => prob_384 Q K a v3 hq x hx m r c
  revert hp
  generalize k0_pay4 (BitVec.ofNat 32 ((a : ℕ) * 256)) v3 x = P
  intro hp
  unfold k0_pay13
  pointwise
  exact imp_of K (by omega) (by omega) (by omega) _ (fun m c => P (ix3 m r c)) hp _ (fun c => rfl) l _ (fun x => rfl)

include hy

theorem out_384 (hn : (a : ℕ) * 256 + 256 ≤ 16 * 384 + 31) (m : Fin 8) (r : Fin 256) (l : Fin 128) :
    k0_pay5 (BitVec.ofNat 32 ((a : ℕ) * 256)) v3 x y (ix3 m r l)
      = ((att (rowC (Q m r) K ((a : ℕ) * 256 + r)) 511 (V ⟨(l : ℕ) % 64, by omega⟩) : ℝ) : EReal) := by
  have hp := fun c => prob_384 Q K a v3 hq x hx m r c
  revert hp
  unfold k0_pay5
  generalize k0_pay4 (BitVec.ofNat 32 ((a : ℕ) * 256)) v3 x = P
  intro hp
  pointwise
  refine cmp_att (Q m r) K (V ⟨(l : ℕ) % 64, by omega⟩) (n := 384) (by omega) (by omega) (by omega) _ _ hp fun c => ?_
  by_cases h : (l : ℕ) < 64
  · rw [dif_pos h, hy]
    exact congrArg (fun d => ((V d (c : ℕ) : ℝ) : EReal)) (Fin.ext (by dsimp only; omega))
  · rw [dif_neg h, hy]
    exact congrArg (fun d => ((V d (c : ℕ) : ℝ) : EReal)) (Fin.ext (by dsimp only; omega))

end

section
variable (x y : Vec Ideal S1x1x1x256x64 .bf16) (hx : ∀ c d, x (ix5 0 0 0 c d) = ((K (c : ℕ) d : ℝ) : EReal))
  (hy : ∀ c d, y (ix5 0 0 0 c d) = ((V d (c : ℕ) : ℝ) : EReal))
include hx

theorem prob_256 (m : Fin 8) (r : Fin 256) (c : Fin 256) : k0_pay6 (BitVec.ofNat 32 ((a : ℕ) * 256)) v3 x (ix3 m r c)
    = ((prob (fun k : Fin 256 => rowC (Q m r) K ((a : ℕ) * 256 + r) k) c : ℝ) : EReal) := by
  unfold k0_pay6
  refine soft_of _ _ _ _ _ _ rfl rfl m r (fun k : Fin 256 => rowC (Q m r) K ((a : ℕ) * 256 + r) k) (fun k => ?_) (fun k => rowC_ne_top _ _ _ _) c
  pointwise
  exact cmp_score (Q m r) K a r k a.isLt r.isLt (by omega) _ _ (hq m r) (hx k)

theorem imp_256 (hn : (a : ℕ) * 256 + 256 ≤ 16 * 256 + 31) (r : Fin 256) (l : Fin 128) :
    k0_pay14 (k0_pay6 (BitVec.ofNat 32 ((a : ℕ) * 256)) v3 x) (ix2 r l)
      = ((imp (fun m => Q m r) K ((a : ℕ) * 256 + r) l : ℝ) : EReal) := by
  have hp := fun m c => prob_256 Q K a v3 hq x hx m r c
  revert hp
  generalize k0_pay6 (BitVec.ofNat 32 ((a : ℕ) * 256)) v3 x = P
  intro hp
  unfold k0_pay14
  pointwise
  exact imp_of K (by omega) (by omega) (by omega) _ (fun m c => P (ix3 m r c)) hp _ (fun c => rfl) l _ (fun x => rfl)

include hy

theorem out_256 (hn : (a : ℕ) * 256 + 256 ≤ 16 * 256 + 31) (m : Fin 8) (r : Fin 256) (l : Fin 128) :
    k0_pay7 (BitVec.ofNat 32 ((a : ℕ) * 256)) v3 x y (ix3 m r l)
      = ((att (rowC (Q m r) K ((a : ℕ) * 256 + r)) 511 (V ⟨(l : ℕ) % 64, by omega⟩) : ℝ) : EReal) := by
  have hp := fun c => prob_256 Q K a v3 hq x hx m r c
  revert hp
  unfold k0_pay7
  generalize k0_pay6 (BitVec.ofNat 32 ((a : ℕ) * 256)) v3 x = P
  intro hp
  pointwise
  refine cmp_att (Q m r) K (V ⟨(l : ℕ) % 64, by omega⟩) (n := 256) (by omega) (by omega) (by omega) _ _ hp fun c => ?_
  by_cases h : (l : ℕ) < 64
  · rw [dif_pos h, hy]
    exact congrArg (fun d => ((V d (c : ℕ) : ℝ) : EReal)) (Fin.ext (by dsimp only; omega))
  · rw [dif_neg h, hy]
    exact congrArg (fun d => ((V d (c : ℕ) : ℝ) : EReal)) (Fin.ext (by dsimp only; omega))

end

section
variable (x y : Vec Ideal S1x1x1x128x64 .bf16) (hx : ∀ c d, x (ix5 0 0 0 c d) = ((K (c : ℕ) d : ℝ) : EReal))
  (hy : ∀ c d, y (ix5 0 0 0 c d) = ((V d (c : ℕ) : ℝ) : EReal))
include hx

theorem prob_128 (m : Fin 8) (r : Fin 256) (c : Fin 128) : k0_pay8 (BitVec.ofNat 32 ((a : ℕ) * 256)) v3 x (ix3 m r c)
    = ((prob (fun k : Fin 128 => rowC (Q m r) K ((a : ℕ) * 256 + r) k) c : ℝ) : EReal) := by
  unfold k0_pay8
  refine soft_of _ _ _ _ _ _ rfl rfl m r (fun k : Fin 128 => rowC (Q m r) K ((a : ℕ) * 256 + r) k) (fun k => ?_) (fun k => rowC_ne_top _ _ _ _) c
  pointwise
  exact cmp_score (Q m r) K a r k a.isLt r.isLt (by omega) _ _ (hq m r) (hx k)

theorem imp_128 (hn : (a : ℕ) * 256 + 256 ≤ 16 * 128 + 31) (r : Fin 256) (l : Fin 128) :
    k0_pay15 (k0_pay8 (BitVec.ofNat 32 ((a : ℕ) * 256)) v3 x) (ix2 r l)
      = ((imp (fun m => Q m r) K ((a : ℕ) * 256 + r) l : ℝ) : EReal) := by
  have hp := fun m c => prob_128 Q K a v3 hq x hx m r c
  revert hp
  generalize k0_pay8 (BitVec.ofNat 32 ((a : ℕ) * 256)) v3 x = P
  intro hp
  unfold k0_pay15
  pointwise
  exact imp_of K (by omega) (by omega) (by omega) _ (fun m c => P (ix3 m r c)) hp _ (fun c => rfl) l _ (fun x => rfl)

include hy

theorem out_128 (hn : (a : ℕ) * 256 + 256 ≤ 16 * 128 + 31) (m : Fin 8) (r : Fin 256) (l : Fin 128) :
    k0_pay9 (BitVec.ofNat 32 ((a : ℕ) * 256)) v3 x y (ix3 m r l)
      = ((att (rowC (Q m r) K ((a : ℕ) * 256 + r)) 511 (V ⟨(l : ℕ) % 64, by omega⟩) : ℝ) : EReal) := by
  have hp := fun c => prob_128 Q K a v3 hq x hx m r c
  revert hp
  unfold k0_pay9
  generalize k0_pay8 (BitVec.ofNat 32 ((a : ℕ) * 256)) v3 x = P
  intro hp
  pointwise
  refine cmp_att (Q m r) K (V ⟨(l : ℕ) % 64, by omega⟩) (n := 128) (by omega) (by omega) (by omega) _ _ hp fun c => ?_
  by_cases h : (l : ℕ) < 64
  · rw [dif_pos h, hy]
    exact congrArg (fun d => ((V d (c : ℕ) : ℝ) : EReal)) (Fin.ext (by dsimp only; omega))
  · rw [dif_neg h, hy]
    exact congrArg (fun d => ((V d (c : ℕ) : ℝ) : EReal)) (Fin.ext (by dsimp only; omega))

end

end

end Cert.KernelIdeal.Value
-- ==== Proof.KCase.lean ====
module

public import proofs.«01_k».proof.Proof.KWord
public import proofs.«01_k».proof.Proof.KLoad
public import proofs.«01_k».proof.Proof.KSw
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

open Cert.KernelIdeal.Hand

/-- The number of the case the switch takes, counted from the narrowest. -/
def caseWord (i : grid0.Coords) : BitVec 32 := (Scalar.minsi (Scalar.maxsi (Scalar.subi (Scalar.minsi (Scalar.select (Scalar.andi (Scalar.cmpi CmpIPredicate.ne (Scalar.subi (bodyRun.sl.v31 i) (Scalar.extui (bodyRun.sl.v32 i))) (Scalar.subi (Scalar.extui (Scalar.cmpi CmpIPredicate.sgt 128#32 0#32)) (Scalar.extui (Scalar.cmpi CmpIPredicate.slt 128#32 0#32)))) (Scalar.cmpi CmpIPredicate.ne (Scalar.remsi (bodyRun.sl.v28 i) 128#32) 0#32)) (Scalar.subi (bodyRun.sl.v29 i) 1#32) (bodyRun.sl.v29 i)) 4#32) 1#32) 0#32) 3#32)

theorem case_bounds : ∀ a : Fin 32,
    (¬ Scalar.cmpi .ne (caseWord (pointAt a)) 0#32 = 1#1 → (a : ℕ) * 256 + 256 ≤ 16 * 128 + 31) ∧
    (¬ Scalar.cmpi .ne (Scalar.subi (caseWord (pointAt a)) 1#32) 0#32 = 1#1 → (a : ℕ) * 256 + 256 ≤ 16 * 256 + 31) ∧
    (¬ Scalar.cmpi .ne (Scalar.subi (Scalar.subi (caseWord (pointAt a)) 1#32) 1#32) 0#32 = 1#1 → (a : ℕ) * 256 + 256 ≤ 16 * 384 + 31) := by
  decide +kernel

set_option maxHeartbeats 1000000 in
/-- Whichever case is taken, the switch yields the compressed branch and the blocks' importances. -/
theorem case_at (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (Q : Fin 8 → Fin 256 → Fin 64 → ℝ) (K : ℕ → Fin 64 → ℝ) (V : Fin 64 → ℕ → ℝ) (a : Fin 32)
    (v3 : FVec Ideal S2048x64 .bf16) (hq : ∀ m r d, v3 (ix2 (row8 m r) d) = ((Q m r d : ℝ) : EReal))
    (x y : Vec Ideal S1x1x1x512x64 .bf16) (hx : ∀ c d, x (ix5 0 0 0 c d) = ((K (c : ℕ) d : ℝ) : EReal))
    (hy : ∀ c d, y (ix5 0 0 0 c d) = ((V d (c : ℕ) : ℝ) : EReal)) (v49 : BitVec 32) (v50 : BitVec 1)
    (h0 : ¬ v50 = 1#1 → (a : ℕ) * 256 + 256 ≤ 16 * 128 + 31)
    (h1 : ¬ Scalar.cmpi .ne (Scalar.subi v49 1#32) 0#32 = 1#1 → (a : ℕ) * 256 + 256 ≤ 16 * 256 + 31)
    (h2 : ¬ Scalar.cmpi .ne (Scalar.subi (Scalar.subi v49 1#32) 1#32) 0#32 = 1#1 → (a : ℕ) * 256 + 256 ≤ 16 * 384 + 31) :
    (∀ m r (l : Fin 128), (switchOut c i arg3 harg3 arg4 harg4 arg5 harg5 arg6 harg6 arg7 harg7 arg8 harg8 arg9 harg9 arg10 harg10 arg11 harg11 arg12 harg12 arg13 harg13 arg14 harg14 (BitVec.ofNat 32 ((a : ℕ) * 256)) v3 v49 v50 (harg5.unread x) (harg6.unread y)).1 (ix3 m r l)
      = ((att (rowC (Q m r) K ((a : ℕ) * 256 + r)) 511 (V ⟨(l : ℕ) % 64, by omega⟩) : ℝ) : EReal)) ∧
    (∀ r (l : Fin 128), (switchOut c i arg3 harg3 arg4 harg4 arg5 harg5 arg6 harg6 arg7 harg7 arg8 harg8 arg9 harg9 arg10 harg10 arg11 harg11 arg12 harg12 arg13 harg13 arg14 harg14 (BitVec.ofNat 32 ((a : ℕ) * 256)) v3 v49 v50 (harg5.unread x) (harg6.unread y)).2 (ix2 r l)
      = ((imp (fun m => Q m r) K ((a : ℕ) * 256 + r) l : ℝ) : EReal)) := by
  have ha := a.isLt
  unfold switchOut switchRun
  dsimp only
  by_cases e0 : v50 = 1#1
  · rw [if_pos e0]
    by_cases e1 : Scalar.cmpi .ne (Scalar.subi v49 1#32) 0#32 = 1#1
    · rw [if_pos e1]
      by_cases e2 : Scalar.cmpi .ne (Scalar.subi (Scalar.subi v49 1#32) 1#32) 0#32 = 1#1
      · rw [if_pos e2]
        constructor
        · intro m r l
          exact out_512 Q K V a v3 hq _ _ (fun c d => (load_cmp_512 arg5 harg5 x _ c d).trans (hx _ _)) (fun c d => (load_cmp_512 arg6 harg6 y _ c d).trans (hy _ _)) (by omega) m r l
        · intro r l
          exact imp_512 Q K a v3 hq _ (fun c d => (load_cmp_512 arg5 harg5 x _ c d).trans (hx _ _)) (by omega) r l
      · rw [if_neg e2]
        have h := h2 e2
        constructor
        · intro m r l
          exact out_384 Q K V a v3 hq _ _ (fun c d => (load_cmp_384 arg5 harg5 x _ c d).trans (hx _ _)) (fun c d => (load_cmp_384 arg6 harg6 y _ c d).trans (hy _ _)) (by omega) m r l
        · intro r l
          exact imp_384 Q K a v3 hq _ (fun c d => (load_cmp_384 arg5 harg5 x _ c d).trans (hx _ _)) (by omega) r l
    · rw [if_neg e1]
      have h := h1 e1
      constructor
      · intro m r l
        exact out_256 Q K V a v3 hq _ _ (fun c d => (load_cmp_256 arg5 harg5 x _ c d).trans (hx _ _)) (fun c d => (load_cmp_256 arg6 harg6 y _ c d).trans (hy _ _)) (by omega) m r l
      · intro r l
        exact imp_256 Q K a v3 hq _ (fun c d => (load_cmp_256 arg5 harg5 x _ c d).trans (hx _ _)) (by omega) r l
  · rw [if_neg e0]
    have h := h0 e0
    constructor
    · intro m r l
      exact out_128 Q K V a v3 hq _ _ (fun c d => (load_cmp_128 arg5 harg5 x _ c d).trans (hx _ _)) (fun c d => (load_cmp_128 arg6 harg6 y _ c d).trans (hy _ _)) (by omega) m r l
    · intro r l
      exact imp_128 Q K a v3 hq _ (fun c d => (load_cmp_128 arg5 harg5 x _ c d).trans (hx _ _)) (by omega) r l

end Cert.KernelIdeal.Value
-- ==== Proof.KPick.lean ====
module

public import proofs.«01_k».proof.Proof.KBase
public import Idealize.ShloMosaic.Lib.Pointwise
public import Idealize.ShloMosaic.Lib.Routing.OpsOrder

@[expose] public section

set_option maxRecDepth 16384

noncomputable section

namespace Cert.KernelIdeal.Value
open Idealize.ShloMosaic Idealize.ShloMosaic.Pointwise
open Cert.KernelIdeal Cert.KernelIdeal.Gen Cert.Nsa

/-- Where the row's greatest score stands, the lowest such place. -/
def pickOf (s : FVec Ideal S256x128 .f32) : IVec S256x128 1 :=
  cmpf .oeq (k0_pay19 (F := Ideal)) (broadcastTo S256x128 (shapeCast S256x1 (multiReduction .minimumf [1] S256
    (select (cmpf .oeq s (broadcastTo S256x128 (shapeCast S256x1
        (multiReduction .maximumf [1] S256 s 0xFF800000#32 reduces_S256x128_S256 (.inl rfl) rfl) shapeCasts_S256_S256x1)
        broadcasts_S256x1_S256x128)) k0_pay19 (broadcast S256x128 (Scalar.ofBits .f32 0x43000000#32)))
    0x7F800000#32 reduces_S256x128_S256 (.inl rfl) rfl) shapeCasts_S256_S256x1) broadcasts_S256x1_S256x128)

/-- The scores with what is picked put out. -/
def putOut (p : IVec S256x128 1) (s : FVec Ideal S256x128 .f32) : FVec Ideal S256x128 .f32 :=
  select p (broadcast S256x128 (Named.named κ "picked" 0xF2177617#32)) s

/-- The offsets with what is picked, and allowed, let in. -/
def letIn (p al : IVec S256x128 1) (o : FVec Ideal S256x128 .f32) : FVec Ideal S256x128 .f32 :=
  select (andi p al) (broadcast S256x128 (Scalar.ofBits .f32 0x00000000#32)) o

/-- The scores left after so many rounds. -/
def left (s : FVec Ideal S256x128 .f32) : ℕ → FVec Ideal S256x128 .f32
  | 0 => s
  | n + 1 => putOut (pickOf (left s n)) (left s n)

/-- The offsets after so many rounds. -/
def offs (s : FVec Ideal S256x128 .f32) (al : IVec S256x128 1) : ℕ → FVec Ideal S256x128 .f32
  | 0 => broadcast S256x128 (Named.named κ "neg" 0xF149F2CA#32)
  | n + 1 => letIn (pickOf (left s n)) al (offs s al n)

theorem number_at (r : Fin 256) (j : Fin 128) : (k0_pay19 (F := Ideal) (ix2 r j) : EReal) = ((j : ℕ) : EReal) := by
  unfold k0_pay19
  pointwise
  show ((((BitVec.ofNat 32 (j : ℕ)).toInt : ℤ) : ℝ) : EReal) = _
  rw [BitVec.toInt_eq_toNat_of_lt (by rw [BitVec.toNat_ofNat]; omega), BitVec.toNat_ofNat, Nat.mod_eq_of_lt (by omega)]
  simp

theorem pick_at (s : FVec Ideal S256x128 .f32) (t : Fin 128 → EReal) (r : Fin 256) (hs : ∀ j, s (ix2 r j) = t j) (j : Fin 128) :
    pickOf s (ix2 r j) = BitVec.ofBool (@decide (isPick t j) (Classical.propDecidable _)) := by
  have hn := number_at r
  revert hn
  unfold pickOf
  generalize k0_pay19 (F := Ideal) = w
  intro hn
  pointwise
  simp only [hs, hn, bits_bot, bits_top, bits_128]
  have h := pick_by_number t (by omega) ((128 : ℝ) : EReal)
    (fun k => by rw [show ((128 : ℝ) : EReal) = ((128 : ℕ) : EReal) from rfl]; exact_mod_cast k.isLt) j
  exact congrArg BitVec.ofBool (decide_eq_decide.mpr h)

theorem left_at (s : FVec Ideal S256x128 .f32) (t : Fin 128 → EReal) (r : Fin 256) (hs : ∀ j, s (ix2 r j) = t j) (n : ℕ) (j : Fin 128) :
    left s n (ix2 r j) = hide t (picked t n) j := by
  classical
  induction n generalizing j with
  | zero => simp [left, hide, picked, hs]
  | succ n ih =>
    have hp := pick_at _ _ r ih j
    have hi := ih j
    revert hp hi
    show _ → _ → putOut (pickOf (left s n)) (left s n) (ix2 r j) = _
    unfold putOut
    generalize pickOf (left s n) = p
    generalize left s n = l
    intro hp hi
    pointwise
    rw [hp, hi, WordCmp.select_decide, picked_bot]
    unfold hide
    by_cases h : picked t n j
    · have h' : picked t (n + 1) j := Or.inl h
      simp [h, h']
    · by_cases h2 : isPick (hide t (picked t n)) j
      · have h' : picked t (n + 1) j := Or.inr h2
        simp [h']
        exact fun h3 => absurd h2 h3
      · have h' : ¬ picked t (n + 1) j := fun h3 => h3.elim h h2
        simp [h', h]
        exact fun h3 => absurd h3 h2

theorem offs_at (s : FVec Ideal S256x128 .f32) (t : Fin 128 → EReal) (r : Fin 256) (hs : ∀ j, s (ix2 r j) = t j)
    (al : IVec S256x128 1) (A : Prop) [Decidable A] (j : Fin 128) (ha : al (ix2 r j) = BitVec.ofBool (decide A)) (n : ℕ) :
    offs s al n (ix2 r j) = @ite _ (picked t n j ∧ A) (Classical.propDecidable _) (0 : EReal) ⊥ := by
  classical
  induction n with
  | zero =>
    show (broadcast S256x128 (Named.named κ "neg" 0xF149F2CA#32) : FVec Ideal S256x128 .f32) (ix2 r j) = _
    pointwise
    rw [neg_bot]
    simp [picked]
  | succ n ih =>
    have hp := pick_at _ _ r (left_at s t r hs n) j
    revert hp ih
    show _ → _ → letIn (pickOf (left s n)) al (offs s al n) (ix2 r j) = _
    unfold letIn
    generalize pickOf (left s n) = p
    generalize offs s al n = o
    intro ih hp
    pointwise
    rw [hp, ih, ha, WordCmp.andi_ofBool, WordCmp.select_ofBool]
    simp only [Bool.and_eq_true, decide_eq_true_eq, picked]
    by_cases h1 : picked t n j <;> by_cases h2 : isPick (hide t (picked t n)) j <;> by_cases h3 : A <;> simp [h1, h2, h3]

theorem group_33 (s : FVec Ideal S256x128 .f32) (n : ℕ) : k0_pay33 k0_pay19 (left s n) (pickOf (left s n)) = left s (n + 3) := by
  simp only [offs, left]
  unfold k0_pay33 k0_pay32 k0_pay31 k0_pay30 k0_pay29
  rfl
theorem group_34 (s : FVec Ideal S256x128 .f32) (n : ℕ) : k0_pay34 k0_pay19 (left s n) (pickOf (left s n)) = pickOf (left s (n + 3)) := by
  simp only [offs, left]
  unfold k0_pay34 k0_pay33 k0_pay32 k0_pay31 k0_pay30 k0_pay29
  rfl
theorem group_35 (s : FVec Ideal S256x128 .f32) (al : IVec S256x128 1) (n : ℕ) :
    k0_pay35 k0_pay19 al (left s n) (pickOf (left s n)) (offs s al (n + 1)) = offs s al (n + 4) := by
  simp only [offs, left]
  unfold k0_pay35 k0_pay34 k0_pay33 k0_pay32 k0_pay31 k0_pay30 k0_pay29
  rfl
theorem group_40 (s : FVec Ideal S256x128 .f32) (n : ℕ) : k0_pay40 k0_pay19 (left s n) (pickOf (left s n)) = left s (n + 3) := by
  simp only [offs, left]
  unfold k0_pay40 k0_pay39 k0_pay38 k0_pay37 k0_pay36
  rfl
theorem group_41 (s : FVec Ideal S256x128 .f32) (n : ℕ) : k0_pay41 k0_pay19 (left s n) (pickOf (left s n)) = pickOf (left s (n + 3)) := by
  simp only [offs, left]
  unfold k0_pay41 k0_pay40 k0_pay39 k0_pay38 k0_pay37 k0_pay36
  rfl
theorem group_42 (s : FVec Ideal S256x128 .f32) (al : IVec S256x128 1) (n : ℕ) :
    k0_pay42 k0_pay19 al (left s n) (pickOf (left s n)) (offs s al (n + 1)) = offs s al (n + 4) := by
  simp only [offs, left]
  unfold k0_pay42 k0_pay41 k0_pay40 k0_pay39 k0_pay38 k0_pay37 k0_pay36
  rfl
theorem group_47 (s : FVec Ideal S256x128 .f32) (n : ℕ) : k0_pay47 k0_pay19 (left s n) (pickOf (left s n)) = left s (n + 3) := by
  simp only [offs, left]
  unfold k0_pay47 k0_pay46 k0_pay45 k0_pay44 k0_pay43
  rfl
theorem group_48 (s : FVec Ideal S256x128 .f32) (n : ℕ) : k0_pay48 k0_pay19 (left s n) (pickOf (left s n)) = pickOf (left s (n + 3)) := by
  simp only [offs, left]
  unfold k0_pay48 k0_pay47 k0_pay46 k0_pay45 k0_pay44 k0_pay43
  rfl
theorem group_49 (s : FVec Ideal S256x128 .f32) (al : IVec S256x128 1) (n : ℕ) :
    k0_pay49 k0_pay19 al (left s n) (pickOf (left s n)) (offs s al (n + 1)) = offs s al (n + 4) := by
  simp only [offs, left]
  unfold k0_pay49 k0_pay48 k0_pay47 k0_pay46 k0_pay45 k0_pay44 k0_pay43
  rfl
theorem group_54 (s : FVec Ideal S256x128 .f32) (n : ℕ) : k0_pay54 k0_pay19 (left s n) (pickOf (left s n)) = left s (n + 3) := by
  simp only [offs, left]
  unfold k0_pay54 k0_pay53 k0_pay52 k0_pay51 k0_pay50
  rfl
theorem group_55 (s : FVec Ideal S256x128 .f32) (n : ℕ) : k0_pay55 k0_pay19 (left s n) (pickOf (left s n)) = pickOf (left s (n + 3)) := by
  simp only [offs, left]
  unfold k0_pay55 k0_pay54 k0_pay53 k0_pay52 k0_pay51 k0_pay50
  rfl
theorem group_56 (s : FVec Ideal S256x128 .f32) (al : IVec S256x128 1) (n : ℕ) :
    k0_pay56 k0_pay19 al (left s n) (pickOf (left s n)) (offs s al (n + 1)) = offs s al (n + 4) := by
  simp only [offs, left]
  unfold k0_pay56 k0_pay55 k0_pay54 k0_pay53 k0_pay52 k0_pay51 k0_pay50
  rfl

section
variable (p : FVec Ideal S256x128 .f32) (w u b z : IVec S256x128 32)
theorem first_26 : k0_pay26 p w k0_pay19 u b z = left (k0_pay24 p w u b z) 1 := by
  simp only [left]
  unfold k0_pay26 k0_pay25
  rfl
theorem first_27 : k0_pay27 p w k0_pay19 u b z = pickOf (left (k0_pay24 p w u b z) 1) := by
  simp only [left]
  unfold k0_pay27 k0_pay26 k0_pay25
  rfl
theorem first_28 : k0_pay28 p w k0_pay19 u b z = offs (k0_pay24 p w u b z) (k0_pay23 w u) 2 := by
  simp only [offs, left]
  unfold k0_pay28 k0_pay27 k0_pay26 k0_pay25
  rfl
end

/-- The query's rows with the offsets put before them. -/
def aug (v6 : FVec Ideal S2048x64 .bf16) (o : FVec Ideal S256x128 .f32) : FVec Ideal S2048x192 .bf16 :=
  have v377 : FVec Ideal S256x128 .bf16 := truncf .bf16 o bitsLt_bf16_f32
  concatenate S2048x192 1 [⟨S2048x128, concatenate S2048x128 0 [⟨S256x128, v377⟩, ⟨S256x128, v377⟩, ⟨S256x128, v377⟩, ⟨S256x128, v377⟩, ⟨S256x128, v377⟩, ⟨S256x128, v377⟩, ⟨S256x128, v377⟩, ⟨S256x128, v377⟩] concatenates_S256x128_S256x128_S256x128_S256x128_S256x128_S256x128_S256x128_S256x128_S2048x128_d0⟩, ⟨S2048x64, v6⟩] concatenates_S2048x128_S2048x64_S2048x192_d1

theorem last_57 (v6 : FVec Ideal S2048x64 .bf16) (s : FVec Ideal S256x128 .f32) (al : IVec S256x128 1) (n : ℕ) :
    k0_pay57 v6 k0_pay19 al (left s n) (pickOf (left s n)) (offs s al (n + 1)) = aug v6 (offs s al (n + 3)) := by
  simp only [offs, left]
  unfold k0_pay57 aug
  rfl

theorem aug_low (v6 : FVec Ideal S2048x64 .bf16) (o : FVec Ideal S256x128 .f32) (m : Fin 8) (r : Fin 256) (j : Fin 128) :
    aug v6 o (ix2 (row8 m r) ⟨j, by omega⟩) = o (ix2 r j) := by
  unfold aug row8
  pointwise
  have hr := r.isLt
  obtain ⟨m, hm⟩ := m
  interval_cases m <;>
    (simp only [Nat.zero_mul, Nat.zero_add, hr, dif_pos]
     first
       | rfl
       | (repeat rw [dif_neg (by omega)]
          try rw [dif_pos (by omega)]
          try exact congrArg (fun k => o (ix2 k j)) (Fin.ext (by dsimp only; omega))))

theorem aug_high (v6 : FVec Ideal S2048x64 .bf16) (o : FVec Ideal S256x128 .f32) (m : Fin 8) (r : Fin 256) (d : Fin 64) :
    aug v6 o (ix2 (row8 m r) ⟨128 + d, by omega⟩) = v6 (ix2 (row8 m r) d) := by
  unfold aug
  pointwise

/-- The columns of a row, numbered. -/
def cols : IVec S256x128 32 := iota .tc S256x128 32 [1] iota_S256x128_d1_w32

section
variable (a : Fin 32)

theorem row_word (r : Fin 256) (j : Fin 128) :
    k0_pay20 (BitVec.ofNat 32 ((a : ℕ) * 256)) (ix2 r j) = BitVec.ofNat 32 ((a : ℕ) * 256 + r) := by
  unfold k0_pay20
  pointwise
  rw [add_word]

theorem block_word (r : Fin 256) (j : Fin 128) :
    k0_pay21 (BitVec.ofNat 32 ((a : ℕ) * 256)) (ix2 r j) = BitVec.ofNat 32 (((a : ℕ) * 256 + r) / 64) := by
  have hw := row_word a r j
  revert hw
  unfold k0_pay21
  generalize k0_pay20 (BitVec.ofNat 32 ((a : ℕ) * 256)) = w
  intro hw
  pointwise
  rw [hw]
  generalize hq : (a : ℕ) * 256 + (r : ℕ) = q
  have hq8 : q < 8192 := by omega
  rw [Routing.remsi_word _ (by omega) (by omega) (by omega), Routing.divsi_word _ (by omega) (by omega) (by omega)]
  rcases Nat.eq_zero_or_pos q with rfl | h
  · rfl
  · have h1 : IntOp.cmpi .sgt (BitVec.ofNat 32 q) 0#32 = 1#1 := by
      rw [WordCmp.cmpi_sgt_ofNat (by omega) (by omega), decide_eq_true h]; rfl
    have h2 : IntOp.cmpi .slt (BitVec.ofNat 32 q) 0#32 = 0#1 := by
      rw [WordCmp.cmpi_slt_ofNat (by omega) (by omega), decide_eq_false (by omega)]; rfl
    rw [h1, h2]
    have h3 : IntOp.cmpi .ne (IntOp.subi (BitVec.setWidth 32 1#1) (BitVec.setWidth 32 0#1))
        (Scalar.subi (Scalar.extui (Scalar.cmpi CmpIPredicate.sgt 64#32 0#32))
          (Scalar.extui (Scalar.cmpi CmpIPredicate.slt 64#32 0#32))) = 0#1 := by decide
    rw [h3]
    have h4 : ∀ b : BitVec 1, IntOp.andi 0#1 b = 0#1 := by decide
    rw [h4]
    rfl

theorem allowed_at (r : Fin 256) (j : Fin 128) :
    k0_pay23 cols (k0_pay20 (BitVec.ofNat 32 ((a : ℕ) * 256))) (ix2 r j)
      = BitVec.ofBool (decide (64 * (j : ℕ) ≤ (a : ℕ) * 256 + r)) := by
  have hw := row_word a r j
  revert hw
  unfold k0_pay23 cols
  generalize k0_pay20 (BitVec.ofNat 32 ((a : ℕ) * 256)) = w
  intro hw
  pointwise
  rw [hw, mul_word, WordCmp.cmpi_sle_ofNat (by omega) (by omega), Nat.mul_comm]

theorem pred_word {a b : ℕ} (ha : a < 2 ^ 30) (hb : b < 2 ^ 30) :
    IntOp.cmpi .eq (BitVec.ofNat 32 a) (IntOp.subi (BitVec.ofNat 32 b) 1#32) = BitVec.ofBool (decide (a + 1 = b)) := by
  rw [WordCmp.cmpi_eq_eq]
  refine congrArg BitVec.ofBool (decide_eq_decide.mpr ?_)
  show BitVec.ofNat 32 a = BitVec.ofNat 32 b - BitVec.ofNat 32 1 ↔ _
  rw [BitVec.eq_sub_iff_add_eq, ← BitVec.ofNat_add, WordCmp.ofNat_eq_ofNat_iff (by omega) (by omega)]

/-- The scores the rounds begin with. -/
def firstScores (p : FVec Ideal S256x128 .f32) (v0 : BitVec 32) : FVec Ideal S256x128 .f32 :=
  k0_pay24 p cols (k0_pay20 v0) (k0_pay21 v0) k0_pay22

theorem first_at (Q : Fin 8 → Fin 64 → ℝ) (K : ℕ → Fin 64 → ℝ) (p : FVec Ideal S256x128 .f32) (r : Fin 256)
    (hp : ∀ j : Fin 128, p (ix2 r j) = ((imp Q K ((a : ℕ) * 256 + r) j : ℝ) : EReal)) (j : Fin 128) :
    firstScores p (BitVec.ofNat 32 ((a : ℕ) * 256)) (ix2 r j) = score Q K ((a : ℕ) * 256 + r) j := by
  have h23 := allowed_at a r j
  have h21 := block_word a r j
  revert h23 h21
  unfold firstScores k0_pay24 k0_pay22
  generalize k0_pay23 cols (k0_pay20 (BitVec.ofNat 32 ((a : ℕ) * 256))) = al
  generalize k0_pay21 (BitVec.ofNat 32 ((a : ℕ) * 256)) = b
  intro h23 h21
  unfold cols
  pointwise
  rw [h23, h21, hp, bits_thousand, neg_bot, WordCmp.select_decide, pred_word (by omega) (by omega),
    WordCmp.cmpi_eq_ofNat (by omega) (by omega), WordCmp.cmpi_eq_ofNat (by omega) (by omega),
    WordCmp.ori_ofBool, WordCmp.ori_ofBool, WordCmp.select_ofBool]
  unfold score
  congr 1
  rw [EReal.coe_add]
  congr 1
  unfold bonus
  simp only [Bool.or_eq_true, decide_eq_true_eq, or_assoc]
  split_ifs <;> simp

theorem offs_last (Q : Fin 8 → Fin 64 → ℝ) (K : ℕ → Fin 64 → ℝ) (p : FVec Ideal S256x128 .f32) (r : Fin 256)
    (hp : ∀ j : Fin 128, p (ix2 r j) = ((imp Q K ((a : ℕ) * 256 + r) j : ℝ) : EReal)) (j : Fin 128) :
    offs (firstScores p (BitVec.ofNat 32 ((a : ℕ) * 256))) (k0_pay23 cols (k0_pay20 (BitVec.ofNat 32 ((a : ℕ) * 256)))) 16 (ix2 r j)
      = @ite _ (chosen Q K ((a : ℕ) * 256 + r) j ∧ 64 * (j : ℕ) ≤ (a : ℕ) * 256 + r) (Classical.propDecidable _) (0 : EReal) ⊥ := by
  rw [offs_at _ _ r (first_at a Q K p r hp) _ _ j (allowed_at a r j)]
  have e : (picked (score Q K ((a : ℕ) * 256 + r)) 16 j ∧ 64 * (j : ℕ) ≤ (a : ℕ) * 256 + r)
      ↔ (chosen Q K ((a : ℕ) * 256 + r) j ∧ 64 * (j : ℕ) ≤ (a : ℕ) * 256 + r) := by
    refine and_congr_left fun h => ?_
    rw [picked_iff _ _ _ ((score_ne_bot Q K _ j).mpr h)]
    exact ⟨fun h => ⟨j.isLt, h⟩, fun ⟨_, h⟩ => h⟩
  rw [propext e]

end

/-- What the sixteen rounds leave before the query's rows. -/
theorem rounds (v6 : FVec Ideal S2048x64 .bf16) (p : FVec Ideal S256x128 .f32) (w u b z : IVec S256x128 32)
    (r_5 : IVec S256x128 1) (r_6 r_9 r_12 r_15 r_18 : FVec Ideal S256x128 .f32) (r_7 r_10 r_13 r_16 r_19 : IVec S256x128 1)
    (r_8 r_11 r_14 r_17 r_20 : FVec Ideal S256x128 .f32)
    (h5 : r_5 = k0_pay23 w u)
    (h6 : r_6 = k0_pay26 p w k0_pay19 u b z) (h7 : r_7 = k0_pay27 p w k0_pay19 u b z) (h8 : r_8 = k0_pay28 p w k0_pay19 u b z)
    (h9 : r_9 = k0_pay33 k0_pay19 r_6 r_7) (h10 : r_10 = k0_pay34 k0_pay19 r_6 r_7) (h11 : r_11 = k0_pay35 k0_pay19 r_5 r_6 r_7 r_8)
    (h12 : r_12 = k0_pay40 k0_pay19 r_9 r_10) (h13 : r_13 = k0_pay41 k0_pay19 r_9 r_10) (h14 : r_14 = k0_pay42 k0_pay19 r_5 r_9 r_10 r_11)
    (h15 : r_15 = k0_pay47 k0_pay19 r_12 r_13) (h16 : r_16 = k0_pay48 k0_pay19 r_12 r_13) (h17 : r_17 = k0_pay49 k0_pay19 r_5 r_12 r_13 r_14)
    (h18 : r_18 = k0_pay54 k0_pay19 r_15 r_16) (h19 : r_19 = k0_pay55 k0_pay19 r_15 r_16) (h20 : r_20 = k0_pay56 k0_pay19 r_5 r_15 r_16 r_17) :
    k0_pay57 v6 k0_pay19 r_5 r_18 r_19 r_20 = aug v6 (offs (k0_pay24 p w u b z) (k0_pay23 w u) 16) := by
  subst h5
  rw [first_26] at h6
  rw [first_27] at h7
  rw [first_28] at h8
  subst h6 h7 h8
  rw [group_33] at h9
  rw [group_34] at h10
  rw [group_35] at h11
  subst h9 h10 h11
  rw [group_40] at h12
  rw [group_41] at h13
  rw [group_42] at h14
  subst h12 h13 h14
  rw [group_47] at h15
  rw [group_48] at h16
  rw [group_49] at h17
  subst h15 h16 h17
  rw [group_54] at h18
  rw [group_55] at h19
  rw [group_56] at h20
  subst h18 h19 h20
  exact last_57 v6 _ _ 13

end Cert.KernelIdeal.Value
-- ==== Proof.KLoop.lean ====
module

public import proofs.«01_k».proof.Proof.KPick
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

open scoped Classical in
/-- A key's score with the offset of its block. -/
def rowO (ch : ℕ → Prop) (Q : Fin 64 → ℝ) (K : ℕ → Fin 64 → ℝ) (q k : ℕ) : EReal :=
  if ch (k / 64) ∧ 64 * (k / 64) ≤ q then ((dotp Q K k : ℝ) : EReal) else ⊥

theorem rowO_le (ch : ℕ → Prop) (Q : Fin 64 → ℝ) (K : ℕ → Fin 64 → ℝ) {q k : ℕ} (h : k ≤ q) : rowO ch Q K q k = rowS ch Q K q k := by
  unfold rowO rowS
  have e : (ch (k / 64) ∧ 64 * (k / 64) ≤ q) ↔ (k ≤ q ∧ ch (k / 64)) :=
    ⟨fun h' => ⟨h, h'.1⟩, fun h' => ⟨h'.2, by omega⟩⟩
  by_cases h' : k ≤ q ∧ ch (k / 64)
  · rw [if_pos h', if_pos (e.mpr h')]
  · rw [if_neg h', if_neg fun h2 => h' (e.mp h2)]

theorem rowS_gt (ch : ℕ → Prop) (Q : Fin 64 → ℝ) (K : ℕ → Fin 64 → ℝ) {q k : ℕ} (h : q < k) : rowS ch Q K q k = ⊥ := by
  unfold rowS
  exact if_neg fun h' => absurd h'.1 (by omega)

/-- The offset, carried to the key by the one-hot rows, and the product of query and key. -/
theorem offset_score (ch : ℕ → Prop) (Q : Fin 64 → ℝ) (K : ℕ → Fin 64 → ℝ) (q k : ℕ) (hk : k < 8192)
    (o b : Fin 128 → EReal) (ho : ∀ x : Fin 128, o x = @ite _ (ch x ∧ 64 * (x : ℕ) ≤ q) (Classical.propDecidable _) (0 : EReal) ⊥)
    (hb : ∀ x : Fin 128, b x = if (x : ℕ) = k / 64 then 1 else 0)
    (x y : Fin 64 → EReal) (hx : ∀ d, x d = ((Q d : ℝ) : EReal)) (hy : ∀ d, y d = ((K k d : ℝ) : EReal)) :
    ∑ j, o j * b j + ∑ d, x d * y d = rowO ch Q K q k := by
  have h1 : ∑ j, o j * b j = o ⟨k / 64, by omega⟩ := by
    rw [Finset.sum_eq_single ⟨k / 64, by omega⟩]
    · rw [hb, if_pos rfl, mul_one]
    · intro j _ hj
      rw [hb, if_neg fun h => hj (Fin.ext h), mul_zero]
    · exact fun h => absurd (Finset.mem_univ _) h
  rw [h1, dotp_coe Q K k x y hx hy, ho, rowO]
  by_cases h : ch (k / 64) ∧ 64 * (k / 64) ≤ q
  · rw [if_pos h, if_pos h, zero_add]
  · rw [if_neg h, if_neg h, EReal.bot_add]

/-- What the accumulators hold after the keys below `n`: the sums over those keys, at the scale of the running maximum. -/
def Inv (row : Fin 8 → Fin 256 → ℕ → EReal) (W : Fin 128 → ℕ → ℝ) (n : ℕ) (mx : Fin 8 → Fin 256 → EReal)
    (A : FVec Ideal S8x256x128 .f32) : Prop :=
  ∀ m r, mx m r ≠ ⊤ ∧ (mx m r = ⊥ → ∀ k < n, row m r k = ⊥) ∧
    ∀ l, A (ix3 m r l) = (((∑ k ∈ Finset.range n, ew (row m r k) * W l k) * scale (mx m r) : ℝ) : EReal)

theorem Inv.step {row : Fin 8 → Fin 256 → ℕ → EReal} {W : Fin 128 → ℕ → ℝ} {n : ℕ} {mx : Fin 8 → Fin 256 → EReal}
    {A : FVec Ideal S8x256x128 .f32} (h : Inv row W n mx A) (hrow : ∀ m r k, row m r k ≠ ⊤) (A' : FVec Ideal S8x256x128 .f32)
    (hA' : ∀ m r l, A' (ix3 m r l) = Ideal.exp (mx m r - nextMax (mx m r) fun j : Fin 1024 => row m r (n + j)) * A (ix3 m r l)
      + ∑ j : Fin 1024, Ideal.exp (row m r (n + j) - nextMax (mx m r) fun j : Fin 1024 => row m r (n + j)) * ((W l (n + j) : ℝ) : EReal)) :
    Inv row W (n + 1024) (fun m r => nextMax (mx m r) fun j : Fin 1024 => row m r (n + j)) A' := by
  intro m r
  obtain ⟨h1, h2, h3⟩ := h m r
  refine ⟨nextMax_ne_top _ (fun j => hrow _ _ _) h1, fun hb => ?_, fun l => ?_⟩
  · obtain ⟨e1, e2⟩ := of_nextMax_bot _ (fun j => hrow _ _ _) hb
    intro k hk
    by_cases hkn : k < n
    · exact h2 e1 k hkn
    · have := e2 ⟨k - n, by omega⟩
      simp only at this
      rwa [Nat.add_sub_cancel' (by omega)] at this
  · rw [hA', online_step (fun j : Fin 1024 => row m r (n + j)) (fun j => hrow _ _ _) (fun j => W l (n + j)) (mx m r) h1 (A (ix3 m r l)) _ (h3 l)
      (fun hb => Finset.sum_eq_zero fun k hk => by rw [h2 hb k (Finset.mem_range.mp hk), ew_bot, zero_mul]),
      Finset.sum_range_add, Finset.sum_range (fun x => ew (row m r (n + x)) * W l (n + x))]

/-- The values and the ones beside them. -/
def valOnes (V : Fin 64 → ℕ → ℝ) (l : Fin 128) (k : ℕ) : ℝ := if h : (l : ℕ) < 64 then V ⟨l, h⟩ k else 1

theorem Inv.quotient {row : Fin 8 → Fin 256 → ℕ → EReal} {V : Fin 64 → ℕ → ℝ} {n : ℕ} {mx : Fin 8 → Fin 256 → EReal}
    {A : FVec Ideal S8x256x128 .f32} (h : Inv row (valOnes V) n mx A) (hrow : ∀ m r k, row m r k ≠ ⊤) (hn : n ≤ 8192)
    (m : Fin 8) (r : Fin 256) (hz : ∀ k, n ≤ k → row m r k = ⊥) (hs : ∃ k < n, row m r k ≠ ⊥) (l l' : Fin 128) (hl : (l : ℕ) < 64) (hl' : 64 ≤ (l' : ℕ)) :
    Ideal.div (A (ix3 m r l)) (A (ix3 m r l')) = ((att (row m r) 8192 (V ⟨l, hl⟩) : ℝ) : EReal) := by
  obtain ⟨h1, h2, h3⟩ := h m r
  rw [h3, h3, online_quotient _ _ _ _ _ h1]
  · rw [← att_of_bot (row m r) _ hn fun k hk _ => hz k hk, att, wden]
    unfold valOnes
    simp only [dif_pos hl, dif_neg (not_lt.mpr hl'), mul_one]
  · obtain ⟨k, hk, hb⟩ := hs
    unfold valOnes
    simp only [dif_neg (not_lt.mpr hl'), mul_one]
    exact Finset.sum_pos' (fun k _ => ew_nonneg _ (hrow _ _ _)) ⟨k, Finset.mem_range.mpr hk, ew_pos (hrow _ _ _) hb⟩
  · intro hb
    exact Finset.sum_eq_zero fun k hk => by rw [h2 hb k (Finset.mem_range.mp hk), ew_bot, zero_mul]

section
variable (ch : Fin 256 → ℕ → Prop) (Q : Fin 8 → Fin 256 → Fin 64 → ℝ) (K : ℕ → Fin 64 → ℝ) (V : Fin 64 → ℕ → ℝ) (a : Fin 32)
  (v6 : FVec Ideal S2048x64 .bf16) (hq : ∀ m r d, v6 (ix2 (row8 m r) d) = ((Q m r d : ℝ) : EReal))
  (o : FVec Ideal S256x128 .f32)
  (ho : ∀ r (j : Fin 128), o (ix2 r j)
    = @ite _ (ch r j ∧ 64 * (j : ℕ) ≤ (a : ℕ) * 256 + r) (Classical.propDecidable _) (0 : EReal) ⊥)
  (n : ℕ) (hn : n + 1024 ≤ 8192) (b : Vec Ideal S128x1024 .bf16) (x y : Vec Ideal S1x64x1024 .bf16)
  (hb : ∀ (j : Fin 128) (c : Fin 1024), b (ix2 j c) = if (j : ℕ) = (n + c) / 64 then (1 : EReal) else 0)
  (hx : ∀ d c, x (ix3 0 d c) = ((K (n + (c : ℕ)) d : ℝ) : EReal))
  (hy : ∀ d c, y (ix3 0 d c) = ((V d (n + (c : ℕ)) : ℝ) : EReal))
include hq ho hn hb hx

theorem tile_score (m : Fin 8) (r : Fin 256) (c : Fin 1024) :
    k0_pay60 (aug v6 o) b x (ix3 m r c) = rowO (ch r) (Q m r) K ((a : ℕ) * 256 + r) (n + c) := by
  have hlow := aug_low v6 o m r
  have hhigh := aug_high v6 o m r
  revert hlow hhigh
  generalize aug v6 o = w
  intro hlow hhigh
  rw [← offset_score (ch r) (Q m r) K ((a : ℕ) * 256 + r) (n + c) (by omega) (fun j => w (ix2 (row8 m r) ⟨j, by omega⟩)) (fun j => b (ix2 j c))
    (fun j => (hlow j).trans (ho r j)) (fun j => hb j c) (fun d => w (ix2 (row8 m r) ⟨128 + d, by omega⟩)) (fun d => x (ix3 0 d c))
    (fun d => (hhigh d).trans (hq m r d)) (fun d => hx d c)]
  unfold k0_pay60
  pointwise
  rfl

theorem tile_score_last (m : Fin 8) (r : Fin 256) (c : Fin 1024) :
    k0_pay67 (aug v6 o) b x (ix3 m r c) = rowO (ch r) (Q m r) K ((a : ℕ) * 256 + r) (n + c) :=
  tile_score ch Q K a v6 hq o ho n hn b x hb hx m r c

include hy

omit hy in
theorem max_at (hna : n + 1024 ≤ (a : ℕ) * 256) (M : FVec Ideal S8x256x1 .f32) (m : Fin 8) (r : Fin 256) :
    k0_pay61 (aug v6 o) M b x (ix3 m r 0)
      = nextMax (M (ix3 m r 0)) fun j : Fin 1024 => rowS (ch r) (Q m r) K ((a : ℕ) * 256 + r) (n + j) := by
  have hS' := tile_score ch Q K a v6 hq o ho n hn b x hb hx m r
  revert hS'
  unfold k0_pay61
  generalize k0_pay60 (aug v6 o) b x = S
  intro hS'
  pointwise
  rw [bits_bot]
  simp only [hS']
  have hr := r.isLt
  simp only [fun j : Fin 1024 => rowO_le (ch r) (Q m r) K (q := (a : ℕ) * 256 + r) (k := n + j) (by omega)]

theorem acc_at (hna : n + 1024 ≤ (a : ℕ) * 256) (M : FVec Ideal S8x256x1 .f32) (A : FVec Ideal S8x256x128 .f32)
    (m : Fin 8) (r : Fin 256) (l : Fin 128) :
    k0_pay62 (aug v6 o) M A b x y (ix3 m r l)
      = Ideal.exp (M (ix3 m r 0) - nextMax (M (ix3 m r 0)) fun j : Fin 1024 => rowS (ch r) (Q m r) K ((a : ℕ) * 256 + r) (n + j)) * A (ix3 m r l)
      + ∑ j : Fin 1024, Ideal.exp (rowS (ch r) (Q m r) K ((a : ℕ) * 256 + r) (n + j)
          - nextMax (M (ix3 m r 0)) fun j : Fin 1024 => rowS (ch r) (Q m r) K ((a : ℕ) * 256 + r) (n + j)) * ((valOnes V l (n + j) : ℝ) : EReal) := by
  have hS' := tile_score ch Q K a v6 hq o ho n hn b x hb hx m r
  have hM' := max_at ch Q K a v6 hq o ho n hn b x hb hx hna M m r
  revert hS' hM'
  unfold k0_pay62
  generalize k0_pay61 (aug v6 o) M b x = M'
  generalize k0_pay60 (aug v6 o) b x = S
  intro hS' hM'
  pointwise
  rw [hM']
  congr 1
  refine Finset.sum_congr rfl fun j _ => ?_
  have hr := r.isLt
  rw [hS', rowO_le _ _ _ (by omega)]
  congr 1
  unfold valOnes
  by_cases hl : (l : ℕ) < 64
  · rw [dif_pos hl, dif_pos hl]; exact hy _ _
  · rw [dif_neg hl, dif_neg hl]; exact EReal.coe_one.symm

theorem loop_step (hna : n + 1024 ≤ (a : ℕ) * 256) (M : FVec Ideal S8x256x1 .f32) (A : FVec Ideal S8x256x128 .f32)
    (h : Inv (fun m r => rowS (ch r) (Q m r) K ((a : ℕ) * 256 + r)) (valOnes V) n (fun m r => M (ix3 m r 0)) A) :
    Inv (fun m r => rowS (ch r) (Q m r) K ((a : ℕ) * 256 + r)) (valOnes V) (n + 1024)
      (fun m r => k0_pay61 (aug v6 o) M b x (ix3 m r 0)) (k0_pay62 (aug v6 o) M A b x y) := by
  have hA := acc_at ch Q K V a v6 hq o ho n hn b x y hb hx hy hna M A
  have e : (fun m r => k0_pay61 (aug v6 o) M b x (ix3 m r 0))
      = fun m r => nextMax (M (ix3 m r 0)) fun j : Fin 1024 => rowS (ch r) (Q m r) K ((a : ℕ) * 256 + r) (n + j) := by
    funext m r; exact max_at ch Q K a v6 hq o ho n hn b x hb hx hna M m r
  revert hA
  rw [e]
  generalize k0_pay62 (aug v6 o) M A b x y = A'
  intro hA
  exact h.step (fun m r k => rowS_ne_top _ _ _ _ _) _ hA

theorem last_step (M : FVec Ideal S8x256x1 .f32) (A : FVec Ideal S8x256x128 .f32)
    (h : Inv (fun m r => rowS (ch r) (Q m r) K ((a : ℕ) * 256 + r)) (valOnes V) n (fun m r => M (ix3 m r 0)) A)
    (mk : IVec S8x256x1024 1) (hmk : ∀ m r (c : Fin 1024), mk (ix3 m r c) = BitVec.ofBool (decide (n + (c : ℕ) ≤ (a : ℕ) * 256 + r))) :
    ∃ mx, Inv (fun m r => rowS (ch r) (Q m r) K ((a : ℕ) * 256 + r)) (valOnes V) (n + 1024) mx
      (k0_pay70 M A (k0_pay66 y) (k0_pay67 (aug v6 o) b x) mk k0_pay69) := by
  refine ⟨_, h.step (fun m r k => rowS_ne_top _ _ _ _ _) _ fun m r l => ?_⟩
  have hS : ∀ c : Fin 1024, Scalar.select (mk (ix3 m r c)) (k0_pay67 (aug v6 o) b x (ix3 m r c)) (⊥ : EReal)
      = rowS (ch r) (Q m r) K ((a : ℕ) * 256 + r) (n + c) := by
    intro c
    rw [hmk, WordCmp.select_decide, tile_score_last ch Q K a v6 hq o ho n hn b x hb hx]
    split_ifs with hc
    · exact rowO_le _ _ _ hc
    · exact (rowS_gt _ _ _ (by omega)).symm
  revert hS
  unfold k0_pay70 k0_pay69 k0_pay66
  generalize k0_pay67 (aug v6 o) b x = S
  intro hS
  pointwise
  rw [neg_bot, bits_bot]
  simp only [hS]
  congr 1
  refine Finset.sum_congr rfl fun j _ => ?_
  congr 1
  unfold valOnes
  by_cases hl : (l : ℕ) < 64
  · rw [dif_pos hl, dif_pos hl]; exact hy _ _
  · rw [dif_neg hl, dif_neg hl]; exact EReal.coe_one.symm

end

theorem loop_zero (row : Fin 8 → Fin 256 → ℕ → EReal) (W : Fin 128 → ℕ → ℝ) :
    Inv row W 0 (fun m r => k0_pay58 (F := Ideal) (ix3 m r 0)) (k0_pay59 (F := Ideal)) := by
  intro m r
  have e : k0_pay58 (F := Ideal) (ix3 m r 0) = (⊥ : EReal) := by
    unfold k0_pay58
    pointwise
    exact neg_bot
  refine ⟨by show k0_pay58 (F := Ideal) (ix3 m r 0) ≠ (⊤ : EReal); rw [e]; exact bot_ne_top, fun _ k hk => absurd hk (by omega), fun l => ?_⟩
  unfold k0_pay59
  pointwise
  simp

end Cert.KernelIdeal.Value
-- ==== Proof.KRun.lean ====
module

public import proofs.«01_k».proof.Proof.KCase
public import proofs.«01_k».proof.Proof.KLoop
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

open Cert.KernelIdeal.Hand

/-- What the accumulators hold before each trip of the loop over whole tiles. -/
theorem loop_at (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (v0 cw v380 : BitVec 32) (v391 : BitVec 1)
    (ch : Fin 256 → ℕ → Prop) (Q : Fin 8 → Fin 256 → Fin 64 → ℝ) (K : ℕ → Fin 64 → ℝ) (V : Fin 64 → ℕ → ℝ)
    (v6 : FVec Ideal S2048x64 .bf16) (hq : ∀ m r d, v6 (ix2 (row8 m r) d) = ((Q m r d : ℝ) : EReal))
    (o : FVec Ideal S256x128 .f32)
    (ho : ∀ r (j : Fin 128), o (ix2 r j)
      = @ite _ (ch r j ∧ 64 * (j : ℕ) ≤ (blockOf i : ℕ) * 256 + r) (Classical.propDecidable _) (0 : EReal) ⊥)
    (b : Vec Ideal S128x8192 .bf16) (x y : Vec Ideal S1x64x8192 .bf16)
    (hb : ∀ (j : Fin 128) (k : Fin 8192), b (ix2 j k) = if (j : ℕ) = (k : ℕ) / 64 then (1 : EReal) else 0)
    (hx : ∀ d (k : Fin 8192), x (ix3 0 d k) = ((K k d : ℝ) : EReal))
    (hy : ∀ d (k : Fin 8192), y (ix3 0 d k) = ((V d k : ℝ) : EReal)) (k : ℕ) (hk : k ≤ (blockOf i : ℕ) / 4) :
    Inv (fun m r => rowS (ch r) (Q m r) K ((blockOf i : ℕ) * 256 + r)) (valOnes V) (1024 * k)
      (fun m r => (st_k0_t1 (F := Ideal) Variants.none c none i arg3 harg3 arg4 harg4 arg5 harg5 arg6 harg6 arg7 harg7 arg8 harg8 arg9 harg9 arg10 harg10 arg11 harg11 arg12 harg12 arg13 harg13 arg14 harg14 v0 (aug v6 o) cw v380 v391 (harg7.unread x) (harg8.unread y) (harg12.unread b) (k0_pay58, k0_pay59) k).1 (ix3 m r 0)) (st_k0_t1 (F := Ideal) Variants.none c none i arg3 harg3 arg4 harg4 arg5 harg5 arg6 harg6 arg7 harg7 arg8 harg8 arg9 harg9 arg10 harg10 arg11 harg11 arg12 harg12 arg13 harg13 arg14 harg14 v0 (aug v6 o) cw v380 v391 (harg7.unread x) (harg8.unread y) (harg12.unread b) (k0_pay58, k0_pay59) k).2 := by
  have ha := (blockOf i).isLt
  induction k with
  | zero =>
    rw [st_k0_t1_zero]
    exact loop_zero _ _
  | succ k ih =>
    have ih := ih (by omega)
    have hk' : k < (k0_t1_loop i).trips := by rw [trips1]; omega
    have e := st_k0_t1_succ (F := Ideal) Variants.none c none i arg3 harg3 arg4 harg4 arg5 harg5 arg6 harg6 arg7 harg7 arg8 harg8 arg9 harg9 arg10 harg10 arg11 harg11 arg12 harg12 arg13 harg13 arg14 harg14 v0 (aug v6 o) cw v380 v391 (harg7.unread x) (harg8.unread y) (harg12.unread b) (k0_pay58, k0_pay59) ⟨k, hk'⟩
    dsimp only at e
    rw [e]
    revert ih
    generalize st_k0_t1 (F := Ideal) Variants.none c none i arg3 harg3 arg4 harg4 arg5 harg5 arg6 harg6 arg7 harg7 arg8 harg8 arg9 harg9 arg10 harg10 arg11 harg11 arg12 harg12 arg13 harg13 arg14 harg14 v0 (aug v6 o) cw v380 v391 (harg7.unread x) (harg8.unread y) (harg12.unread b) (k0_pay58, k0_pay59) k = s
    intro ih
    unfold tripR_k0_t1 trip_k0_t1
    dsimp only
    exact loop_step ch Q K V (blockOf i) v6 hq o ho (1024 * k) (by omega) _ _ _
      (fun j c => (load_rows arg12 harg12 b _ _ (1024 * k) (by omega) (off2_at i ⟨k, hk'⟩) j c).trans (hb _ _))
      (fun d c => (load_tile arg7 harg7 x _ _ (1024 * k) (by omega) (off3_at i ⟨k, hk'⟩) d c).trans (hx _ _))
      (fun d c => (load_tile arg8 harg8 y _ _ (1024 * k) (by omega) (off3_at i ⟨k, hk'⟩) d c).trans (hy _ _))
      (by omega) s.1 s.2 ih

end Cert.KernelIdeal.Value
-- ==== Proof.KComb.lean ====
module

public import proofs.«01_k».proof.Proof.KBase
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

theorem query_at (x : Vec Ideal S1x8x256x64 .bf16) (m : Fin 8) (r : Fin 256) (d : Fin 64) :
    k0_pay10 x (ix2 (row8 m r) d) = x (ix4 0 m r d) := by
  unfold k0_pay10 row8
  pointwise

theorem query_at' (x : Vec Ideal S1x8x256x64 .bf16) (m : Fin 8) (r : Fin 256) (d : Fin 64) :
    k0_pay11 x (ix2 (row8 m r) d) = x (ix4 0 m r d) := query_at x m r d

/-- The gates spread over the heads' columns, in two parts of which the second is nothing. -/
theorem gates_at (g : Vec Ideal S1x256x128 .f32) (s : Vec Ideal S1x128x1536 .bf16) (r : Fin 256) (c : Fin 1536) (G : Fin 128 → ℝ)
    (hg : ∀ x, g (ix3 0 r x) = ((G x : ℝ) : EReal)) (k : Fin 128) (hs : ∀ x, s (ix3 0 x c) = if x = k then (1 : EReal) else 0) :
    k0_pay71 g s s (ix2 r c) = ((G k : ℝ) : EReal) := by
  unfold k0_pay71
  pointwise
  have h0 : ∀ x, g (ix3 0 r x) - g (ix3 0 r x) = (0 : EReal) := fun x => by rw [hg, ← EReal.coe_sub, sub_self, EReal.coe_zero]
  have h1 : ∑ x, (g (ix3 0 r x) - g (ix3 0 r x)) * s (ix3 0 x c) = (0 : EReal) :=
    Finset.sum_eq_zero fun x _ => by rw [h0, zero_mul]
  rw [h1, add_zero, Finset.sum_eq_single k, hs, if_pos rfl, mul_one, hg]
  · intro x _ hx
    rw [hs, if_neg hx, mul_zero]
  · exact fun h => absurd (Finset.mem_univ _) h

theorem low_lane (r : Fin 256) (l : Fin 128) : k0_pay72 (ix2 r l) = BitVec.ofBool (decide ((l : ℕ) < 64)) := by
  unfold k0_pay72
  pointwise
  exact WordCmp.cmpi_slt_ofNat (by omega) (by omega)

/-- A column of the four pairs of heads, the even head in the lower lanes and the odd head in the upper ones. -/
theorem pick_lane (L : Fin 128 → BitVec 1) (hL : ∀ l, L l = BitVec.ofBool (decide ((l : ℕ) < 64))) (f g : Fin 8 → Fin 128 → EReal)
    (v : EReal) (m : Fin 8) (d : Fin 64) (c : Fin 512) (hc : (c : ℕ) = 64 * m + d)
    (hf : ∀ l : Fin 128, (m : ℕ) % 2 = 0 → (l : ℕ) = d → f m l = v)
    (hg : ∀ l : Fin 128, (m : ℕ) % 2 = 1 → (l : ℕ) = 64 + d → g m l = v) :
    (if h : (c : ℕ) < 128 then Scalar.select (L ⟨c, h⟩) (f 0 ⟨c, h⟩) (g 1 ⟨c, h⟩)
      else if h : (c : ℕ) - 128 < 128 then Scalar.select (L ⟨c - 128, h⟩) (f 2 ⟨c - 128, h⟩) (g 3 ⟨c - 128, h⟩)
      else if h : (c : ℕ) - 128 - 128 < 128 then
        Scalar.select (L ⟨c - 128 - 128, h⟩) (f 4 ⟨c - 128 - 128, h⟩) (g 5 ⟨c - 128 - 128, h⟩)
      else Scalar.select (L ⟨c - 128 - 128 - 128, by omega⟩) (f 6 ⟨c - 128 - 128 - 128, by omega⟩)
        (g 7 ⟨c - 128 - 128 - 128, by omega⟩)) = v := by
  obtain ⟨m, hm⟩ := m
  simp only [hL, WordCmp.select_decide]
  have hd := d.isLt
  dsimp only at hc
  interval_cases m <;>
    (repeat rw [dif_neg (by omega)]
     try rw [dif_pos (by omega)]
     try dsimp only
     first
       | (rw [if_pos (by omega)]
          have := hf ⟨c - 0, by omega⟩ (by norm_num) (by dsimp only; omega)
          exact this)
       | (rw [if_neg (by omega)]
          have := hg ⟨c - 0, by omega⟩ (by norm_num) (by dsimp only; omega)
          exact this)
       | (rw [if_pos (by omega)]
          have := hf ⟨c - 128, by omega⟩ (by norm_num) (by dsimp only; omega)
          exact this)
       | (rw [if_neg (by omega)]
          have := hg ⟨c - 128, by omega⟩ (by norm_num) (by dsimp only; omega)
          exact this)
       | (rw [if_pos (by omega)]
          have := hf ⟨c - 128 - 128, by omega⟩ (by norm_num) (by dsimp only; omega)
          exact this)
       | (rw [if_neg (by omega)]
          have := hg ⟨c - 128 - 128, by omega⟩ (by norm_num) (by dsimp only; omega)
          exact this)
       | (rw [if_pos (by omega)]
          have := hf ⟨c - 128 - 128 - 128, by omega⟩ (by norm_num) (by dsimp only; omega)
          exact this)
       | (rw [if_neg (by omega)]
          have := hg ⟨c - 128 - 128 - 128, by omega⟩ (by norm_num) (by dsimp only; omega)
          exact this))

/-- A place of a part that begins at a fixed place of a whole. -/
theorem add_below {k n N : ℕ} (x : Fin n) (h : k + n ≤ N) : k + (x : ℕ) < N := by
  have := x.isLt
  omega

theorem last_slice (G : FVec Ideal S256x1536 .f32) (r : Fin 256) (c : Fin 512) : k0_pay79 G (ix2 r c) = G (ix2 r ⟨1024 + c, add_below c (Nat.le_of_ble_eq_true rfl)⟩) := by
  unfold k0_pay79
  pointwise

theorem first_slice (r : Fin 256) (c : Fin 512) (x : Vec Ideal S1x256x128 .f32) (y z : Vec Ideal S1x128x1536 .bf16) :
    k0_pay73 x y z (ix2 r c) = k0_pay71 x y z (ix2 r ⟨c, lt_of_lt_of_le (Fin.isLt c) (Nat.le_of_ble_eq_true rfl)⟩) := by
  unfold k0_pay73
  generalize k0_pay71 x y z = G
  pointwise
  try rfl

section
variable (C A : FVec Ideal S8x256x128 .f32) (W : FVec Ideal S8x256x256 .f32) (G : FVec Ideal S256x1536 .f32)
  (r : Fin 256) (m : Fin 8) (d : Fin 64) (c : Fin 512) (hc : (c : ℕ) = 64 * m + d) (gt : Fin 3 → ℝ) (cv sv wv : ℝ)
  (hC : ∀ l : Fin 128, (l : ℕ) % 64 = d → C (ix3 m r l) = ((cv : ℝ) : EReal))
  (hA : Ideal.div (A (ix3 m r ⟨d, lt_of_lt_of_le (Fin.isLt d) (Nat.le_of_ble_eq_true rfl)⟩)) (A (ix3 m r ⟨64 + d, add_below d (Nat.le_of_ble_eq_true rfl)⟩)) = ((sv : ℝ) : EReal))
  (hlo : Ideal.div (W (ix3 m r ⟨d, lt_of_lt_of_le (Fin.isLt d) (Nat.le_of_ble_eq_true rfl)⟩)) (W (ix3 m r ⟨128 + d, add_below d (Nat.le_of_ble_eq_true rfl)⟩)) = ((wv : ℝ) : EReal))
  (hhi : Ideal.div (W (ix3 m r ⟨192 + d, add_below d (Nat.le_of_ble_eq_true rfl)⟩)) (W (ix3 m r ⟨64 + d, add_below d (Nat.le_of_ble_eq_true rfl)⟩)) = ((wv : ℝ) : EReal))
  (h0 : G (ix2 r ⟨c, lt_of_lt_of_le (Fin.isLt c) (Nat.le_of_ble_eq_true rfl)⟩) = ((gt 0 : ℝ) : EReal)) (h1 : G (ix2 r ⟨512 + c, add_below c (Nat.le_of_ble_eq_true rfl)⟩) = ((gt 1 : ℝ) : EReal))
  (h2 : G (ix2 r ⟨1024 + c, add_below c (Nat.le_of_ble_eq_true rfl)⟩) = ((gt 2 : ℝ) : EReal))
include hc

include hC hA h0 h1

set_option maxHeartbeats 1000000 in
theorem two_at (G' : FVec Ideal S256x512 .f32) (hG' : G' (ix2 r c) = G (ix2 r ⟨c, lt_of_lt_of_le (Fin.isLt c) (Nat.le_of_ble_eq_true rfl)⟩)) :
    k0_pay78 C A G k0_pay72 G' (k0_pay74 C) (k0_pay75 C) (k0_pay76 C) (k0_pay77 C) (ix2 r c)
      = ((gt 0 * cv + gt 1 * sv : ℝ) : EReal) := by
  have hl := low_lane r
  revert hl
  unfold k0_pay78 k0_pay74 k0_pay75 k0_pay76 k0_pay77
  generalize k0_pay72 = L
  intro hl
  pointwise
  have e1 := pick_lane (fun l => L (ix2 r l)) hl (fun m l => C (ix3 m r l)) (fun m l => C (ix3 m r l)) ((cv : ℝ) : EReal) m d c hc
    (fun l _ h => hC l (by omega)) (fun l _ h => hC l (by omega))
  have e2 := pick_lane (fun l => L (ix2 r l)) hl
    (fun m l => Ideal.div (A (ix3 m r l)) (A (ix3 m r ⟨((l : ℕ) + 128 - 64) % 128, by omega⟩)))
    (fun m l => Ideal.div (A (ix3 m r ⟨((l : ℕ) + 128 - 64) % 128, by omega⟩)) (A (ix3 m r l))) ((sv : ℝ) : EReal) m d c hc
    (fun l _ h => (congrArg₂ (fun i j => Ideal.div (A (ix3 m r i)) (A (ix3 m r j))) (Fin.ext h) (Fin.ext (by dsimp only; omega))).trans hA)
    (fun l _ h => (congrArg₂ (fun i j => Ideal.div (A (ix3 m r i)) (A (ix3 m r j))) (Fin.ext (by dsimp only; omega)) (Fin.ext h)).trans hA)
  dsimp only at e1 e2
  rw [e1, e2, hG', h0, h1, EReal.coe_add, EReal.coe_mul, EReal.coe_mul]

omit hC hA h0 h1
include hlo hhi h2

set_option maxHeartbeats 1000000 in
theorem three_at (p q : FVec Ideal S256x512 .f32) (x : ℝ) (hp : p (ix2 r c) = ((x : ℝ) : EReal))
    (hq : q (ix2 r c) = G (ix2 r ⟨1024 + c, add_below c (Nat.le_of_ble_eq_true rfl)⟩)) :
    k0_pay1 (k0_pay81 W k0_pay72 p q (k0_pay80 W)) (ix3 0 r c) = ((x + gt 2 * wv : ℝ) : EReal) := by
  have hl := low_lane r
  revert hl
  unfold k0_pay1 k0_pay81 k0_pay80
  generalize k0_pay72 = L
  intro hl
  pointwise
  have e1 := pick_lane (fun l => L (ix2 r l)) hl
    (fun m l => Ideal.div (W (ix3 m r ⟨l, by omega⟩)) (W (ix3 m r ⟨128 + l, by omega⟩)))
    (fun m l => Ideal.div (W (ix3 m r ⟨128 + l, by omega⟩)) (W (ix3 m r ⟨l, by omega⟩))) ((wv : ℝ) : EReal) m d c hc
    (fun l _ h => (congrArg₂ (fun i j => Ideal.div (W (ix3 m r i)) (W (ix3 m r j))) (Fin.ext h) (Fin.ext (by dsimp only; omega))).trans hlo)
    (fun l _ h => (congrArg₂ (fun i j => Ideal.div (W (ix3 m r i)) (W (ix3 m r j))) (Fin.ext (by dsimp only; omega)) (Fin.ext h)).trans hhi)
  dsimp only at e1
  rw [e1, hp, hq, h2, EReal.coe_add, EReal.coe_mul]

end

end Cert.KernelIdeal.Value
-- ==== Proof.KWin.lean ====
module

public import proofs.«01_k».proof.Proof.KBase
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

theorem first_key : ∀ a : Fin 32, Scalar.maxsi (Scalar.subi (Scalar.muli (BitVec.ofNat 32 (a : ℕ)) 256#32) 512#32) 0#32
    = BitVec.ofNat 32 ((a : ℕ) * 256 - 512) := by decide

theorem start_word : ∀ a : Fin 32, Scalar.muli (BitVec.ofNat 32 (a : ℕ)) 256#32 = BitVec.ofNat 32 ((a : ℕ) * 256) := by decide

theorem win_mask (a : Fin 32) (r : Fin 256) (c : Fin 768) :
    k0_pay17 (BitVec.ofNat 32 (a : ℕ)) (ix3 0 r c)
      = BitVec.ofBool (decide ((a : ℕ) * 256 - 512 + c ≤ (a : ℕ) * 256 + r)
        && decide ((a : ℕ) * 256 + r ≤ (a : ℕ) * 256 - 512 + c + 512)) := by
  unfold k0_pay17
  pointwise
  have ha := a.isLt
  rw [first_key, start_word, add_word, add_word, sub_nonneg_word (by omega) (by omega),
    sub_le_word (by omega) (by omega) (by omega), WordCmp.andi_ofBool]

/-- What a column of the window's product with the values and ones holds. -/
def dualV (V : Fin 64 → ℕ → ℝ) (k : ℕ) (l : Fin 256) : ℝ :=
  if h : (l : ℕ) < 64 then V ⟨l, h⟩ k else if h : (l : ℕ) < 192 then 1 else V ⟨(l : ℕ) - 192, by omega⟩ k

section
variable (Q : Fin 8 → Fin 256 → Fin 64 → ℝ) (K : ℕ → Fin 64 → ℝ) (V : Fin 64 → ℕ → ℝ) (a : Fin 32)
  (v6 : FVec Ideal S2048x64 .bf16) (x y : Vec Ideal S1x64x768 .bf16)
  (hq : ∀ m r d, v6 (ix2 (row8 m r) d) = ((Q m r d : ℝ) : EReal))
  (hx : ∀ d c, x (ix3 0 d c) = ((K ((a : ℕ) * 256 - 512 + (c : ℕ)) d : ℝ) : EReal))
  (hy : ∀ d c, y (ix3 0 d c) = ((V d ((a : ℕ) * 256 - 512 + (c : ℕ)) : ℝ) : EReal))
include hq hx

theorem win_score (m : Fin 8) (r : Fin 256) (c : Fin 768) :
    Scalar.select (k0_pay17 (BitVec.ofNat 32 (a : ℕ)) (ix3 0 r c)) (k0_pay16 v6 x (ix3 m r c)) (⊥ : EReal)
      = rowW (Q m r) K ((a : ℕ) * 256 + r) ((a : ℕ) * 256 - 512 + c) := by
  have e : k0_pay16 v6 x (ix3 m r c) = ((dotp (Q m r) K ((a : ℕ) * 256 - 512 + c) : ℝ) : EReal) := by
    rw [← dotp_coe (Q m r) K _ (fun d => v6 (ix2 (row8 m r) d)) (fun d => x (ix3 0 d c)) (hq m r) fun d => hx d c]
    unfold k0_pay16
    pointwise
    rfl
  rw [win_mask, e, WordCmp.select_ofBool, rowW]
  simp only [Bool.and_eq_true, decide_eq_true_eq]

include hy

theorem win_at (m : Fin 8) (r : Fin 256) (l : Fin 256) :
    k0_pay18 (k0_pay16 v6 x) (Named.named κ "neg" 0xF149F2CA#32) (k0_pay17 (BitVec.ofNat 32 (a : ℕ))) y (ix3 m r l)
      = ∑ k : Fin 768, Ideal.exp (rowW (Q m r) K ((a : ℕ) * 256 + r) ((a : ℕ) * 256 - 512 + k)
          - Finset.univ.fold max ⊥ fun k : Fin 768 => rowW (Q m r) K ((a : ℕ) * 256 + r) ((a : ℕ) * 256 - 512 + k))
        * ((dualV V ((a : ℕ) * 256 - 512 + k) l : ℝ) : EReal) := by
  have hs := win_score Q K a v6 x hq hx m r
  revert hs
  rw [neg_bot]
  generalize k0_pay17 (BitVec.ofNat 32 (a : ℕ)) = mk
  generalize k0_pay16 v6 x = S
  intro hs
  unfold k0_pay18
  pointwise
  rw [bits_bot]
  refine Finset.sum_congr rfl fun k _ => ?_
  congr 1
  · rw [hs]; simp only [hs]
  · unfold dualV
    by_cases h1 : (l : ℕ) < 64
    · rw [dif_pos h1, dif_pos h1]; exact hy _ _
    · rw [dif_neg h1, dif_neg h1]
      by_cases h2 : (l : ℕ) < 192
      · rw [dif_pos h2]
        by_cases h3 : (l : ℕ) - 64 < 64
        · rw [dif_pos h3]; rfl
        · rw [dif_neg h3, dif_pos (by omega)]; rfl
      · rw [dif_neg (by omega), dif_neg (by omega), dif_neg h2]
        exact (congrArg (fun d => y (ix3 0 d k)) (Fin.ext (by
          show (l : ℕ) - 64 - 64 - 64 = (l : ℕ) - 192; omega))).trans (hy ⟨(l : ℕ) - 192, by omega⟩ k)

theorem win_att (m : Fin 8) (r : Fin 256) (d : Fin 64) (l l' : Fin 256)
    (hl : ∀ k, dualV V k l = V d k) (hl' : ∀ k, dualV V k l' = 1) :
    Ideal.div (k0_pay18 (k0_pay16 v6 x) (Named.named κ "neg" 0xF149F2CA#32) (k0_pay17 (BitVec.ofNat 32 (a : ℕ))) y (ix3 m r l))
      (k0_pay18 (k0_pay16 v6 x) (Named.named κ "neg" 0xF149F2CA#32) (k0_pay17 (BitVec.ofNat 32 (a : ℕ))) y (ix3 m r l'))
      = ((att (rowW (Q m r) K ((a : ℕ) * 256 + r)) 8192 (V d) : ℝ) : EReal) := by
  rw [win_at Q K V a v6 x y hq hx hy, win_at Q K V a v6 x y hq hx hy]
  simp only [hl, hl', EReal.coe_one]
  have ha := a.isLt
  have hr := r.isLt
  have hz : ∀ f : ℕ → ℝ, ∑ c : Fin 768, ew (rowW (Q m r) K ((a : ℕ) * 256 + r) ((a : ℕ) * 256 - 512 + c)) * f ((a : ℕ) * 256 - 512 + c)
      = ∑ k ∈ Finset.range 8192, ew (rowW (Q m r) K ((a : ℕ) * 256 + r) k) * f k := fun f =>
    sum_shift (fun k => ew (rowW (Q m r) K ((a : ℕ) * 256 + r) k) * f k) _ 768 8192 (by omega) fun k _ h => by
      show ew (rowW (Q m r) K ((a : ℕ) * 256 + r) k) * f k = 0
      rw [rowW, if_neg (by omega), ew_bot, zero_mul]
  refine (quotient_softmax (fun k : Fin 768 => rowW (Q m r) K ((a : ℕ) * 256 + r) ((a : ℕ) * 256 - 512 + k))
    (fun k => rowW_ne_top _ _ _ _) (fun k => V d ((a : ℕ) * 256 - 512 + k)) ?_).trans ?_
  · refine ⟨⟨(a : ℕ) * 256 + r - ((a : ℕ) * 256 - 512), by omega⟩, ?_⟩
    show rowW _ _ _ ((a : ℕ) * 256 - 512 + ((a : ℕ) * 256 + r - ((a : ℕ) * 256 - 512))) ≠ ⊥
    rw [show (a : ℕ) * 256 - 512 + ((a : ℕ) * 256 + r - ((a : ℕ) * 256 - 512)) = (a : ℕ) * 256 + r by omega]
    exact rowW_self _ _ _
  · have h1 := hz fun _ => 1
    simp only [mul_one] at h1
    rw [den, h1, hz, att, wden]

theorem win_lo (m : Fin 8) (r : Fin 256) (d : Fin 64) :
    Ideal.div (k0_pay18 (k0_pay16 v6 x) (Named.named κ "neg" 0xF149F2CA#32) (k0_pay17 (BitVec.ofNat 32 (a : ℕ))) y (ix3 m r ⟨d, by omega⟩))
      (k0_pay18 (k0_pay16 v6 x) (Named.named κ "neg" 0xF149F2CA#32) (k0_pay17 (BitVec.ofNat 32 (a : ℕ))) y (ix3 m r ⟨128 + d, by omega⟩))
      = ((att (rowW (Q m r) K ((a : ℕ) * 256 + r)) 8192 (V d) : ℝ) : EReal) :=
  win_att Q K V a v6 x y hq hx hy m r d _ _ (fun k => dif_pos d.isLt) fun k => by
    have := d.isLt
    unfold dualV
    rw [dif_neg (by show ¬ 128 + (d : ℕ) < 64; omega), dif_pos (by show 128 + (d : ℕ) < 192; omega)]

theorem win_hi (m : Fin 8) (r : Fin 256) (d : Fin 64) :
    Ideal.div (k0_pay18 (k0_pay16 v6 x) (Named.named κ "neg" 0xF149F2CA#32) (k0_pay17 (BitVec.ofNat 32 (a : ℕ))) y (ix3 m r ⟨192 + d, by omega⟩))
      (k0_pay18 (k0_pay16 v6 x) (Named.named κ "neg" 0xF149F2CA#32) (k0_pay17 (BitVec.ofNat 32 (a : ℕ))) y (ix3 m r ⟨64 + d, by omega⟩))
      = ((att (rowW (Q m r) K ((a : ℕ) * 256 + r)) 8192 (V d) : ℝ) : EReal) :=
  win_att Q K V a v6 x y hq hx hy m r d _ _ (fun k => by
    unfold dualV
    rw [dif_neg (by show ¬ 192 + (d : ℕ) < 64; omega), dif_neg (by show ¬ 192 + (d : ℕ) < 192; omega)]
    congr 1
    exact Fin.ext (by show 192 + (d : ℕ) - 192 = d; omega)) fun k => by
    have := d.isLt
    unfold dualV
    rw [dif_neg (by show ¬ 64 + (d : ℕ) < 64; omega), dif_pos (by show 64 + (d : ℕ) < 192; omega)]
end

end Cert.KernelIdeal.Value
-- ==== Proof.KBody.lean ====
module

public import proofs.«01_k».proof.Proof.KRun
public import proofs.«01_k».proof.Proof.KComb
public import proofs.«01_k».proof.Proof.KWin
public import proofs.«01_k».proof.Proof.KPick
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

open Cert.KernelIdeal.Hand

/-- The blocks' scores the body selects with, as rows joined to the queries. -/
theorem picks_eq (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (x0 : Vec Ideal S1x8x256x64 .bf16) (x1 : Vec Ideal S1x8x256x64 .bf16) (x2 : Vec Ideal S1x1x1x512x64 .bf16) (x3 : Vec Ideal S1x1x1x512x64 .bf16) :
    bodyRun.sl.r_21 c i arg3 harg3 arg4 harg4 arg5 harg5 arg6 harg6 arg7 harg7 arg8 harg8 arg9 harg9 arg10 harg10 arg11 harg11 arg12 harg12 arg13 harg13 arg14 harg14 x0 x1 x2 x3
      = aug (bodyRun.sl.r_1 c arg4 harg4 x1) (offs (firstScores (switchOut (F := Ideal) c i arg3 harg3 arg4 harg4 arg5 harg5 arg6 harg6 arg7 harg7 arg8 harg8 arg9 harg9 arg10 harg10 arg11 harg11 arg12 harg12 arg13 harg13 arg14 harg14 (bodyRun.sl.v0 i) (bodyRun.sl.r (F := Ideal) c arg3 harg3 x0) (caseWord i) (Scalar.cmpi .ne (caseWord i) 0#32) (harg5.unread x2) (harg6.unread x3)).2 (bodyRun.sl.v0 i)) (k0_pay23 cols (k0_pay20 (bodyRun.sl.v0 i))) 16) := by
  unfold bodyRun.sl.r_21
  refine (rounds (bodyRun.sl.r_1 c arg4 harg4 x1) (switchOut (F := Ideal) c i arg3 harg3 arg4 harg4 arg5 harg5 arg6 harg6 arg7 harg7 arg8 harg8 arg9 harg9 arg10 harg10 arg11 harg11 arg12 harg12 arg13 harg13 arg14 harg14 (bodyRun.sl.v0 i) (bodyRun.sl.r (F := Ideal) c arg3 harg3 x0) (caseWord i) (Scalar.cmpi .ne (caseWord i) 0#32) (harg5.unread x2) (harg6.unread x3)).2 cols (k0_pay20 (bodyRun.sl.v0 i)) (k0_pay21 (bodyRun.sl.v0 i)) k0_pay22 (bodyRun.sl.r_5 i) (bodyRun.sl.r_6 c i arg3 harg3 arg4 harg4 arg5 harg5 arg6 harg6 arg7 harg7 arg8 harg8 arg9 harg9 arg10 harg10 arg11 harg11 arg12 harg12 arg13 harg13 arg14 harg14 x0 x2 x3) (bodyRun.sl.r_9 c i arg3 harg3 arg4 harg4 arg5 harg5 arg6 harg6 arg7 harg7 arg8 harg8 arg9 harg9 arg10 harg10 arg11 harg11 arg12 harg12 arg13 harg13 arg14 harg14 x0 x2 x3) (bodyRun.sl.r_12 c i arg3 harg3 arg4 harg4 arg5 harg5 arg6 harg6 arg7 harg7 arg8 harg8 arg9 harg9 arg10 harg10 arg11 harg11 arg12 harg12 arg13 harg13 arg14 harg14 x0 x2 x3) (bodyRun.sl.r_15 c i arg3 harg3 arg4 harg4 arg5 harg5 arg6 harg6 arg7 harg7 arg8 harg8 arg9 harg9 arg10 harg10 arg11 harg11 arg12 harg12 arg13 harg13 arg14 harg14 x0 x2 x3) (bodyRun.sl.r_18 c i arg3 harg3 arg4 harg4 arg5 harg5 arg6 harg6 arg7 harg7 arg8 harg8 arg9 harg9 arg10 harg10 arg11 harg11 arg12 harg12 arg13 harg13 arg14 harg14 x0 x2 x3) (bodyRun.sl.r_7 c i arg3 harg3 arg4 harg4 arg5 harg5 arg6 harg6 arg7 harg7 arg8 harg8 arg9 harg9 arg10 harg10 arg11 harg11 arg12 harg12 arg13 harg13 arg14 harg14 x0 x2 x3) (bodyRun.sl.r_10 c i arg3 harg3 arg4 harg4 arg5 harg5 arg6 harg6 arg7 harg7 arg8 harg8 arg9 harg9 arg10 harg10 arg11 harg11 arg12 harg12 arg13 harg13 arg14 harg14 x0 x2 x3) (bodyRun.sl.r_13 c i arg3 harg3 arg4 harg4 arg5 harg5 arg6 harg6 arg7 harg7 arg8 harg8 arg9 harg9 arg10 harg10 arg11 harg11 arg12 harg12 arg13 harg13 arg14 harg14 x0 x2 x3) (bodyRun.sl.r_16 c i arg3 harg3 arg4 harg4 arg5 harg5 arg6 harg6 arg7 harg7 arg8 harg8 arg9 harg9 arg10 harg10 arg11 harg11 arg12 harg12 arg13 harg13 arg14 harg14 x0 x2 x3) (bodyRun.sl.r_19 c i arg3 harg3 arg4 harg4 arg5 harg5 arg6 harg6 arg7 harg7 arg8 harg8 arg9 harg9 arg10 harg10 arg11 harg11 arg12 harg12 arg13 harg13 arg14 harg14 x0 x2 x3) (bodyRun.sl.r_8 c i arg3 harg3 arg4 harg4 arg5 harg5 arg6 harg6 arg7 harg7 arg8 harg8 arg9 harg9 arg10 harg10 arg11 harg11 arg12 harg12 arg13 harg13 arg14 harg14 x0 x2 x3) (bodyRun.sl.r_11 c i arg3 harg3 arg4 harg4 arg5 harg5 arg6 harg6 arg7 harg7 arg8 harg8 arg9 harg9 arg10 harg10 arg11 harg11 arg12 harg12 arg13 harg13 arg14 harg14 x0 x2 x3) (bodyRun.sl.r_14 c i arg3 harg3 arg4 harg4 arg5 harg5 arg6 harg6 arg7 harg7 arg8 harg8 arg9 harg9 arg10 harg10 arg11 harg11 arg12 harg12 arg13 harg13 arg14 harg14 x0 x2 x3) (bodyRun.sl.r_17 c i arg3 harg3 arg4 harg4 arg5 harg5 arg6 harg6 arg7 harg7 arg8 harg8 arg9 harg9 arg10 harg10 arg11 harg11 arg12 harg12 arg13 harg13 arg14 harg14 x0 x2 x3) (bodyRun.sl.r_20 c i arg3 harg3 arg4 harg4 arg5 harg5 arg6 harg6 arg7 harg7 arg8 harg8 arg9 harg9 arg10 harg10 arg11 harg11 arg12 harg12 arg13 harg13 arg14 harg14 x0 x2 x3) ?_ ?_ ?_ ?_ ?_ ?_ ?_ ?_ ?_ ?_ ?_ ?_ ?_ ?_ ?_ ?_).trans ?_
  · unfold bodyRun.sl.r_5; rfl
  · unfold bodyRun.sl.r_6; rfl
  · unfold bodyRun.sl.r_7; rfl
  · unfold bodyRun.sl.r_8; rfl
  · unfold bodyRun.sl.r_9; rfl
  · unfold bodyRun.sl.r_10; rfl
  · unfold bodyRun.sl.r_11; rfl
  · unfold bodyRun.sl.r_12; rfl
  · unfold bodyRun.sl.r_13; rfl
  · unfold bodyRun.sl.r_14; rfl
  · unfold bodyRun.sl.r_15; rfl
  · unfold bodyRun.sl.r_16; rfl
  · unfold bodyRun.sl.r_17; rfl
  · unfold bodyRun.sl.r_18; rfl
  · unfold bodyRun.sl.r_19; rfl
  · unfold bodyRun.sl.r_20; rfl
  · rfl

/-- The accumulators after the loop over whole tiles. -/
theorem loop_eq (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (x0 : Vec Ideal S1x8x256x64 .bf16) (x1 : Vec Ideal S1x8x256x64 .bf16) (x2 : Vec Ideal S1x1x1x512x64 .bf16) (x3 : Vec Ideal S1x1x1x512x64 .bf16) (x4 : Vec Ideal S1x64x8192 .bf16) (x5 : Vec Ideal S1x64x8192 .bf16) (x9 : Vec Ideal S128x8192 .bf16) :
    bodyRun.sl.r_22 c i arg3 harg3 arg4 harg4 arg5 harg5 arg6 harg6 arg7 harg7 arg8 harg8 arg9 harg9 arg10 harg10 arg11 harg11 arg12 harg12 arg13 harg13 arg14 harg14 x0 x1 x2 x3 x4 x5 x9 = (st_k0_t1 (F := Ideal) Variants.none c none i arg3 harg3 arg4 harg4 arg5 harg5 arg6 harg6 arg7 harg7 arg8 harg8 arg9 harg9 arg10 harg10 arg11 harg11 arg12 harg12 arg13 harg13 arg14 harg14 (bodyRun.sl.v0 i) (bodyRun.sl.r_21 c i arg3 harg3 arg4 harg4 arg5 harg5 arg6 harg6 arg7 harg7 arg8 harg8 arg9 harg9 arg10 harg10 arg11 harg11 arg12 harg12 arg13 harg13 arg14 harg14 x0 x1 x2 x3) 1024#32 (bodyRun.sl.v380 i) (bodyRun.sl.v391 i) (harg7.unread x4) (harg8.unread x5) (harg12.unread x9) (k0_pay58, k0_pay59) ((blockOf i : ℕ) / 4)).1 ∧
    bodyRun.sl.r_23 c i arg3 harg3 arg4 harg4 arg5 harg5 arg6 harg6 arg7 harg7 arg8 harg8 arg9 harg9 arg10 harg10 arg11 harg11 arg12 harg12 arg13 harg13 arg14 harg14 x0 x1 x2 x3 x4 x5 x9 = (st_k0_t1 (F := Ideal) Variants.none c none i arg3 harg3 arg4 harg4 arg5 harg5 arg6 harg6 arg7 harg7 arg8 harg8 arg9 harg9 arg10 harg10 arg11 harg11 arg12 harg12 arg13 harg13 arg14 harg14 (bodyRun.sl.v0 i) (bodyRun.sl.r_21 c i arg3 harg3 arg4 harg4 arg5 harg5 arg6 harg6 arg7 harg7 arg8 harg8 arg9 harg9 arg10 harg10 arg11 harg11 arg12 harg12 arg13 harg13 arg14 harg14 x0 x1 x2 x3) 1024#32 (bodyRun.sl.v380 i) (bodyRun.sl.v391 i) (harg7.unread x4) (harg8.unread x5) (harg12.unread x9) (k0_pay58, k0_pay59) ((blockOf i : ℕ) / 4)).2 := by
  have e (T : ℕ) (hT : T = 0) (S : FVec Ideal S8x256x1 .f32 × FVec Ideal S8x256x128 .f32) :
      st_k0_t2 (F := Ideal) Variants.none c none i arg3 harg3 arg4 harg4 arg5 harg5 arg6 harg6 arg7 harg7 arg8 harg8 arg9 harg9 arg10 harg10 arg11 harg11 arg12 harg12 arg13 harg13 arg14 harg14 (bodyRun.sl.v0 i) (bodyRun.sl.r_21 c i arg3 harg3 arg4 harg4 arg5 harg5 arg6 harg6 arg7 harg7 arg8 harg8 arg9 harg9 arg10 harg10 arg11 harg11 arg12 harg12 arg13 harg13 arg14 harg14 x0 x1 x2 x3) 1024#32 (bodyRun.sl.v380 i) (bodyRun.sl.v391 i) (harg7.unread x4) (harg8.unread x5) (harg12.unread x9) S T = S := by
    subst hT
    rw [st_k0_t2_zero]
  have e1 := trips1 i
  have e2 := trips2 i
  rw [← e1]
  constructor
  · unfold bodyRun.sl.r_22
    exact congrArg Prod.fst (e _ e2 _)
  · unfold bodyRun.sl.r_23
    exact congrArg Prod.snd (e _ e2 _)

section

variable (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (x0 : Vec Ideal S1x8x256x64 .bf16) (x1 : Vec Ideal S1x8x256x64 .bf16) (x2 : Vec Ideal S1x1x1x512x64 .bf16) (x3 : Vec Ideal S1x1x1x512x64 .bf16) (x4 : Vec Ideal S1x64x8192 .bf16) (x5 : Vec Ideal S1x64x8192 .bf16) (x6 : Vec Ideal S1x64x8192 .bf16) (x7 : Vec Ideal S1x64x8192 .bf16) (x8 : Vec Ideal S1x256x128 .f32) (x9 : Vec Ideal S128x8192 .bf16) (x10 : Vec Ideal S1x128x1536 .bf16)
  (Qn Qr : Fin 8 → Fin 256 → Fin 64 → ℝ) (Kc Ks Kw : ℕ → Fin 64 → ℝ) (Vc Vs Vw : Fin 64 → ℕ → ℝ) (G : Fin 256 → Fin 128 → ℝ) (gg : Fin 2)
  (h0 : ∀ m r d, x0 (ix4 0 m r d) = ((Qn m r d : ℝ) : EReal))
  (h1 : ∀ m r d, x1 (ix4 0 m r d) = ((Qr m r d : ℝ) : EReal))
  (h2 : ∀ (c : Fin 512) d, x2 (ix5 0 0 0 c d) = ((Kc c d : ℝ) : EReal))
  (h3 : ∀ (c : Fin 512) d, x3 (ix5 0 0 0 c d) = ((Vc d c : ℝ) : EReal))
  (h4 : ∀ d (k : Fin 8192), x4 (ix3 0 d k) = ((Ks k d : ℝ) : EReal))
  (h5 : ∀ d (k : Fin 8192), x5 (ix3 0 d k) = ((Vs d k : ℝ) : EReal))
  (h6 : ∀ d (k : Fin 8192), x6 (ix3 0 d k) = ((Kw k d : ℝ) : EReal))
  (h7 : ∀ d (k : Fin 8192), x7 (ix3 0 d k) = ((Vw d k : ℝ) : EReal))
  (h8 : ∀ r x, x8 (ix3 0 r x) = ((G r x : ℝ) : EReal))
  (h9 : ∀ (j : Fin 128) (k : Fin 8192), x9 (ix2 j k) = if (j : ℕ) = (k : ℕ) / 64 then (1 : EReal) else 0)
  (h10 : ∀ (x : Fin 128) (k : Fin 1536), x10 (ix3 0 x k) = if (x : ℕ) = (k : ℕ) / 512 * 16 + (k : ℕ) % 512 / 64 + 8 * (gg : ℕ) then (1 : EReal) else 0)

section
include h0
theorem plain_query (m : Fin 8) (r : Fin 256) (d : Fin 64) :
    bodyRun.sl.r (F := Ideal) c arg3 harg3 x0 (ix2 (row8 m r) d) = ((Qn m r d : ℝ) : EReal) := by
  unfold bodyRun.sl.r
  rw [query_at]
  exact (load_query arg3 harg3 x0 _ m r d).trans (h0 m r d)
end

section
include h1
theorem turned_query (m : Fin 8) (r : Fin 256) (d : Fin 64) :
    bodyRun.sl.r_1 (F := Ideal) c arg4 harg4 x1 (ix2 (row8 m r) d) = ((Qr m r d : ℝ) : EReal) := by
  unfold bodyRun.sl.r_1
  rw [query_at']
  exact (load_query arg4 harg4 x1 _ m r d).trans (h1 m r d)
end

section
include h0 h2 h3
/-- What the switch leaves: the compressed attention and the blocks' importance. -/
theorem case_eq :
    (∀ m r (l : Fin 128), (switchOut (F := Ideal) c i arg3 harg3 arg4 harg4 arg5 harg5 arg6 harg6 arg7 harg7 arg8 harg8 arg9 harg9 arg10 harg10 arg11 harg11 arg12 harg12 arg13 harg13 arg14 harg14 (bodyRun.sl.v0 i) (bodyRun.sl.r (F := Ideal) c arg3 harg3 x0) (caseWord i) (Scalar.cmpi .ne (caseWord i) 0#32) (harg5.unread x2) (harg6.unread x3)).1 (ix3 m r l)
      = ((att (rowC (Qn m r) Kc ((blockOf i : ℕ) * 256 + r)) 511 (Vc ⟨(l : ℕ) % 64, by omega⟩) : ℝ) : EReal)) ∧
    (∀ r (l : Fin 128), (switchOut (F := Ideal) c i arg3 harg3 arg4 harg4 arg5 harg5 arg6 harg6 arg7 harg7 arg8 harg8 arg9 harg9 arg10 harg10 arg11 harg11 arg12 harg12 arg13 harg13 arg14 harg14 (bodyRun.sl.v0 i) (bodyRun.sl.r (F := Ideal) c arg3 harg3 x0) (caseWord i) (Scalar.cmpi .ne (caseWord i) 0#32) (harg5.unread x2) (harg6.unread x3)).2 (ix2 r l)
      = ((imp (fun m => Qn m r) Kc ((blockOf i : ℕ) * 256 + r) l : ℝ) : EReal)) := by
  have hv : bodyRun.sl.v0 i = BitVec.ofNat 32 ((blockOf i : ℕ) * 256) := block_start (blockOf i)
  rw [hv]
  obtain ⟨b0, b1, b2⟩ := case_bounds (blockOf i)
  exact case_at c i arg3 harg3 arg4 harg4 arg5 harg5 arg6 harg6 arg7 harg7 arg8 harg8 arg9 harg9 arg10 harg10 arg11 harg11 arg12 harg12 arg13 harg13 arg14 harg14 Qn Kc Vc (blockOf i) _ (plain_query c arg3 harg3 x0 Qn h0) x2 x3 h2 h3 _ _ b0 b1 b2
end

section
include h0 h1 h2 h3 h4 h5 h9
/-- The selected attention, as a quotient of two lanes. -/
theorem sel_eq (m : Fin 8) (r : Fin 256) (d : Fin 64) :
    Ideal.div (bodyRun.sl.r_27 c i arg3 harg3 arg4 harg4 arg5 harg5 arg6 harg6 arg7 harg7 arg8 harg8 arg9 harg9 arg10 harg10 arg11 harg11 arg12 harg12 arg13 harg13 arg14 harg14 x0 x1 x2 x3 x4 x5 x9 (ix3 m r ⟨d, by omega⟩))
      (bodyRun.sl.r_27 c i arg3 harg3 arg4 harg4 arg5 harg5 arg6 harg6 arg7 harg7 arg8 harg8 arg9 harg9 arg10 harg10 arg11 harg11 arg12 harg12 arg13 harg13 arg14 harg14 x0 x1 x2 x3 x4 x5 x9 (ix3 m r ⟨64 + d, by omega⟩))
      = ((att (rowS (chosen (fun m => Qn m r) Kc ((blockOf i : ℕ) * 256 + r)) (Qr m r) Ks ((blockOf i : ℕ) * 256 + r)) 8192 (Vs d) : ℝ) : EReal) := by
  have ha := (blockOf i).isLt
  have hv : bodyRun.sl.v0 i = BitVec.ofNat 32 ((blockOf i : ℕ) * 256) := block_start (blockOf i)
  have hc := (case_eq c i arg3 harg3 arg4 harg4 arg5 harg5 arg6 harg6 arg7 harg7 arg8 harg8 arg9 harg9 arg10 harg10 arg11 harg11 arg12 harg12 arg13 harg13 arg14 harg14 x0 x2 x3 Qn Kc Vc h0 h2 h3).2
  have hq := turned_query c arg4 harg4 x1 Qr h1
  have he := picks_eq c i arg3 harg3 arg4 harg4 arg5 harg5 arg6 harg6 arg7 harg7 arg8 harg8 arg9 harg9 arg10 harg10 arg11 harg11 arg12 harg12 arg13 harg13 arg14 harg14 x0 x1 x2 x3
  have ho : ∀ r (j : Fin 128), (offs (firstScores (switchOut (F := Ideal) c i arg3 harg3 arg4 harg4 arg5 harg5 arg6 harg6 arg7 harg7 arg8 harg8 arg9 harg9 arg10 harg10 arg11 harg11 arg12 harg12 arg13 harg13 arg14 harg14 (bodyRun.sl.v0 i) (bodyRun.sl.r (F := Ideal) c arg3 harg3 x0) (caseWord i) (Scalar.cmpi .ne (caseWord i) 0#32) (harg5.unread x2) (harg6.unread x3)).2 (bodyRun.sl.v0 i)) (k0_pay23 cols (k0_pay20 (bodyRun.sl.v0 i))) 16) (ix2 r j)
      = @ite _ (chosen (fun m => Qn m r) Kc ((blockOf i : ℕ) * 256 + r) j ∧ 64 * (j : ℕ) ≤ (blockOf i : ℕ) * 256 + r) (Classical.propDecidable _) (0 : EReal) ⊥ := by
    intro r j
    revert hc
    generalize (switchOut (F := Ideal) c i arg3 harg3 arg4 harg4 arg5 harg5 arg6 harg6 arg7 harg7 arg8 harg8 arg9 harg9 arg10 harg10 arg11 harg11 arg12 harg12 arg13 harg13 arg14 harg14 (bodyRun.sl.v0 i) (bodyRun.sl.r (F := Ideal) c arg3 harg3 x0) (caseWord i) (Scalar.cmpi .ne (caseWord i) 0#32) (harg5.unread x2) (harg6.unread x3)).2 = p
    intro hc
    rw [hv]
    exact offs_last (blockOf i) (fun m => Qn m r) Kc p r (hc r) j
  revert he ho
  generalize offs (firstScores (switchOut (F := Ideal) c i arg3 harg3 arg4 harg4 arg5 harg5 arg6 harg6 arg7 harg7 arg8 harg8 arg9 harg9 arg10 harg10 arg11 harg11 arg12 harg12 arg13 harg13 arg14 harg14 (bodyRun.sl.v0 i) (bodyRun.sl.r (F := Ideal) c arg3 harg3 x0) (caseWord i) (Scalar.cmpi .ne (caseWord i) 0#32) (harg5.unread x2) (harg6.unread x3)).2 (bodyRun.sl.v0 i)) (k0_pay23 cols (k0_pay20 (bodyRun.sl.v0 i))) 16 = o
  intro he ho
  obtain ⟨l1, l2⟩ := loop_eq c i arg3 harg3 arg4 harg4 arg5 harg5 arg6 harg6 arg7 harg7 arg8 harg8 arg9 harg9 arg10 harg10 arg11 harg11 arg12 harg12 arg13 harg13 arg14 harg14 x0 x1 x2 x3 x4 x5 x9
  rw [he] at l1 l2
  have hI := loop_at c i arg3 harg3 arg4 harg4 arg5 harg5 arg6 harg6 arg7 harg7 arg8 harg8 arg9 harg9 arg10 harg10 arg11 harg11 arg12 harg12 arg13 harg13 arg14 harg14 (bodyRun.sl.v0 i) 1024#32 (bodyRun.sl.v380 i) (bodyRun.sl.v391 i)
    (fun r j => chosen (fun m => Qn m r) Kc ((blockOf i : ℕ) * 256 + r) j) Qr Ks Vs _ hq o ho x9 x4 x5 h9 h4 h5 ((blockOf i : ℕ) / 4) le_rfl
  rw [← l1, ← l2] at hI
  have hL : ∃ mx, Inv (fun m r => rowS (chosen (fun m => Qn m r) Kc ((blockOf i : ℕ) * 256 + r)) (Qr m r) Ks ((blockOf i : ℕ) * 256 + r)) (valOnes Vs)
      (1024 * ((blockOf i : ℕ) / 4) + 1024) mx (bodyRun.sl.r_27 c i arg3 harg3 arg4 harg4 arg5 harg5 arg6 harg6 arg7 harg7 arg8 harg8 arg9 harg9 arg10 harg10 arg11 harg11 arg12 harg12 arg13 harg13 arg14 harg14 x0 x1 x2 x3 x4 x5 x9) := by
    unfold bodyRun.sl.r_27 bodyRun.sl.r_24 bodyRun.sl.r_25 bodyRun.sl.r_26
    rw [he]
    exact last_step (fun r j => chosen (fun m => Qn m r) Kc ((blockOf i : ℕ) * 256 + r) j) Qr Ks Vs (blockOf i) _ hq o ho
      (1024 * ((blockOf i : ℕ) / 4)) (by omega) _ _ _
      (fun j c => (load_rows arg12 harg12 x9 _ _ (1024 * ((blockOf i : ℕ) / 4)) (by omega) (off6_at i) j c).trans (h9 _ _))
      (fun d c => (load_tile arg7 harg7 x4 _ _ (1024 * ((blockOf i : ℕ) / 4)) (by omega) (off7_at i) d c).trans (h4 _ _))
      (fun d c => (load_tile arg8 harg8 x5 _ _ (1024 * ((blockOf i : ℕ) / 4)) (by omega) (off7_at i) d c).trans (h5 _ _))
      _ _ hI _ (last_mask i)
  obtain ⟨mx, hL⟩ := hL
  obtain ⟨j, hj, hj'⟩ := exists_chosen (fun m => Qn m r) Kc ((blockOf i : ℕ) * 256 + r)
  refine hL.quotient (fun m r k => rowS_ne_top _ _ _ _ _) (by omega) m r (fun k hk => rowS_gt _ _ _ (by omega)) ⟨64 * j, by omega, ?_⟩ _ _ d.isLt (by show 64 ≤ 64 + (d : ℕ); omega)
  unfold rowS
  rw [if_pos ⟨hj', by rw [Nat.mul_div_cancel_left _ (by norm_num)]; exact hj⟩]
  exact EReal.coe_ne_bot _
end

section
include h1 h6 h7
/-- The window's attention, as a quotient of two lanes, in both halves. -/
theorem win_eq (m : Fin 8) (r : Fin 256) (d : Fin 64) :
    Ideal.div (bodyRun.sl.r_2 c i arg3 harg3 arg4 harg4 arg5 harg5 arg6 harg6 arg7 harg7 arg8 harg8 arg9 harg9 arg10 harg10 arg11 harg11 arg12 harg12 arg13 harg13 arg14 harg14 x0 x1 x2 x3 x6 x7 (ix3 m r ⟨d, by omega⟩))
      (bodyRun.sl.r_2 c i arg3 harg3 arg4 harg4 arg5 harg5 arg6 harg6 arg7 harg7 arg8 harg8 arg9 harg9 arg10 harg10 arg11 harg11 arg12 harg12 arg13 harg13 arg14 harg14 x0 x1 x2 x3 x6 x7 (ix3 m r ⟨128 + d, by omega⟩))
      = ((att (rowW (Qr m r) Kw ((blockOf i : ℕ) * 256 + r)) 8192 (Vw d) : ℝ) : EReal) ∧
    Ideal.div (bodyRun.sl.r_2 c i arg3 harg3 arg4 harg4 arg5 harg5 arg6 harg6 arg7 harg7 arg8 harg8 arg9 harg9 arg10 harg10 arg11 harg11 arg12 harg12 arg13 harg13 arg14 harg14 x0 x1 x2 x3 x6 x7 (ix3 m r ⟨192 + d, by omega⟩))
      (bodyRun.sl.r_2 c i arg3 harg3 arg4 harg4 arg5 harg5 arg6 harg6 arg7 harg7 arg8 harg8 arg9 harg9 arg10 harg10 arg11 harg11 arg12 harg12 arg13 harg13 arg14 harg14 x0 x1 x2 x3 x6 x7 (ix3 m r ⟨64 + d, by omega⟩))
      = ((att (rowW (Qr m r) Kw ((blockOf i : ℕ) * 256 + r)) 8192 (Vw d) : ℝ) : EReal) := by
  have ha := (blockOf i).isLt
  have hq := turned_query c arg4 harg4 x1 Qr h1
  have hx := fun (inb) d c => (load_window arg9 harg9 x6 _ inb ((blockOf i : ℕ) * 256 - 512) (by omega) (off1_at i) d c).trans (h6 _ _)
  have hy := fun (inb) d c => (load_window arg10 harg10 x7 _ inb ((blockOf i : ℕ) * 256 - 512) (by omega) (off1_at i) d c).trans (h7 _ _)
  unfold bodyRun.sl.r_2
  exact ⟨win_lo Qr Kw Vw (blockOf i) _ _ _ hq (hx _) (hy _) m r d, win_hi Qr Kw Vw (blockOf i) _ _ _ hq (hx _) (hy _) m r d⟩
end

section
include h8 h10
/-- The gates of a head in its columns. -/
theorem gate_eq (m : Fin 8) (r : Fin 256) (br : Fin 3) (k : Fin 1536) (hk : (k : ℕ) / 512 = br) (hm : (k : ℕ) % 512 / 64 = m) :
    bodyRun.sl.r_28 (F := Ideal) c arg11 harg11 arg13 harg13 x8 x10 (ix2 r k) = ((G r ⟨(br : ℕ) * 16 + m + 8 * gg, by omega⟩ : ℝ) : EReal) := by
  unfold bodyRun.sl.r_28
  refine gates_at _ _ r k (G r) (fun x => (load_gates arg11 harg11 x8 _ r x).trans (h8 r x)) _ fun x => (load_spread arg13 harg13 x10 _ x k).trans ((h10 x k).trans ?_)
  rw [hk, hm]
  simp only [Fin.ext_iff]
end

include h0 h1 h2 h3 h4 h5 h6 h7 h8 h9 h10
/-- The block the body writes, at a query, a head and a value column. -/
theorem piece_at (m : Fin 8) (r : Fin 256) (d : Fin 64) (cc : Fin 512) (hcc : (cc : ℕ) = 64 * m + d) :
    k0_pay1 (k0_pay81 (bodyRun.sl.r_2 c i arg3 harg3 arg4 harg4 arg5 harg5 arg6 harg6 arg7 harg7 arg8 harg8 arg9 harg9 arg10 harg10 arg11 harg11 arg12 harg12 arg13 harg13 arg14 harg14 x0 x1 x2 x3 x6 x7) k0_pay72 (bodyRun.sl.r_34 c i arg3 harg3 arg4 harg4 arg5 harg5 arg6 harg6 arg7 harg7 arg8 harg8 arg9 harg9 arg10 harg10 arg11 harg11 arg12 harg12 arg13 harg13 arg14 harg14 x0 x1 x2 x3 x4 x5 x8 x9 x10)
      (bodyRun.sl.r_35 c arg11 harg11 arg13 harg13 x8 x10) (bodyRun.sl.r_36 c i arg3 harg3 arg4 harg4 arg5 harg5 arg6 harg6 arg7 harg7 arg8 harg8 arg9 harg9 arg10 harg10 arg11 harg11 arg12 harg12 arg13 harg13 arg14 harg14 x0 x1 x2 x3 x6 x7)) (ix3 0 r cc)
      = ((gated (fun m => Qn m r) (fun m => Qr m r) Kc Ks Kw (Vc d) (Vs d) (Vw d)
          (fun br => G r ⟨(br : ℕ) * 16 + m + 8 * gg, by omega⟩) ((blockOf i : ℕ) * 256 + r) m : ℝ) : EReal) := by
  have hg := gate_eq c arg11 harg11 arg13 harg13 x8 x10 G gg h8 h10 m r
  have hC := fun l => (case_eq c i arg3 harg3 arg4 harg4 arg5 harg5 arg6 harg6 arg7 harg7 arg8 harg8 arg9 harg9 arg10 harg10 arg11 harg11 arg12 harg12 arg13 harg13 arg14 harg14 x0 x2 x3 Qn Kc Vc h0 h2 h3).1 m r l
  have hA := sel_eq c i arg3 harg3 arg4 harg4 arg5 harg5 arg6 harg6 arg7 harg7 arg8 harg8 arg9 harg9 arg10 harg10 arg11 harg11 arg12 harg12 arg13 harg13 arg14 harg14 x0 x1 x2 x3 x4 x5 x9 Qn Qr Kc Ks Vc Vs h0 h1 h2 h3 h4 h5 h9 m r d
  have hW := win_eq c i arg3 harg3 arg4 harg4 arg5 harg5 arg6 harg6 arg7 harg7 arg8 harg8 arg9 harg9 arg10 harg10 arg11 harg11 arg12 harg12 arg13 harg13 arg14 harg14 x0 x1 x2 x3 x6 x7 Qr Kw Vw h1 h6 h7 m r d
  have g0 := hg 0 ⟨cc, by omega⟩ (by dsimp only; omega) (by dsimp only; omega)
  have g1 := hg 1 ⟨512 + cc, by omega⟩ (by show (512 + (cc : ℕ)) / 512 = 1; omega) (by dsimp only; omega)
  have g2 := hg 2 ⟨1024 + cc, by omega⟩ (by show (1024 + (cc : ℕ)) / 512 = 2; omega) (by dsimp only; omega)
  have h29 : bodyRun.sl.r_29 (F := Ideal) c arg11 harg11 arg13 harg13 x8 x10 (ix2 r cc)
      = bodyRun.sl.r_28 (F := Ideal) c arg11 harg11 arg13 harg13 x8 x10 (ix2 r ⟨cc, by omega⟩) := by
    unfold bodyRun.sl.r_29 bodyRun.sl.r_28
    exact first_slice r cc _ _ _
  have hp : bodyRun.sl.r_34 c i arg3 harg3 arg4 harg4 arg5 harg5 arg6 harg6 arg7 harg7 arg8 harg8 arg9 harg9 arg10 harg10 arg11 harg11 arg12 harg12 arg13 harg13 arg14 harg14 x0 x1 x2 x3 x4 x5 x8 x9 x10 (ix2 r cc)
      = (((fun br : Fin 3 => G r ⟨(br : ℕ) * 16 + m + 8 * gg, by omega⟩) 0 * att (rowC (Qn m r) Kc ((blockOf i : ℕ) * 256 + r)) 511 (Vc d)
        + (fun br : Fin 3 => G r ⟨(br : ℕ) * 16 + m + 8 * gg, by omega⟩) 1 * att (rowS (chosen (fun m => Qn m r) Kc ((blockOf i : ℕ) * 256 + r)) (Qr m r) Ks ((blockOf i : ℕ) * 256 + r)) 8192 (Vs d) : ℝ) : EReal) := by
    unfold bodyRun.sl.r_34 bodyRun.sl.r_30 bodyRun.sl.r_31 bodyRun.sl.r_32 bodyRun.sl.r_33
    exact two_at _ _ _ r m d cc hcc (fun br => G r ⟨(br : ℕ) * 16 + m + 8 * gg, by omega⟩) _ _
      (fun l hl => (hC l).trans (by congr 4)) hA g0 g1 _ h29
  have hq' : bodyRun.sl.r_35 (F := Ideal) c arg11 harg11 arg13 harg13 x8 x10 (ix2 r cc)
      = bodyRun.sl.r_28 (F := Ideal) c arg11 harg11 arg13 harg13 x8 x10 (ix2 r ⟨1024 + cc, by omega⟩) := by
    unfold bodyRun.sl.r_35
    exact last_slice _ r cc
  unfold bodyRun.sl.r_36
  exact three_at _ _ r m d cc hcc (fun br => G r ⟨(br : ℕ) * 16 + m + 8 * gg, by omega⟩) _ hW.1 hW.2 g2 _ _ _ hp hq'

end

end Cert.KernelIdeal.Value
-- ==== Proof.KHost.lean ====
module

public import proofs.«01_k».proof.Proof.Gen.KernelIdeal.Frame
public import proofs.«01_k».proof.Proof.KBase
public import Idealize.ShloMosaic.Lib.Claim
public import Idealize.ShloMosaic.Lib.StableHlo.ReadAt
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

variable (m : (ℓ : Loc nD τ sig) → Buf (Elt Ideal) ℓ) (c : Dev nD)

/-- The sign of a word. -/
def signWord (x : BitVec 32) : BitVec 32 := if x = 0 then 0 else if x.msb = true then -1 else 1

/-- The floor of a quotient of words, as the host computes it. -/
def floorWord (x d : BitVec 32) : BitVec 32 :=
  Scalar.select (IntOp.andi (IntOp.cmpi .ne (signWord x) (signWord d)) (IntOp.cmpi .ne (IntOp.remsi .host x d) 0#32))
    (IntOp.subi (IntOp.divsi .host x d) 1#32) (IntOp.divsi .host x d)

/-- The remainder of words with the divisor's sign, as the host computes it. -/
def remWord (x d : BitVec 32) : BitVec 32 :=
  Scalar.select (IntOp.andi (IntOp.cmpi .ne (IntOp.cmpi .slt (IntOp.remsi .host x (Scalar.select (IntOp.cmpi .eq d 0#32) 1#32 d)) 0#32)
      (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d)) (Scalar.select (IntOp.cmpi .eq d 0#32) 1#32 d))
    (IntOp.remsi .host x (Scalar.select (IntOp.cmpi .eq d 0#32) 1#32 d))

theorem row_floor : ∀ k : Fin 8192, floorWord (BitVec.ofNat 32 (k : ℕ)) 64#32 = BitVec.ofNat 32 ((k : ℕ) / 64) := by decide +kernel

theorem spread_word : ∀ k : Fin 1536, IntOp.addi (IntOp.muli (floorWord (BitVec.ofNat 32 (k : ℕ)) 512#32) 16#32)
      (floorWord (remWord (BitVec.ofNat 32 (k : ℕ)) 512#32) 64#32)
    = BitVec.ofNat 32 ((k : ℕ) / 512 * 16 + (k : ℕ) % 512 / 64) := by decide +kernel

theorem c64 : id (constantI S_ 32 64#32) ix0 = 64#32 := rfl
theorem c512 : id (constantI S_ 32 512#32) ix0 = 512#32 := rfl

theorem onehot_row (j : Fin 128) (k : Fin 8192) (w : BitVec 32) (hw : w = floorWord (BitVec.ofNat 32 (k : ℕ)) 64#32) :
    (FloatOps.uitofp (F := Ideal) .bf16 (IntOp.cmpi .eq (BitVec.ofNat 32 (j : ℕ)) w) : EReal) = if (j : ℕ) = (k : ℕ) / 64 then (1 : EReal) else 0 := by
  rw [hw, row_floor, WordCmp.cmpi_eq_ofNat (by omega) (by omega)]
  by_cases h : (j : ℕ) = (k : ℕ) / 64
  · rw [if_pos h, decide_eq_true h]
    show (((1 : ℕ) : ℝ) : EReal) = _
    simp
  · rw [if_neg h, decide_eq_false h]
    show (((0 : ℕ) : ℝ) : EReal) = _
    simp

theorem onehot_spread (g : Fin 2) (x : Fin 128) (k : Fin 1536) (w : BitVec 32)
    (hw : w = IntOp.addi (IntOp.muli (floorWord (BitVec.ofNat 32 (k : ℕ)) 512#32) 16#32) (floorWord (remWord (BitVec.ofNat 32 (k : ℕ)) 512#32) 64#32)) :
    (FloatOps.uitofp (F := Ideal) .bf16 (IntOp.cmpi .eq (BitVec.ofNat 32 (x : ℕ)) (IntOp.addi w (IntOp.muli 8#32 (BitVec.ofNat 32 (g : ℕ))))) : EReal)
      = if (x : ℕ) = (k : ℕ) / 512 * 16 + (k : ℕ) % 512 / 64 + 8 * (g : ℕ) then (1 : EReal) else 0 := by
  have hw : IntOp.addi w (IntOp.muli 8#32 (BitVec.ofNat 32 (g : ℕ))) = BitVec.ofNat 32 ((k : ℕ) / 512 * 16 + (k : ℕ) % 512 / 64 + 8 * (g : ℕ)) := by
    rw [hw, spread_word]
    simp only [IntOp.addi, IntOp.muli, ← BitVec.ofNat_mul, ← BitVec.ofNat_add]
  rw [hw, WordCmp.cmpi_eq_ofNat (by omega) (by omega)]
  by_cases h : (x : ℕ) = (k : ℕ) / 512 * 16 + (k : ℕ) % 512 / 64 + 8 * (g : ℕ)
  · rw [if_pos h, decide_eq_true h]
    show (((1 : ℕ) : ℝ) : EReal) = _
    simp
  · rw [if_neg h, decide_eq_false h]
    show (((0 : ℕ) : ℝ) : EReal) = _
    simp

set_option maxHeartbeats 1000000 in
theorem rows_at (j : Fin 128) (k : Fin 8192) : (V m c main_v8 : Vec Ideal S128x8192 .bf16) (ix2 j k) = if (j : ℕ) = (k : ℕ) / 64 then (1 : EReal) else 0 := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_reads_at
  refine onehot_row j k _ ?_
  rfl

set_option maxHeartbeats 400000 in
theorem spread_at (g : Fin 2) (x : Fin 128) (k : Fin 1536) : (V m c main_v29 : Vec Ideal S2x128x1536 .bf16) (ix3 g x k)
    = if (x : ℕ) = (k : ℕ) / 512 * 16 + (k : ℕ) % 512 / 64 + 8 * (g : ℕ) then (1 : EReal) else 0 := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_reads_at
  refine onehot_spread g x k _ ?_
  rfl

end Cert.KernelIdeal.Value
-- ==== Proof.KBlocks.lean ====
module

public import proofs.«01_k».proof.Proof.KHost
public import proofs.«01_k».proof.Proof.Data
public import proofs.«01_k».proof.Proof.FrameIdeal
public import Idealize.ShloMosaic.Lib.Pipeline.ValueKit
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

open Cert.KernelIdeal.Hand Idealize.ShloMosaic.TcCoe

variable (m : (ℓ : Loc nD τ sig) → Buf (Elt Ideal) ℓ) (c : Dev nD)

/-- The batch element of a grid point. -/
abbrev batchOf (i : grid0.Coords) : Fin 2 := i 0
/-- The group of a grid point. -/
abbrev groupOf (i : grid0.Coords) : Fin 2 := i 1
/-- The block of queries of a grid point. -/
abbrev rowsOf (i : grid0.Coords) : Fin 32 := i 2

/-- The arguments of the launch. -/
def launched : Arrays where
  qn := m ((c : Thread nD τ).loc main_arg0)
  qr := m ((c : Thread nD τ).loc main_arg1)
  cmp := m ((c : Thread nD τ).loc main_arg2)
  sel := m ((c : Thread nD τ).loc main_arg3)
  win := m ((c : Thread nD τ).loc main_arg4)
  gates := m ((c : Thread nD τ).loc main_arg5)

theorem place0 : ∀ t : Fin cfg0.N, win0_0.index t = ![(batchOf (grid0.coords t) : ℕ), (groupOf (grid0.coords t) : ℕ), (rowsOf (grid0.coords t) : ℕ), 0] :=
  (by decide +kernel : ∀ t : Fin grid0.N, _)

theorem place1 : ∀ t : Fin cfg0.N, win0_1.index t = ![(batchOf (grid0.coords t) : ℕ), (groupOf (grid0.coords t) : ℕ), (rowsOf (grid0.coords t) : ℕ), 0] :=
  (by decide +kernel : ∀ t : Fin grid0.N, _)

theorem place2 : ∀ t : Fin cfg0.N, win0_2.index t = ![(batchOf (grid0.coords t) : ℕ), 0, (groupOf (grid0.coords t) : ℕ), 0, 0] :=
  (by decide +kernel : ∀ t : Fin grid0.N, _)

theorem place3 : ∀ t : Fin cfg0.N, win0_3.index t = ![(batchOf (grid0.coords t) : ℕ), 1, (groupOf (grid0.coords t) : ℕ), 0, 0] :=
  (by decide +kernel : ∀ t : Fin grid0.N, _)

theorem place4 : ∀ t : Fin cfg0.N, win0_4.index t = ![(batchOf (grid0.coords t) : ℕ), (groupOf (grid0.coords t) : ℕ), 0] :=
  (by decide +kernel : ∀ t : Fin grid0.N, _)

theorem place5 : ∀ t : Fin cfg0.N, win0_5.index t = ![(batchOf (grid0.coords t) : ℕ), 2 + (groupOf (grid0.coords t) : ℕ), 0] :=
  (by decide +kernel : ∀ t : Fin grid0.N, _)

theorem place6 : ∀ t : Fin cfg0.N, win0_6.index t = ![(batchOf (grid0.coords t) : ℕ), (groupOf (grid0.coords t) : ℕ), 0] :=
  (by decide +kernel : ∀ t : Fin grid0.N, _)

theorem place7 : ∀ t : Fin cfg0.N, win0_7.index t = ![(batchOf (grid0.coords t) : ℕ), 2 + (groupOf (grid0.coords t) : ℕ), 0] :=
  (by decide +kernel : ∀ t : Fin grid0.N, _)

theorem place8 : ∀ t : Fin cfg0.N, win0_8.index t = ![(batchOf (grid0.coords t) : ℕ), (rowsOf (grid0.coords t) : ℕ), 0] :=
  (by decide +kernel : ∀ t : Fin grid0.N, _)

theorem place9 : ∀ t : Fin cfg0.N, win0_9.index t = ![0, 0] :=
  (by decide +kernel : ∀ t : Fin grid0.N, _)

theorem place10 : ∀ t : Fin cfg0.N, win0_10.index t = ![(groupOf (grid0.coords t) : ℕ), 0, 0] :=
  (by decide +kernel : ∀ t : Fin grid0.N, _)

theorem place11 : ∀ t : Fin cfg0.N, win0_11.index t = ![(batchOf (grid0.coords t) : ℕ), (rowsOf (grid0.coords t) : ℕ), (groupOf (grid0.coords t) : ℕ)] :=
  (by decide +kernel : ∀ t : Fin grid0.N, _)

theorem block0 (t : Fin cfg0.N) (h : Fin 8) (r : Fin 256) (d : Fin 64) :
    (iblk m c 0 t : Vec Ideal S1x8x256x64 .bf16) (ix4 0 h r d) = (launched m c).qn (ix4 (batchOf (grid0.coords t)) ⟨(groupOf (grid0.coords t) : ℕ) * 8 + h, by omega⟩ ⟨(rowsOf (grid0.coords t) : ℕ) * 256 + r, by omega⟩ d) := by
  have hb := (batchOf (grid0.coords t)).isLt
  have hg := (groupOf (grid0.coords t)).isLt
  have hr := (rowsOf (grid0.coords t)).isLt
  unfold iblk launched
  rw [show V m c (Pipeline.arrRef spec0 0) = m ((c : Thread nD τ).loc main_arg0) from V_main_arg0 m c]
  blk_ext [place0 t]

theorem block1 (t : Fin cfg0.N) (h : Fin 8) (r : Fin 256) (d : Fin 64) :
    (iblk m c 1 t : Vec Ideal S1x8x256x64 .bf16) (ix4 0 h r d) = (launched m c).qr (ix4 (batchOf (grid0.coords t)) ⟨(groupOf (grid0.coords t) : ℕ) * 8 + h, by omega⟩ ⟨(rowsOf (grid0.coords t) : ℕ) * 256 + r, by omega⟩ d) := by
  have hb := (batchOf (grid0.coords t)).isLt
  have hg := (groupOf (grid0.coords t)).isLt
  have hr := (rowsOf (grid0.coords t)).isLt
  unfold iblk launched
  rw [show V m c (Pipeline.arrRef spec0 1) = m ((c : Thread nD τ).loc main_arg1) from V_main_arg1 m c]
  blk_ext [place1 t]

theorem block2 (t : Fin cfg0.N) (x : Fin 512) (d : Fin 64) :
    (iblk m c 2 t : Vec Ideal S1x1x1x512x64 .bf16) (ix5 0 0 0 x d) = (launched m c).cmp (ix5 (batchOf (grid0.coords t)) 0 (groupOf (grid0.coords t)) x d) := by
  have hb := (batchOf (grid0.coords t)).isLt
  have hg := (groupOf (grid0.coords t)).isLt
  have hr := (rowsOf (grid0.coords t)).isLt
  unfold iblk launched
  rw [show V m c (Pipeline.arrRef spec0 2) = m ((c : Thread nD τ).loc main_arg2) from V_main_arg2 m c]
  blk_ext [place2 t]

theorem block3 (t : Fin cfg0.N) (x : Fin 512) (d : Fin 64) :
    (iblk m c 3 t : Vec Ideal S1x1x1x512x64 .bf16) (ix5 0 0 0 x d) = (launched m c).cmp (ix5 (batchOf (grid0.coords t)) 1 (groupOf (grid0.coords t)) x d) := by
  have hb := (batchOf (grid0.coords t)).isLt
  have hg := (groupOf (grid0.coords t)).isLt
  have hr := (rowsOf (grid0.coords t)).isLt
  unfold iblk launched
  rw [show V m c (Pipeline.arrRef spec0 3) = m ((c : Thread nD τ).loc main_arg2) from V_main_arg2 m c]
  blk_ext [place3 t]

theorem block4 (t : Fin cfg0.N) (d : Fin 64) (x : Fin 8192) :
    (iblk m c 4 t : Vec Ideal S1x64x8192 .bf16) (ix3 0 d x) = (launched m c).sel (ix3 (batchOf (grid0.coords t)) ⟨(groupOf (grid0.coords t) : ℕ) * 64 + d, by omega⟩ x) := by
  have hb := (batchOf (grid0.coords t)).isLt
  have hg := (groupOf (grid0.coords t)).isLt
  have hr := (rowsOf (grid0.coords t)).isLt
  unfold iblk launched
  rw [show V m c (Pipeline.arrRef spec0 4) = m ((c : Thread nD τ).loc main_arg3) from V_main_arg3 m c]
  blk_ext [place4 t]

theorem block5 (t : Fin cfg0.N) (d : Fin 64) (x : Fin 8192) :
    (iblk m c 5 t : Vec Ideal S1x64x8192 .bf16) (ix3 0 d x) = (launched m c).sel (ix3 (batchOf (grid0.coords t)) ⟨128 + (groupOf (grid0.coords t) : ℕ) * 64 + d, by omega⟩ x) := by
  have hb := (batchOf (grid0.coords t)).isLt
  have hg := (groupOf (grid0.coords t)).isLt
  have hr := (rowsOf (grid0.coords t)).isLt
  unfold iblk launched
  rw [show V m c (Pipeline.arrRef spec0 5) = m ((c : Thread nD τ).loc main_arg3) from V_main_arg3 m c]
  blk_ext [place5 t]

theorem block6 (t : Fin cfg0.N) (d : Fin 64) (x : Fin 8192) :
    (iblk m c 6 t : Vec Ideal S1x64x8192 .bf16) (ix3 0 d x) = (launched m c).win (ix3 (batchOf (grid0.coords t)) ⟨(groupOf (grid0.coords t) : ℕ) * 64 + d, by omega⟩ x) := by
  have hb := (batchOf (grid0.coords t)).isLt
  have hg := (groupOf (grid0.coords t)).isLt
  have hr := (rowsOf (grid0.coords t)).isLt
  unfold iblk launched
  rw [show V m c (Pipeline.arrRef spec0 6) = m ((c : Thread nD τ).loc main_arg4) from V_main_arg4 m c]
  blk_ext [place6 t]

theorem block7 (t : Fin cfg0.N) (d : Fin 64) (x : Fin 8192) :
    (iblk m c 7 t : Vec Ideal S1x64x8192 .bf16) (ix3 0 d x) = (launched m c).win (ix3 (batchOf (grid0.coords t)) ⟨128 + (groupOf (grid0.coords t) : ℕ) * 64 + d, by omega⟩ x) := by
  have hb := (batchOf (grid0.coords t)).isLt
  have hg := (groupOf (grid0.coords t)).isLt
  have hr := (rowsOf (grid0.coords t)).isLt
  unfold iblk launched
  rw [show V m c (Pipeline.arrRef spec0 7) = m ((c : Thread nD τ).loc main_arg4) from V_main_arg4 m c]
  blk_ext [place7 t]

theorem block8 (t : Fin cfg0.N) (r : Fin 256) (x : Fin 128) :
    (iblk m c 8 t : Vec Ideal S1x256x128 .f32) (ix3 0 r x) = (launched m c).gates (ix3 (batchOf (grid0.coords t)) ⟨(rowsOf (grid0.coords t) : ℕ) * 256 + r, by omega⟩ x) := by
  have hb := (batchOf (grid0.coords t)).isLt
  have hg := (groupOf (grid0.coords t)).isLt
  have hr := (rowsOf (grid0.coords t)).isLt
  unfold iblk launched
  rw [show V m c (Pipeline.arrRef spec0 8) = m ((c : Thread nD τ).loc main_arg5) from V_main_arg5 m c]
  blk_ext [place8 t]

theorem block9 (t : Fin cfg0.N) (j : Fin 128) (k : Fin 8192) :
    (iblk m c 9 t : Vec Ideal S128x8192 .bf16) (ix2 j k) = if (j : ℕ) = (k : ℕ) / 64 then (1 : EReal) else 0 := by
  rw [← rows_at m c j k]
  unfold iblk
  show _ = V m c (Pipeline.arrRef spec0 9) (ix2 j k)
  generalize V m c (Pipeline.arrRef spec0 9) = X
  blk_ext [place9 t]

theorem block10 (t : Fin cfg0.N) (x : Fin 128) (k : Fin 1536) :
    (iblk m c 10 t : Vec Ideal S1x128x1536 .bf16) (ix3 0 x k)
      = if (x : ℕ) = (k : ℕ) / 512 * 16 + (k : ℕ) % 512 / 64 + 8 * (groupOf (grid0.coords t) : ℕ) then (1 : EReal) else 0 := by
  rw [← spread_at m c (groupOf (grid0.coords t)) x k]
  unfold iblk
  show _ = V m c (Pipeline.arrRef spec0 10) (ix3 (groupOf (grid0.coords t)) x k)
  generalize V m c (Pipeline.arrRef spec0 10) = X
  have hb := (batchOf (grid0.coords t)).isLt
  have hg := (groupOf (grid0.coords t)).isLt
  have hr := (rowsOf (grid0.coords t)).isLt
  blk_ext [place10 t]

theorem place_out (t : Fin cfg0.N) (r : Fin 256) (x : Fin 512) :
    ((cfg0.win 11).blk t).view.emb (ix3 0 r x : S1x256x512.Idx)
      = (ix3 (batchOf (grid0.coords t)) ⟨(rowsOf (grid0.coords t) : ℕ) * 256 + r, by omega⟩ ⟨(groupOf (grid0.coords t) : ℕ) * 512 + x, by omega⟩ : S2x8192x1024.Idx) := by
  have hb := (batchOf (grid0.coords t)).isLt
  have hg := (groupOf (grid0.coords t)).isLt
  have hr := (rowsOf (grid0.coords t)).isLt
  blk_ext [place11 t]

end Cert.KernelIdeal.Value
-- ==== Proof.KOut.lean ====
module

public import proofs.«01_k».proof.Proof.KBody
public import proofs.«01_k».proof.Proof.KBlocks
public import Idealize.ShloMosaic.Lib.Pointwise

@[expose] public section

set_option maxRecDepth 16384

noncomputable section

namespace Cert.KernelIdeal.Value
open Idealize.ShloMosaic Idealize.ShloMosaic.Pointwise
open Cert.KernelIdeal Cert.KernelIdeal.Gen Cert.Nsa

open Cert.KernelIdeal.Hand Idealize.ShloMosaic.TcCoe Idealize.SL.Sem
open Idealize.ShloMosaic.Pipeline (Dat)

/-- The block the body leaves is the one array it stores. -/
theorem outOf_eq (c : Dev nD) (i : grid0.Coords) (arg3 : Memref sig .tc .vmem S1x8x256x64 .bf16) (harg3 : arg3.IsWhole) (arg4 : Memref sig .tc .vmem S1x8x256x64 .bf16) (harg4 : arg4.IsWhole) (arg5 : Memref sig .tc .vmem S1x1x1x512x64 .bf16) (harg5 : arg5.IsWhole) (arg6 : Memref sig .tc .vmem S1x1x1x512x64 .bf16) (harg6 : arg6.IsWhole) (arg7 : Memref sig .tc .vmem S1x64x8192 .bf16) (harg7 : arg7.IsWhole) (arg8 : Memref sig .tc .vmem S1x64x8192 .bf16) (harg8 : arg8.IsWhole) (arg9 : Memref sig .tc .vmem S1x64x8192 .bf16) (harg9 : arg9.IsWhole) (arg10 : Memref sig .tc .vmem S1x64x8192 .bf16) (harg10 : arg10.IsWhole) (arg11 : Memref sig .tc .vmem S1x256x128 .f32) (harg11 : arg11.IsWhole) (arg12 : Memref sig .tc .vmem S128x8192 .bf16) (harg12 : arg12.IsWhole) (arg13 : Memref sig .tc .vmem S1x128x1536 .bf16) (harg13 : arg13.IsWhole) (arg14 : Memref sig .tc .vmem S1x256x512 .bf16) (harg14 : arg14.IsWhole) (x0 : Vec Ideal S1x8x256x64 .bf16) (x1 : Vec Ideal S1x8x256x64 .bf16) (x2 : Vec Ideal S1x1x1x512x64 .bf16) (x3 : Vec Ideal S1x1x1x512x64 .bf16) (x4 : Vec Ideal S1x64x8192 .bf16) (x5 : Vec Ideal S1x64x8192 .bf16) (x6 : Vec Ideal S1x64x8192 .bf16) (x7 : Vec Ideal S1x64x8192 .bf16) (x8 : Vec Ideal S1x256x128 .f32) (x9 : Vec Ideal S128x8192 .bf16) (x10 : Vec Ideal S1x128x1536 .bf16) :
    outOf (F := Ideal) c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
      = k0_pay1 (k0_pay81 (bodyRun.sl.r_2 c i arg3 harg3 arg4 harg4 arg5 harg5 arg6 harg6 arg7 harg7 arg8 harg8 arg9 harg9 arg10 harg10 arg11 harg11 arg12 harg12 arg13 harg13 arg14 harg14 x0 x1 x2 x3 x6 x7) k0_pay72 (bodyRun.sl.r_34 c i arg3 harg3 arg4 harg4 arg5 harg5 arg6 harg6 arg7 harg7 arg8 harg8 arg9 harg9 arg10 harg10 arg11 harg11 arg12 harg12 arg13 harg13 arg14 harg14 x0 x1 x2 x3 x4 x5 x8 x9 x10)
      (bodyRun.sl.r_35 c arg11 harg11 arg13 harg13 x8 x10) (bodyRun.sl.r_36 c i arg3 harg3 arg4 harg4 arg5 harg5 arg6 harg6 arg7 harg7 arg8 harg8 arg9 harg9 arg10 harg10 arg11 harg11 arg12 harg12 arg13 harg13 arg14 harg14 x0 x1 x2 x3 x6 x7)) := by
  unfold outOf
  rw [View.read_writes_junk_eq_canon]
  unfold bodyRun
  dsimp only
  exact View.canon_unit_zero (by funext a; match a with | ⟨0, _⟩ => rfl | ⟨1, _⟩ => rfl | ⟨2, _⟩ => rfl) _ _

/-- The layer's result at a column given by group, head and value column. -/
theorem result_at (A : Arrays) (b g : Fin 2) (q : Fin 8192) (m : Fin 8) (d : Fin 64) (col : Fin 1024)
    (h : (col : ℕ) = (g : ℕ) * 512 + (64 * m + d)) : A.result (ix3 b q col) = ((A.out b g q m d : ℝ) : EReal) := by
  show A.resultAt b q col = _
  unfold Arrays.resultAt
  rw [show (⟨(col : ℕ) / 512, by omega⟩ : Fin 2) = g from Fin.ext (by dsimp only; omega),
    show (⟨(col : ℕ) / 64 % 8, by omega⟩ : Fin 8) = m from Fin.ext (by dsimp only; omega),
    show (⟨(col : ℕ) % 64, by omega⟩ : Fin 64) = d from Fin.ext (by dsimp only; omega)]

theorem block_index (y : S1x256x512.Idx) : ∃ (r : Fin 256) (x : Fin 512), y = ix3 0 r x :=
  ⟨y 1, y 2, funext fun a => match a with
    | ⟨0, _⟩ => Fin.ext (by have := (y 0).isLt; show (y 0 : ℕ) = 0; exact Nat.lt_one_iff.mp this)
    | ⟨1, _⟩ => rfl
    | ⟨2, _⟩ => rfl⟩

variable (m : (ℓ : Loc nD τ sig) → Buf (Elt Ideal) ℓ) (ρ : Dev nD → PrngReg) (c : Dev nD)

/-- The block a grid point writes holds the layer's result at its rows and columns. -/
theorem outAt_eq (h : (launched m c).Finite) (t : Fin cfg0.N) (r : Fin 256) (x : Fin 512) :
    outAt m c t (ix3 0 r x)
      = (launched m c).result (ix3 (batchOf (grid0.coords t)) ⟨(rowsOf (grid0.coords t) : ℕ) * 256 + r, by omega⟩ ⟨(groupOf (grid0.coords t) : ℕ) * 512 + x, by omega⟩) := by
  have hr := (rowsOf (grid0.coords t)).isLt
  have hg := (groupOf (grid0.coords t)).isLt
  unfold outAt
  rw [outOf_eq]
  have hx := x.isLt
  have hm : (x : ℕ) / 64 < 8 := by omega
  have hd : (x : ℕ) % 64 < 64 := by omega
  have e := piece_at c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun h r d => (launched m c).rQn (batchOf (grid0.coords t)) (groupOf (grid0.coords t)) ⟨(rowsOf (grid0.coords t) : ℕ) * 256 + r, by omega⟩ h d) (fun h r d => (launched m c).rQr (batchOf (grid0.coords t)) (groupOf (grid0.coords t)) ⟨(rowsOf (grid0.coords t) : ℕ) * 256 + r, by omega⟩ h d)
    ((launched m c).rKc (batchOf (grid0.coords t)) (groupOf (grid0.coords t))) ((launched m c).rKs (batchOf (grid0.coords t)) (groupOf (grid0.coords t))) ((launched m c).rKw (batchOf (grid0.coords t)) (groupOf (grid0.coords t)))
    ((launched m c).rVc (batchOf (grid0.coords t)) (groupOf (grid0.coords t))) ((launched m c).rVs (batchOf (grid0.coords t)) (groupOf (grid0.coords t))) ((launched m c).rVw (batchOf (grid0.coords t)) (groupOf (grid0.coords t)))
    (fun r x => ((launched m c).gates (ix3 (batchOf (grid0.coords t)) ⟨(rowsOf (grid0.coords t) : ℕ) * 256 + r, by omega⟩ x)).toReal) (groupOf (grid0.coords t))
    (fun e r d => (block0 m c t e r d).trans (h.qn_at _ _ _ _ _ _ rfl))
    (fun e r d => (block1 m c t e r d).trans (h.qr_at _ _ _ _ _ _ rfl))
    (fun k d => (block2 m c t k d).trans (h.kc_at _ _ _ _))
    (fun k d => (block3 m c t k d).trans (h.vc_at _ _ _ _))
    (fun d k => (block4 m c t d k).trans (h.ks_at _ _ _ _ _ rfl))
    (fun d k => (block5 m c t d k).trans (h.vs_at _ _ _ _ _ rfl))
    (fun d k => (block6 m c t d k).trans (h.kw_at _ _ _ _ _ rfl))
    (fun d k => (block7 m c t d k).trans (h.vw_at _ _ _ _ _ rfl))
    (fun r k => (block8 m c t r k).trans (h.gates _))
    (block9 m c t) (block10 m c t) ⟨(x : ℕ) / 64, hm⟩ r ⟨(x : ℕ) % 64, hd⟩ x (by dsimp only; omega)
  refine e.trans ?_
  rw [result_at (launched m c) (batchOf (grid0.coords t)) (groupOf (grid0.coords t)) ⟨(rowsOf (grid0.coords t) : ℕ) * 256 + r, by omega⟩ ⟨(x : ℕ) / 64, hm⟩ ⟨(x : ℕ) % 64, hd⟩ _ (by dsimp only; omega)]
  unfold Arrays.out
  have eg : (fun br : Fin 3 => ((launched m c).gates (ix3 (batchOf (grid0.coords t)) ⟨(rowsOf (grid0.coords t) : ℕ) * 256 + r, by omega⟩ ⟨(br : ℕ) * 16 + (x : ℕ) / 64 + 8 * (groupOf (grid0.coords t) : ℕ), by omega⟩)).toReal)
      = (launched m c).rGate (batchOf (grid0.coords t)) (groupOf (grid0.coords t)) ⟨(rowsOf (grid0.coords t) : ℕ) * 256 + r, by omega⟩ ⟨(x : ℕ) / 64, hm⟩ := by
    funext br
    unfold Arrays.rGate
    congr 3
    exact Fin.ext (by dsimp only; omega)
  exact congrArg (fun f => ((gated ((launched m c).rQn (batchOf (grid0.coords t)) (groupOf (grid0.coords t)) ⟨(rowsOf (grid0.coords t) : ℕ) * 256 + r, by omega⟩) ((launched m c).rQr (batchOf (grid0.coords t)) (groupOf (grid0.coords t)) ⟨(rowsOf (grid0.coords t) : ℕ) * 256 + r, by omega⟩) ((launched m c).rKc (batchOf (grid0.coords t)) (groupOf (grid0.coords t))) ((launched m c).rKs (batchOf (grid0.coords t)) (groupOf (grid0.coords t))) ((launched m c).rKw (batchOf (grid0.coords t)) (groupOf (grid0.coords t)))
    ((launched m c).rVc (batchOf (grid0.coords t)) (groupOf (grid0.coords t)) ⟨(x : ℕ) % 64, hd⟩) ((launched m c).rVs (batchOf (grid0.coords t)) (groupOf (grid0.coords t)) ⟨(x : ℕ) % 64, hd⟩) ((launched m c).rVw (batchOf (grid0.coords t)) (groupOf (grid0.coords t)) ⟨(x : ℕ) % 64, hd⟩) f
    ((rowsOf (grid0.coords t) : ℕ) * 256 + r) ⟨(x : ℕ) / 64, hm⟩ : ℝ) : EReal)) eg

/-- The result array after the run. -/
theorem final (h : (launched m c).Finite) : (dats m 0 c).arrAt 11 cfg0.N = (launched m c).result := by
  refine (dats m 0 c).arrAt_eq_of_covers 11 _ (by decide +kernel) fun t hf y => ?_
  blk_simp
  rw [after11]
  obtain ⟨r, x, rfl⟩ := block_index y
  refine (outAt_eq m c h t r x).trans ?_
  exact congrArg (launched m c).result (place_out t r x).symm

/-- The run: the result array holds the layer's result and the arguments are unchanged. -/
theorem run_result (h : ∀ c, (launched m c).Finite) : θ_run defs (onTc (τ := τ) (main (F := Ideal))) ⟨m, fun _ => 0, ρ⟩ fun r => ∀ c : Dev nD,
      r.2.mem ((c : Thread nD τ).loc main_v30) = (launched m c).result
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨((hr c).1 11).trans (final m c (h c)),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 4).trans (((dats m 0 c).arrAt_in 4 rfl _).trans ((A_eq m c 4).trans (V_main_arg3 m c))),
      ((hr c).1 6).trans (((dats m 0 c).arrAt_in 6 rfl _).trans ((A_eq m c 6).trans (V_main_arg4 m c))),
      ((hr c).1 8).trans (((dats m 0 c).arrAt_in 8 rfl _).trans ((A_eq m c 8).trans (V_main_arg5 m c)))⟩)
    (run_main m ρ)

end Cert.KernelIdeal.Value
-- ==== Proof.RefData.lean ====
module

public import proofs.«01_k».proof.Proof.Gen.ReferenceIdeal.Run
public import proofs.«01_k».proof.Proof.Data

/-! The reference's arguments as arrays, and the maximum along the last axis. -/

@[expose] public section

noncomputable section

namespace Cert.ReferenceIdeal.Value
open Idealize.ShloMosaic Idealize.ShloMosaic.StableHlo Idealize.ShloMosaic.Pointwise
open Cert.ReferenceIdeal Cert.ReferenceIdeal.Gen Cert.Nsa

/-- The arguments as the reference is launched on them. -/
def arrays (V0 : Valuation τ sig (Elt Ideal)) : Arrays where
  qn := V0 (Proc.tc.devRef main_arg0)
  qr := V0 (Proc.tc.devRef main_arg1)
  cmp := V0 (Proc.tc.devRef main_arg2)
  sel := V0 (Proc.tc.devRef main_arg3)
  win := V0 (Proc.tc.devRef main_arg4)
  gates := V0 (Proc.tc.devRef main_arg5)

/-- The maximum of a rank-5 array along its last axis. -/
theorem max_last {n0 n1 n2 n3 n4 : ℕ} (h : (⟨5, ![n0, n1, n2, n3, n4]⟩ : Shape).ReducesTo [4] ⟨4, ![n0, n1, n2, n3]⟩)
    (x : (⟨5, ![n0, n1, n2, n3, n4]⟩ : Shape).Idx → EReal) (b : EReal) (i0 : Fin n0) (i1 : Fin n1) (i2 : Fin n2) (i3 : Fin n3) :
    (Finset.univ.filter fun i => h.drop i = ix4 i0 i1 i2 i3).fold max b x
      = (Finset.univ : Finset (Fin n4)).fold max b fun k => x (ix5 i0 i1 i2 i3 k) :=
  Shape.ReducesTo.fold_fiber_r5_a4 h (ix4 i0 i1 i2 i3) max b x

end Cert.ReferenceIdeal.Value
-- ==== Proof.RefSoft.lean ====
module

public import proofs.«01_k».proof.Proof.RefData

@[expose] public section

set_option maxRecDepth 16384

noncomputable section

namespace Cert.ReferenceIdeal.Value
open Idealize.ShloMosaic Idealize.ShloMosaic.StableHlo Idealize.ShloMosaic.Pointwise
open Cert.ReferenceIdeal Cert.ReferenceIdeal.Gen Cert.Nsa

variable (V0 : Valuation τ sig (Elt Ideal))

/-- An array of one lane in the last axis, repeated along it. -/
theorem lanes_apply {n : ℕ} (h : S2x2x8x8192x1.BroadcastsInDim ⟨5, ![2, 2, 8, 8192, n]⟩ ![0, 1, 2, 3, 4])
    (y : S2x2x8x8192x1.Idx → EReal) (b g : Fin 2) (m : Fin 8) (q : Fin 8192) (k : Fin n) :
    broadcastInDim ⟨5, ![2, 2, 8, 8192, n]⟩ ![0, 1, 2, 3, 4] h y (ix5 b g m q k) = y (ix5 b g m q 0) := by
  pointwise

/-- An array given one lane in a new last axis. -/
theorem lane_apply (h : S2x2x8x8192.BroadcastsInDim S2x2x8x8192x1 ![0, 1, 2, 3])
    (y : S2x2x8x8192.Idx → EReal) (b g : Fin 2) (m : Fin 8) (q : Fin 8192) :
    broadcastInDim S2x2x8x8192x1 ![0, 1, 2, 3] h y (ix5 b g m q 0) = y (ix4 b g m q) := by
  pointwise

theorem splat_apply {s : Shape} (h : S_.BroadcastsInDim s ![]) (w : BitVec 32) (i : s.Idx) :
    broadcastInDim s ![] h (constant (F := Ideal) S_ .f32 w) i = Ideal.ofBits .f32 w := rfl

theorem reduce_max_apply {n : ℕ} (h : (⟨5, ![2, 2, 8, 8192, n]⟩ : Shape).ReducesTo [4] S2x2x8x8192)
    (x : FVec Ideal ⟨5, ![2, 2, 8, 8192, n]⟩ .f32) (w : BitVec 32) (b g : Fin 2) (m : Fin 8) (q : Fin 8192) :
    Host.reduce FloatOps.maximumf x (constant S_ .f32 w) h h_S_ (ix4 b g m q)
      = Finset.univ.fold max (Ideal.ofBits .f32 w) fun k : Fin n => x (ix5 b g m q k) := by
  pointwise

theorem reduce_add_apply {n : ℕ} (h : (⟨5, ![2, 2, 8, 8192, n]⟩ : Shape).ReducesTo [4] S2x2x8x8192)
    (x : FVec Ideal ⟨5, ![2, 2, 8, 8192, n]⟩ .f32) (b g : Fin 2) (m : Fin 8) (q : Fin 8192) :
    Host.reduceAdd x (constant S_ .f32 0x00000000#32) h h_S_ (ix4 b g m q) = ∑ k : Fin n, x (ix5 b g m q k) := by
  pointwise

theorem guard_apply {s : Shape} (y c d z : FVec Ideal s .f32) (i : s.Idx) :
    select (andi (cmpf .ogt y c) (cmpf .olt y d)) y z i
      = Scalar.select (IntOp.andi (Ideal.cmp .ogt (y i) (c i)) (Ideal.cmp .olt (y i) (d i))) (y i) (z i) := rfl

theorem positive_apply {s : Shape} (y c z : FVec Ideal s .f32) (i : s.Idx) :
    select (cmpf .ogt y c) y z i = Scalar.select (Ideal.cmp .ogt (y i) (c i)) (y i) (z i) := rfl

theorem exp_sub_apply {s : Shape} (x y : FVec Ideal s .f32) (i : s.Idx) :
    Host.exp (subf x y) i = Ideal.exp (x i - y i) := rfl

theorem div_apply {s : Shape} (x y : FVec Ideal s .f32) (i : s.Idx) :
    Host.divf x y i = Ideal.div (x i) (y i) := rfl

/-- The guarded maximum of a row is a real number. -/
theorem guard_real (e : EReal) (h : e ≠ ⊤) :
    ∃ r : ℝ, Scalar.select (IntOp.andi (Ideal.cmp .ogt e ⊥) (Ideal.cmp .olt e ⊤)) e 0 = (r : EReal) := by
  have hs : Scalar.select (IntOp.andi (Ideal.cmp .ogt e ⊥) (Ideal.cmp .olt e ⊤)) e 0
      = if (decide (⊥ < e) && decide (e < ⊤)) = true then e else 0 := by
    unfold Ideal.cmp
    rw [WordCmp.andi_ofBool, WordCmp.select_ofBool]
  rw [hs]
  rcases bot_or_coe h with rfl | ⟨r, rfl⟩
  · exact ⟨0, by simp⟩
  · exact ⟨r, by simp [EReal.bot_lt_coe, EReal.coe_lt_top]⟩

/-- The reference's guarded softmax along the last axis. -/
theorem softmax_apply {n : ℕ} (hr : (⟨5, ![2, 2, 8, 8192, n]⟩ : Shape).ReducesTo [4] S2x2x8x8192)
    (h4 : S2x2x8x8192.BroadcastsInDim S2x2x8x8192x1 ![0, 1, 2, 3])
    (h5 : S2x2x8x8192x1.BroadcastsInDim ⟨5, ![2, 2, 8, 8192, n]⟩ ![0, 1, 2, 3, 4])
    (h1 : S_.BroadcastsInDim S2x2x8x8192x1 ![])
    (x : FVec Ideal ⟨5, ![2, 2, 8, 8192, n]⟩ .f32) (M D : FVec Ideal S2x2x8x8192x1 .f32)
    (E : FVec Ideal ⟨5, ![2, 2, 8, 8192, n]⟩ .f32)
    (hM : M = broadcastInDim S2x2x8x8192x1 ![0, 1, 2, 3] h4
      (Host.reduce FloatOps.maximumf x (constant S_ .f32 0xFF800000#32) hr h_S_))
    (hE : E = Host.exp (subf x (broadcastInDim ⟨5, ![2, 2, 8, 8192, n]⟩ ![0, 1, 2, 3, 4] h5
      (select (andi (cmpf .ogt M (broadcastInDim S2x2x8x8192x1 ![] h1 (constant S_ .f32 0xFF800000#32)))
          (cmpf .olt M (broadcastInDim S2x2x8x8192x1 ![] h1 (constant S_ .f32 0x7F800000#32)))) M
        (broadcastInDim S2x2x8x8192x1 ![] h1 (id (constant S_ .f32 0x00000000#32)))))))
    (hD : D = broadcastInDim S2x2x8x8192x1 ![0, 1, 2, 3] h4
      (Host.reduceAdd E (constant S_ .f32 0x00000000#32) hr h_S_))
    (b g : Fin 2) (m : Fin 8) (q : Fin 8192) (k : Fin n) (hx : ∀ k, x (ix5 b g m q k) ≠ (⊤ : EReal)) :
    Host.divf E (broadcastInDim ⟨5, ![2, 2, 8, 8192, n]⟩ ![0, 1, 2, 3, 4] h5
      (select (cmpf .ogt D (broadcastInDim S2x2x8x8192x1 ![] h1 (constant S_ .f32 0x00000000#32))) D
        (broadcastInDim S2x2x8x8192x1 ![] h1 (id (constant S_ .f32 0x3F800000#32))))) (ix5 b g m q k)
      = ((prob (fun k => x (ix5 b g m q k)) k : ℝ) : EReal) := by
  have hm : M (ix5 b g m q 0) = Finset.univ.fold max (⊥ : EReal) fun k => x (ix5 b g m q k) := by
    rw [hM, lane_apply, reduce_max_apply, bits_bot]
  have hmt : M (ix5 b g m q 0) ≠ (⊤ : EReal) := by
    rw [hm]
    rcases maxRow _ hx with ⟨e, -⟩ | ⟨⟨r, e⟩, -⟩ <;> rw [e]
    · exact bot_ne_top
    · exact EReal.coe_ne_top r
  obtain ⟨r, hg⟩ := guard_real _ hmt
  have he : ∀ k, E (ix5 b g m q k) = Ideal.exp (x (ix5 b g m q k) - (r : EReal)) := fun k => by
    rw [hE, exp_sub_apply, lanes_apply, guard_apply, splat_apply, splat_apply, id_eq, splat_apply, bits_bot, bits_top,
      Ideal.ofBits_zero_f32, hg]
  have hd : D (ix5 b g m q 0) = ∑ k, Ideal.exp (x (ix5 b g m q k) - (r : EReal)) := by
    rw [hD, lane_apply, reduce_add_apply]
    exact Finset.sum_congr rfl fun k _ => he k
  rw [div_apply, he, lanes_apply, positive_apply, splat_apply, id_eq, splat_apply, Ideal.ofBits_zero_f32, Ideal.ofBits_one_f32, hd]
  refine guarded_softmax (fun k => x (ix5 b g m q k)) hx r _ ?_ k
  unfold Ideal.cmp
  rw [WordCmp.select_ofBool]
  simp only [decide_eq_true_eq]

theorem prob_c (hx : ∀ b g m q k, res_main_v30 V0 (ix5 b g m q k) ≠ (⊤ : EReal)) (b g : Fin 2) (m : Fin 8) (q : Fin 8192) (k : Fin 511) :
    res_main_v48 V0 (ix5 b g m q k) = ((prob (fun k => res_main_v30 V0 (ix5 b g m q k)) k : ℝ) : EReal) :=
  softmax_apply reducesTo_S2x2x8x8192x511_S2x2x8x8192_d4 bcast_S2x2x8x8192_S2x2x8x8192x1_0_1_2_3
    bcast_S2x2x8x8192x1_S2x2x8x8192x511_0_1_2_3_4 bcast_S_S2x2x8x8192x1 (res_main_v30 V0) (res_main_v32 V0) (res_main_v43 V0)
    (res_main_v41 V0) rfl rfl rfl b g m q k (hx b g m q)

end Cert.ReferenceIdeal.Value
-- ==== Proof.RefRows.lean ====
module

public import proofs.«01_k».proof.Proof.RefData

@[expose] public section

set_option maxRecDepth 16384

noncomputable section

namespace Cert.ReferenceIdeal.Value
open Idealize.ShloMosaic Idealize.ShloMosaic.StableHlo Idealize.ShloMosaic.Pointwise
open Cert.ReferenceIdeal Cert.ReferenceIdeal.Gen Cert.Nsa

variable (V0 : Valuation τ sig (Elt Ideal))

theorem row_c (h : (arrays V0).Finite) (b g : Fin 2) (m : Fin 8) (q : Fin 8192) (k : Fin 511) :
    res_main_v30 V0 (ix5 b g m q k) = rowC ((arrays V0).rQn b g q m) ((arrays V0).rKc b g) q k := by
  unfold res_main_v30 res_main_v5 res_main_v14
  pointwise [id_eq]
  rw [mul_word, add_word, WordCmp.cmpi_sle_ofNat (by omega) (by omega), WordCmp.select_decide, bits_bot]
  have e : ∑ x, (arrays V0).qn (ix4 b ⟨(g : ℕ) * 8 + m, by omega⟩ q x) * (arrays V0).cmp (ix5 b 0 g ⟨k, by omega⟩ x)
      = ((dotp ((arrays V0).rQn b g q m) ((arrays V0).rKc b g) k : ℝ) : EReal) := by
    refine (Finset.sum_congr rfl fun x _ => ?_).trans (sum_mul_coe _ _ _)
    exact congrArg₂ (· * ·) (h.qn_at b g q m x _ rfl) (h.kc_at b g ⟨k, by omega⟩ x)
  unfold rowC
  have hm : (k : ℕ) * 16 + 31 ≤ q ↔ 16 * (k : ℕ) + 31 ≤ q := by omega
  rw [if_congr hm rfl rfl]
  congr 1

theorem row_w (h : (arrays V0).Finite) (b g : Fin 2) (m : Fin 8) (q : Fin 8192) (k : Fin 8192) :
    res_main_v162 V0 (ix5 b g m q k) = rowW ((arrays V0).rQr b g q m) ((arrays V0).rKw b g) q k := by
  unfold res_main_v162 res_main_v3 res_main_v11 res_main_v151 res_main_v14
  pointwise [id_eq]
  rw [sub_nonneg_word (by omega) (by omega), sub_le_word (by omega) (by omega) (by omega), WordCmp.andi_ofBool,
    WordCmp.select_ofBool, bits_bot]
  have e : ∑ x, (arrays V0).qr (ix4 b ⟨(g : ℕ) * 8 + m, by omega⟩ q x)
      * (arrays V0).win (ix3 b ⟨(g : ℕ) * 64 + x, by omega⟩ k)
      = ((dotp ((arrays V0).rQr b g q m) ((arrays V0).rKw b g) k : ℝ) : EReal) := by
    refine (Finset.sum_congr rfl fun x _ => ?_).trans (sum_mul_coe _ _ _)
    exact congrArg₂ (· * ·) (h.qr_at b g q m x _ rfl) (h.kw_at b g k x _ rfl)
  unfold rowW
  have hm : (decide ((k : ℕ) ≤ q) && decide ((q : ℕ) ≤ k + 512)) = true ↔ (k : ℕ) ≤ q ∧ (q : ℕ) ≤ k + 512 := by
    rw [Bool.and_eq_true, decide_eq_true_eq, decide_eq_true_eq]
  rw [if_congr hm rfl rfl]
  congr 1

end Cert.ReferenceIdeal.Value
-- ==== Proof.RefScore.lean ====
module

public import proofs.«01_k».proof.Proof.RefSoft
public import proofs.«01_k».proof.Proof.RefRows
public import Idealize.ShloMosaic.Lib.Routing.OpsOrder

@[expose] public section

set_option maxRecDepth 16384

noncomputable section

namespace Cert.ReferenceIdeal.Value
open Idealize.ShloMosaic Idealize.ShloMosaic.StableHlo Idealize.ShloMosaic.Pointwise
open Cert.ReferenceIdeal Cert.ReferenceIdeal.Gen Cert.Nsa

variable (V0 : Valuation τ sig (Elt Ideal))

open scoped Classical

theorem blk_word (q : Fin 8192) :
    Scalar.select (IntOp.andi (IntOp.cmpi .ne
          (if BitVec.ofNat 32 (q : ℕ) = 0 then (0 : BitVec 32) else if (BitVec.ofNat 32 (q : ℕ)).msb = true then -1 else 1)
          (if 64#32 = 0 then (0 : BitVec 32) else if (64#32).msb = true then -1 else 1))
        (IntOp.cmpi .ne (IntOp.remsi ArithUnit.host (BitVec.ofNat 32 (q : ℕ)) 64#32) 0#32))
      (IntOp.subi (IntOp.divsi ArithUnit.host (BitVec.ofNat 32 (q : ℕ)) 64#32) 1#32)
      (IntOp.divsi ArithUnit.host (BitVec.ofNat 32 (q : ℕ)) 64#32) = BitVec.ofNat 32 ((q : ℕ) / 64) := by
  rw [sign_word (by omega), sign_word (a := 64) (by omega), Routing.remsi_word _ (by omega) (by omega) (by omega),
    Routing.divsi_word _ (by omega) (by omega) (by omega)]
  rw [WordCmp.cmpi_ne_ofNat (by split_ifs <;> omega) (by simp), WordCmp.cmpi_ne_ofNat (by omega) (by omega),
    WordCmp.andi_ofBool, WordCmp.select_ofBool, if_neg]
  simp only [Bool.and_eq_true, decide_eq_true_eq]
  rintro ⟨h1, h2⟩
  by_cases e : (q : ℕ) = 0
  · rw [e] at h2; exact h2 rfl
  · rw [if_neg e] at h1; exact h1 rfl

theorem eq_pred_word {a b : ℕ} (ha : a < 2 ^ 30) (hb : b < 2 ^ 30) :
    IntOp.cmpi .eq (BitVec.ofNat 32 a) (IntOp.subi (BitVec.ofNat 32 b) 1#32) = BitVec.ofBool (decide (a + 1 = b)) := by
  rw [WordCmp.cmpi_eq_eq]
  refine congrArg BitVec.ofBool (decide_eq_decide.mpr ?_)
  show BitVec.ofNat 32 a = BitVec.ofNat 32 b - BitVec.ofNat 32 1 ↔ _
  rw [BitVec.eq_sub_iff_add_eq, ← BitVec.ofNat_add, WordCmp.ofNat_eq_ofNat_iff (by omega) (by omega)]

theorem bit_float (p : Bool) : (FloatOps.uitofp (F := Ideal) .f32 (BitVec.ofBool p) : EReal) = if p then 1 else 0 := by
  cases p
  · show (((0 : ℕ) : ℝ) : EReal) = _; simp
  · show (((1 : ℕ) : ℝ) : EReal) = _; simp

theorem blk_at (q : Fin 8192) : res_main_v76 V0 (ix2 q 0) = BitVec.ofNat 32 ((q : ℕ) / 64) := by
  unfold res_main_v76 res_main_call3_v2 res_main_v14
  have hc : res_main_call3_v0 V0 = constantI S_ 32 64#32 := rfl
  rw [hc]
  pointwise [id_eq]
  convert blk_word q
  · rfl
  all_goals split_ifs <;> first | rfl | exact if_pos ‹_› | exact if_neg ‹_›

/-- The overlap of column and block. -/
theorem overlap_bit (c : Fin 511) (k : Fin 128) :
    (FloatOps.uitofp (F := Ideal) .f32 (IntOp.andi
      (IntOp.cmpi CmpIPredicate.slt (BitVec.ofNat 32 ((c : ℕ) * 16)) (BitVec.ofNat 32 ((k : ℕ) * 64 + 64)))
      (IntOp.cmpi CmpIPredicate.sgt (BitVec.ofNat 32 ((c : ℕ) * 16 + 32)) (BitVec.ofNat 32 ((k : ℕ) * 64)))) : EReal)
      = ((ov c k : ℝ) : EReal) := by
  rw [WordCmp.cmpi_slt_ofNat (by omega) (by omega), WordCmp.cmpi_sgt_ofNat (by omega) (by omega), WordCmp.andi_ofBool, bit_float]
  unfold ov
  have hc : (decide ((c : ℕ) * 16 < (k : ℕ) * 64 + 64) && decide ((k : ℕ) * 64 < (c : ℕ) * 16 + 32)) = true
      ↔ 16 * (c : ℕ) < 64 * (k : ℕ) + 64 ∧ 64 * (k : ℕ) < 16 * (c : ℕ) + 32 := by
    rw [Bool.and_eq_true, decide_eq_true_eq, decide_eq_true_eq]; omega
  rw [if_congr hc rfl rfl]
  split_ifs <;> simp

theorem prob_row (h : (arrays V0).Finite) (b g : Fin 2) (m : Fin 8) (q : Fin 8192) (c : Fin 511) :
    res_main_v48 V0 (ix5 b g m q c)
      = ((ew (rowC ((arrays V0).rQn b g q m) ((arrays V0).rKc b g) q c)
          / wden (rowC ((arrays V0).rQn b g q m) ((arrays V0).rKc b g) q) 511 : ℝ) : EReal) := by
  rw [prob_c V0 (fun b g m q k => by rw [row_c V0 h]; exact rowC_ne_top _ _ _ _)]
  simp only [row_c V0 h]
  rw [prob_fin]

theorem score_at (h : (arrays V0).Finite) (b g : Fin 2) (q : Fin 8192) (k : Fin 128) :
    res_main_v101 V0 (ix4 b g q k) = score ((arrays V0).rQn b g q) ((arrays V0).rKc b g) q k := by
  unfold res_main_v101 res_main_v14 res_main_v74 res_main_v54 res_main_v58
  have hw := blk_at V0 q
  revert hw
  generalize res_main_v76 V0 = w
  intro hw
  have hP := fun m c => prob_row V0 h b g m q c
  revert hP
  generalize (res_main_v48 V0) = p
  intro hP
  pointwise [id_eq]
  rw [hw, eq_pred_word (by omega) (by omega)]
  simp only [mul_word, add_word]
  rw [WordCmp.cmpi_sle_ofNat (by omega) (by omega), WordCmp.select_decide, bits_bot, bits_thousand,
   WordCmp.cmpi_eq_ofNat (by omega) (by omega), WordCmp.cmpi_eq_ofNat (by omega) (by omega), WordCmp.ori_ofBool, WordCmp.ori_ofBool, WordCmp.select_ofBool]
  unfold score
  rw [if_congr (show (k : ℕ) * 64 ≤ q ↔ 64 * (k : ℕ) ≤ q by omega) rfl rfl]
  congr 1
  rw [EReal.coe_add]
  refine congrArg₂ (· + ·) ?_ ?_
  · unfold imp
    rw [Finset.sum_range, ← coe_sum]
    refine Finset.sum_congr rfl fun c _ => ?_
    rw [EReal.coe_mul, ← coe_sum]
    refine congrArg₂ (· * ·) (Finset.sum_congr rfl fun m _ => hP m c) (overlap_bit c k)
  · unfold bonus
    simp only [Bool.or_eq_true, decide_eq_true_eq]
    have hc : (((k : ℕ) = 0 ∨ (k : ℕ) = (q : ℕ) / 64) ∨ (k : ℕ) + 1 = (q : ℕ) / 64)
        ↔ ((k : ℕ) = 0 ∨ (k : ℕ) = (q : ℕ) / 64 ∨ (k : ℕ) + 1 = (q : ℕ) / 64) := or_assoc
    rw [if_congr hc rfl rfl]
    split_ifs <;> simp

theorem along_last (b g : Fin 2) (q : Fin 8192) (j k : Fin 128) :
    Shape.Idx.along (s := S2x2x8192x128) (ix4 b g q j) 3 k = ix4 b g q k := by
  funext a
  unfold Shape.Idx.along
  match a with
  | ⟨0, _⟩ => exact Function.update_of_ne (Fin.ne_of_val_ne (show (0 : ℕ) ≠ 3 by norm_num)) _ _
  | ⟨1, _⟩ => exact Function.update_of_ne (Fin.ne_of_val_ne (show (1 : ℕ) ≠ 3 by norm_num)) _ _
  | ⟨2, _⟩ => exact Function.update_of_ne (Fin.ne_of_val_ne (show (2 : ℕ) ≠ 3 by norm_num)) _ _
  | ⟨3, _⟩ => exact Function.update_self _ _ _

/-- The entries of a query's 16 best blocks. -/
theorem topk_at (x : FVec Ideal S2x2x8192x128 .f32) (b g : Fin 2) (q : Fin 8192) (t : Fin 16) :
    (Host.topK S2x2x8192x16 3 (FloatOps.cmpfTotal CmpDirection.gt) x sliceFits_S2x2x8192x128_S2x2x8192x16).2 (ix4 b g q t)
      = BitVec.ofNat 32 (sortedFrom (greater fun k : Fin 128 => (x (ix4 b g q k) : EReal)) (t.castLE (by norm_num))) := by
  have hd : (3 : ℕ) < S2x2x8192x128.rank := by decide
  unfold Host.topK Host.sort2
  simp only [dif_pos hd]
  pointwise
  have hg : (fun k k' : Fin 128 => FloatOps.cmpfTotal (F := Ideal) CmpDirection.gt (x (Shape.Idx.along (s := S2x2x8192x128) (ix4 b g q ⟨(t : ℕ), by omega⟩) 3 k))
      (x (Shape.Idx.along (s := S2x2x8192x128) (ix4 b g q ⟨(t : ℕ), by omega⟩) 3 k')) == 1#1)
      = greater fun k : Fin 128 => (x (ix4 b g q k) : EReal) := by
    funext k k'
    rw [along_last, along_last, Bool.eq_iff_iff, beq_iff_eq]
    show BitVec.ofBool (decide ((x (ix4 b g q k') : EReal) < x (ix4 b g q k))) = 1#1 ↔ decide _ = true
    rw [WordCmp.ofBool_eq_one_iff, decide_eq_true_eq]
  refine congrArg (fun z : Fin 128 => BitVec.ofNat 32 (z : ℕ)) ?_
  refine (Function.update_self _ _ _).trans ?_
  exact congrArg (fun f : Fin 128 → Fin 128 → Bool => sortedFrom f ⟨(t : ℕ), by omega⟩) hg

/-- A key's block is among the printed 16 best. -/
theorem any_best (h : (arrays V0).Finite) (b g : Fin 2) (q k : Fin 8192) :
    Finset.fold IntOp.ori (0#1) (fun t : Fin 16 => IntOp.cmpi CmpIPredicate.eq
        ((Host.topK S2x2x8192x16 3 (FloatOps.cmpfTotal CmpDirection.gt) (res_main_v101 V0)
          sliceFits_S2x2x8192x128_S2x2x8192x16).2 (ix4 b g q t)) (BitVec.ofNat 32 ((k : ℕ) / 64))) Finset.univ = 1#1
      ↔ chosen ((arrays V0).rQn b g q) ((arrays V0).rKc b g) q ((k : ℕ) / 64) := by
  rw [Routing.fold_ori]
  have hs : (fun j : Fin 128 => (res_main_v101 V0 (ix4 b g q j) : EReal))
      = score ((arrays V0).rQn b g q) ((arrays V0).rKc b g) q := funext fun j => score_at V0 h b g q j
  have hl : (k : ℕ) / 64 < 128 := by omega
  have key := exists_sortedFrom (score ((arrays V0).rQn b g q) ((arrays V0).rKc b g) q) 16 (by norm_num) ⟨(k : ℕ) / 64, hl⟩
  unfold chosen
  constructor
  · rintro ⟨t, -, ht⟩
    refine ⟨hl, key.mp ⟨t, ?_⟩⟩
    rw [topk_at, hs, WordCmp.cmpi_eq_ofNat (by omega) (by omega), WordCmp.ofBool_decide_eq_one_iff] at ht
    exact Fin.ext ht
  · rintro ⟨_, hr⟩
    obtain ⟨t, ht⟩ := key.mpr hr
    refine ⟨t, Finset.mem_univ t, ?_⟩
    rw [topk_at, hs, ht, WordCmp.cmpi_eq_ofNat (by omega) (by omega), WordCmp.ofBool_decide_eq_one_iff]

theorem row_s (h : (arrays V0).Finite) (b g : Fin 2) (m : Fin 8) (q : Fin 8192) (k : Fin 8192) :
    res_main_v126 V0 (ix5 b g m q k)
      = rowS (chosen ((arrays V0).rQn b g q) ((arrays V0).rKc b g) q) ((arrays V0).rQr b g q m) ((arrays V0).rKs b g) q k := by
  have ha := any_best V0 h b g q k
  unfold res_main_v126 res_main_v3 res_main_v8 res_main_v14
  revert ha
  generalize (Host.topK S2x2x8192x16 3 (FloatOps.cmpfTotal CmpDirection.gt) (res_main_v101 V0)
          sliceFits_S2x2x8192x128_S2x2x8192x16).2 = T
  intro ha
  pointwise [id_eq]
  have e : ∑ x, (arrays V0).qr (ix4 b ⟨(g : ℕ) * 8 + m, by omega⟩ q x)
      * (arrays V0).sel (ix3 b ⟨(g : ℕ) * 64 + x, by omega⟩ k)
      = ((dotp ((arrays V0).rQr b g q m) ((arrays V0).rKs b g) k : ℝ) : EReal) := by
    refine (Finset.sum_congr rfl fun x _ => ?_).trans (sum_mul_coe _ _ _)
    exact congrArg₂ (· * ·) (h.qr_at b g q m x _ rfl) (h.ks_at b g k x _ rfl)
  have hor : ∀ w : BitVec 1, w = BitVec.ofBool (decide (w = 1#1)) := fun w => by
    rcases BitVec.eq_zero_or_eq_one w with rfl | rfl <;> rfl
  rw [hor (Finset.fold IntOp.ori _ _ _), WordCmp.cmpi_sle_ofNat (by omega) (by omega), WordCmp.andi_ofBool,
    WordCmp.select_ofBool, bits_bot]
  unfold rowS
  refine if_congr ?_ e rfl
  rw [Bool.and_eq_true, decide_eq_true_eq, decide_eq_true_eq, and_comm]
  exact and_congr_right fun _ => ha

end Cert.ReferenceIdeal.Value
-- ==== Proof.RefOut.lean ====
module

public import proofs.«01_k».proof.Proof.RefScore

@[expose] public section

set_option maxRecDepth 16384

noncomputable section

namespace Cert.ReferenceIdeal.Value
open Idealize.ShloMosaic Idealize.ShloMosaic.StableHlo Idealize.ShloMosaic.Pointwise
open Cert.ReferenceIdeal Cert.ReferenceIdeal.Gen Cert.Nsa

variable (V0 : Valuation τ sig (Elt Ideal))

/-- The probabilities over the keys of the chosen blocks. -/
def normS : FVec Ideal S2x2x8x8192x8192 .f32 :=
  Host.divf (res_main_v137 V0) (broadcastInDim S2x2x8x8192x8192 ![0, 1, 2, 3, 4] bcast_S2x2x8x8192x1_S2x2x8x8192x8192_0_1_2_3_4
    (select (cmpf .ogt (res_main_v139 V0) (broadcastInDim S2x2x8x8192x1 ![] bcast_S_S2x2x8x8192x1 (constant S_ .f32 0x00000000#32)))
      (res_main_v139 V0) (broadcastInDim S2x2x8x8192x1 ![] bcast_S_S2x2x8x8192x1 (id (constant S_ .f32 0x3F800000#32)))))

/-- The probabilities over the keys of the window. -/
def normW : FVec Ideal S2x2x8x8192x8192 .f32 :=
  Host.divf (res_main_v173 V0) (broadcastInDim S2x2x8x8192x8192 ![0, 1, 2, 3, 4] bcast_S2x2x8x8192x1_S2x2x8x8192x8192_0_1_2_3_4
    (select (cmpf .ogt (res_main_v175 V0) (broadcastInDim S2x2x8x8192x1 ![] bcast_S_S2x2x8x8192x1 (constant S_ .f32 0x00000000#32)))
      (res_main_v175 V0) (broadcastInDim S2x2x8x8192x1 ![] bcast_S_S2x2x8x8192x1 (id (constant S_ .f32 0x3F800000#32)))))

theorem normS_eq : Host.divf (res_main_v137 V0) (broadcastInDim S2x2x8x8192x8192 ![0, 1, 2, 3, 4] bcast_S2x2x8x8192x1_S2x2x8x8192x8192_0_1_2_3_4
    (select (cmpf .ogt (res_main_v139 V0) (broadcastInDim S2x2x8x8192x1 ![] bcast_S_S2x2x8x8192x1 (constant S_ .f32 0x00000000#32)))
      (res_main_v139 V0) (broadcastInDim S2x2x8x8192x1 ![] bcast_S_S2x2x8x8192x1 (id (constant S_ .f32 0x3F800000#32))))) = normS V0 := rfl

theorem normW_eq : Host.divf (res_main_v173 V0) (broadcastInDim S2x2x8x8192x8192 ![0, 1, 2, 3, 4] bcast_S2x2x8x8192x1_S2x2x8x8192x8192_0_1_2_3_4
    (select (cmpf .ogt (res_main_v175 V0) (broadcastInDim S2x2x8x8192x1 ![] bcast_S_S2x2x8x8192x1 (constant S_ .f32 0x00000000#32)))
      (res_main_v175 V0) (broadcastInDim S2x2x8x8192x1 ![] bcast_S_S2x2x8x8192x1 (id (constant S_ .f32 0x3F800000#32))))) = normW V0 := rfl

theorem normS_at (h : (arrays V0).Finite) (b g : Fin 2) (m : Fin 8) (q k : Fin 8192) :
    normS V0 (ix5 b g m q k) = ((prob (fun k : Fin 8192 => rowS (chosen ((arrays V0).rQn b g q) ((arrays V0).rKc b g) q)
      ((arrays V0).rQr b g q m) ((arrays V0).rKs b g) q k) k : ℝ) : EReal) := by
  refine (softmax_apply reducesTo_S2x2x8x8192x8192_S2x2x8x8192_d4 bcast_S2x2x8x8192_S2x2x8x8192x1_0_1_2_3
    bcast_S2x2x8x8192x1_S2x2x8x8192x8192_0_1_2_3_4 bcast_S_S2x2x8x8192x1 (res_main_v126 V0) (res_main_v128 V0) (res_main_v139 V0)
    (res_main_v137 V0) rfl rfl rfl b g m q k fun k => by rw [row_s V0 h]; exact rowS_ne_top _ _ _ _ _).trans ?_
  simp only [row_s V0 h]

theorem normW_at (h : (arrays V0).Finite) (b g : Fin 2) (m : Fin 8) (q k : Fin 8192) :
    normW V0 (ix5 b g m q k) = ((prob (fun k : Fin 8192 => rowW ((arrays V0).rQr b g q m) ((arrays V0).rKw b g) q k) k : ℝ) : EReal) := by
  refine (softmax_apply reducesTo_S2x2x8x8192x8192_S2x2x8x8192_d4 bcast_S2x2x8x8192_S2x2x8x8192x1_0_1_2_3
    bcast_S2x2x8x8192x1_S2x2x8x8192x8192_0_1_2_3_4 bcast_S_S2x2x8x8192x1 (res_main_v162 V0) (res_main_v164 V0) (res_main_v175 V0)
    (res_main_v173 V0) rfl rfl rfl b g m q k fun k => by rw [row_w V0 h]; exact rowW_ne_top _ _ _ _).trans ?_
  simp only [row_w V0 h]

/-- Values weighted by real probabilities. -/
theorem weighted {n : ℕ} (row : ℕ → EReal) (V : ℕ → ℝ) (v p : Fin n → EReal) (hv : ∀ c, v c = (V c : EReal))
    (hp : ∀ c, p c = ((prob (fun c : Fin n => row c) c : ℝ) : EReal)) : ∑ c, v c * p c = ((att row n V : ℝ) : EReal) := by
  rw [← sum_prob, ← coe_sum]
  refine Finset.sum_congr rfl fun c _ => ?_
  rw [hv, hp, EReal.coe_mul, mul_comm]

set_option maxHeartbeats 2000000 in
/-- The reference's result is the layer's, and its arguments stay as they were. -/
theorem run_result (m : (ℓ : Loc nD τ sig) → Buf (Elt Ideal) ℓ) (ρ : Dev nD → PrngReg)
    (h : ∀ c, (arrays (launchContents m c)).Finite) :
    θ_run defs (onTc (τ := τ) (main (F := Ideal))) ⟨m, fun _ => 0, ρ⟩ fun r => ∀ c : Dev nD,
      r.2.mem ((c.tc : Thread nD τ).loc main_v198) = (arrays (launchContents m c)).result
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ⟨(hr c).1.trans ?_, (hr c).2⟩) (run m ρ)
  have h := h c
  revert h
  generalize launchContents m c = V0
  intro h
  rw [normS_eq, normW_eq]
  have hc := fun b g m q k => prob_c V0 (fun b g m q k => by rw [row_c V0 h]; exact rowC_ne_top _ _ _ _) b g m q k
  have hS := normS_at V0 h
  have hW := normW_at V0 h
  simp only [row_c V0 h] at hc
  clear hr
  revert hc hS hW
  generalize res_main_v48 V0 = p1
  generalize normS V0 = p2
  generalize normW V0 = p3
  intro hS hW hc
  funext i
  idx_vars i
  show _ = (arrays V0).resultAt i0 i1 i2
  unfold res_main_v13 res_main_v5 res_main_v8 res_main_v11
  pointwise [id_eq]
  unfold Arrays.resultAt Arrays.out gated
  rw [EReal.coe_add, EReal.coe_add, EReal.coe_mul, EReal.coe_mul, EReal.coe_mul]
  refine congrArg₂ (· + ·) (congrArg₂ (· + ·) (congrArg₂ (· * ·) ?_ ?_) (congrArg₂ (· * ·) ?_ ?_)) (congrArg₂ (· * ·) ?_ ?_)
  · exact h.gate_at _ _ _ _ 0 _ (by simp)
  · exact weighted _ _ (fun x : Fin 511 => (arrays V0).cmp (ix5 i0 1 ⟨(i2 : ℕ) / 512, by omega⟩ ⟨x, by omega⟩ ⟨(i2 : ℕ) % 64, by omega⟩)) _
      (fun c => h.vc_at _ _ ⟨c, by omega⟩ _) fun c => hc _ _ _ _ c
  · exact h.gate_at _ _ _ _ 1 _ (by simp)
  · exact weighted _ _ (fun x : Fin 8192 => (arrays V0).sel (ix3 i0 ⟨128 + (i2 : ℕ) / 512 * 64 + (i2 : ℕ) % 64, by omega⟩ x)) _
      (fun c => h.vs_at _ _ c _ _ rfl) fun c => hS _ _ _ _ c
  · exact h.gate_at _ _ _ _ 2 _ (by simp)
  · exact weighted _ _ (fun x : Fin 8192 => (arrays V0).win (ix3 i0 ⟨128 + (i2 : ℕ) / 512 * 64 + (i2 : ℕ) % 64, by omega⟩ x)) _
      (fun c => h.vw_at _ _ c _ _ rfl) fun c => hW _ _ _ _ c

end Cert.ReferenceIdeal.Value
-- ==== Proof.Finite.lean ====
module

public import proofs.«01_k».proof.Pre_finite_inputs
public import proofs.«01_k».proof.Proof.Data
public import Idealize.ShloMosaic.Lib.ReduceAll
public import Idealize.ShloMosaic.Lib.Affine
public import Idealize.ShloMosaic.Lib.Pointwise

/-! The precondition: where its word is one, every entry of every argument is a real number. -/

@[expose] public section

noncomputable section

namespace Cert.Pre_finite_inputs
open Idealize.ShloMosaic Idealize.ShloMosaic.Pointwise

/-- The precondition's shape relations hold. -/
theorem facts : Facts where
  bitsLt_bf16_f32 := by decide
  bcast_S_S2x16x8192x64 := by decide
  reducesTo_S2x16x8192x64_S_d0_1_2_3 := by decide
  h_S_ := by decide
  bcast_S_S2x2x2x512x64 := by decide
  reducesTo_S2x2x2x512x64_S_d0_1_2_3_4 := by decide
  bcast_S_S2x256x8192 := by decide
  reducesTo_S2x256x8192_S_d0_1_2 := by decide
  bcast_S_S2x8192x128 := by decide
  reducesTo_S2x8192x128_S_d0_1_2 := by decide

/-- A number whose absolute value lies below positive infinity is real. -/
theorem real_of_lt (x : EReal) (h : BitVec.ofBool (decide (max x (-x) < (⊤ : EReal))) = 1#1) : x = ((x.toReal : ℝ) : EReal) := by
  have h' : max x (-x) < ⊤ := by
    by_contra hn
    rw [decide_eq_false hn] at h
    exact absurd h (by decide)
  rw [max_lt_iff] at h'
  refine (EReal.coe_toReal (ne_of_lt h'.1) ?_).symm
  rintro rfl
  exact absurd h'.2 (by simp)

theorem inf_top : (Ideal.ofBits .f32 0x7F800000#32 : EReal) = ⊤ := by simp [Ideal.ofBits, Ideal.ieee]

/-- Where every comparison of an array's absolute values with positive infinity holds, its entries are real. -/
theorem entries {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1)
    (i : s.Idx) : (x i : EReal) = (((x i : EReal).toReal : ℝ) : EReal) := by
  haveI : Subsingleton S_.Idx := ⟨fun a b => funext fun k => k.elim0⟩
  have e := Host.reduce_andi_all _ _ hr hu ix0 h i
  refine real_of_lt _ ?_
  rw [← inf_top]
  exact e

variable [Facts]
open Facts

/-- The precondition gives real entries. -/
theorem finite (a0 a1 : FVec Ideal S2x16x8192x64 .bf16) (a2 : FVec Ideal S2x2x2x512x64 .bf16) (a3 a4 : FVec Ideal S2x256x8192 .bf16)
    (a5 : FVec Ideal S2x8192x128 .f32) (h : fn a0 a1 a2 a3 a4 a5 = fun _ => 1#1) : (⟨a0, a1, a2, a3, a4, a5⟩ : Cert.Nsa.Arrays).Finite := by
  have h := congrFun h ix0
  unfold fn fn_part1 at h
  dsimp only [andi] at h
  rw [IntOp.andi_eq_one, IntOp.andi_eq_one, IntOp.andi_eq_one, IntOp.andi_eq_one, IntOp.andi_eq_one] at h
  obtain ⟨⟨⟨h0, h1⟩, h2, h3⟩, h4, h5⟩ := h
  exact ⟨entries (extf .f32 a0 bitsLt_bf16_f32) _ _ _ h0, entries (extf .f32 a1 bitsLt_bf16_f32) _ _ _ h1,
    entries (extf .f32 a2 bitsLt_bf16_f32) _ _ _ h2, entries (extf .f32 a3 bitsLt_bf16_f32) _ _ _ h3,
    entries (extf .f32 a4 bitsLt_bf16_f32) _ _ _ h4, entries a5 _ _ _ h5⟩

end Cert.Pre_finite_inputs
-- ==== Proof.lean ====
/- The proof of the claims on the attention kernel and on the end of a layer: the frames of the program as printed, of its idealization and of the
   plain reference of each, that the named constants denote what the certificate's table says, and that over the extended reals the
   kernels and their references leave the same arrays. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameBits
public import proofs.«01_k».proof.Proof.FrameIdeal
public import proofs.«01_k».proof.Proof.Gen.Post.Frame
public import proofs.«01_k».proof.Proof.Gen.PostIdeal.Value
public import proofs.«01_k».proof.Proof.Gen.PostReferenceIdeal.Run
public import proofs.«01_k».proof.Proof.Gen.Step.Frame
public import proofs.«01_k».proof.Proof.Gen.StepIdeal.Value
public import proofs.«01_k».proof.Proof.Gen.StepReferenceIdeal.Run
public import proofs.«01_k».proof.Proof.PostBlocks
public import proofs.«01_k».proof.Proof.PostRef
public import proofs.«01_k».proof.Proof.StepBlocks
public import proofs.«01_k».proof.Proof.StepRef
public import proofs.«01_k».proof.Proof.KOut
public import proofs.«01_k».proof.Proof.RefOut
public import proofs.«01_k».proof.Proof.Finite
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel as printed leaves its arguments unchanged and its counters at zero. -/
theorem frame_p : Cert.quiescent_Kernel := fun m ρ _ => Cert.Kernel.Hand.frame_all m ρ

/-- So does its idealization. -/
theorem frame_pi : Cert.quiescent_KernelIdeal := fun m ρ _ => Cert.KernelIdeal.Hand.frame_all m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The three named constants are the values the table gives them. -/
theorem names : Cert.preserves_Kernel_KernelIdeal :=
  ⟨IdealRules.named_const.statement Cert.KernelIdeal.κ "neg" .f32 0xF149F2CA#32 ⊥ rfl,
    IdealRules.named_const.statement Cert.KernelIdeal.κ "half" .f32 0xF0C9F2CA#32 ⊥ rfl,
    IdealRules.named_const.statement Cert.KernelIdeal.κ "picked" .f32 0xF2177617#32 ⊥ rfl⟩

/-- On arguments whose entries are real numbers, the kernel and the reference both leave the layer's result. -/
theorem same_result : Cert.algebraic_KernelIdeal_ReferenceIdeal_pre_finite_inputs (hPre_finite_inputs := Cert.Pre_finite_inputs.facts) := by
  intro m g m' g' hp ha
  haveI := Cert.Pre_finite_inputs.facts
  have hf : ∀ c, (Cert.KernelIdeal.Value.launched m c).Finite := fun c => Cert.Pre_finite_inputs.finite _ _ _ _ _ _ (hp c)
  have he : ∀ c, Cert.ReferenceIdeal.Value.arrays (StableHlo.launchContents m' c) = Cert.KernelIdeal.Value.launched m c := fun c => by
    obtain ⟨e0, e1, e2, e3, e4, e5⟩ := ha c
    unfold Cert.KernelIdeal.Value.launched
    rw [← e0, ← e1, ← e2, ← e3, ← e4, ← e5]
    rfl
  refine ⟨fun c => (Cert.KernelIdeal.Value.launched m c).result, Cert.KernelIdeal.Value.run_result m g hf, ?_⟩
  refine (θ_run Cert.ReferenceIdeal.defs _ _).mono (fun r h c => ?_)
    (Cert.ReferenceIdeal.Value.run_result m' g' fun c => by rw [he c]; exact hf c)
  have h := h c
  rw [he c] at h
  exact h

/-- The end of a layer leaves its arguments unchanged and its counters at zero, as printed. -/
theorem post_frame_p : Cert.quiescent_Post := fun m ρ _ => Cert.Post.Gen.frame m ρ

/-- So does its idealization. -/
theorem post_frame_pi : Cert.quiescent_PostIdeal := fun m ρ _ => Cert.PostIdeal.Gen.frame m ρ

/-- So does its reference. -/
theorem post_frame_ri : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run m ρ)

/-- The end of a layer and its reference leave the same rows, on all arguments. -/
theorem post_result : Cert.algebraic_PostIdeal_PostReferenceIdeal := by
  intro m g m' g' _ ha
  have he : ∀ c, Cert.PostReferenceIdeal.Value.launched m' c = Cert.PostIdeal.Value.launched m c := fun c => by
    obtain ⟨e0, e1, e2, e3, e4, e5, e6, e7⟩ := ha c
    unfold Cert.PostIdeal.Value.launched
    rw [← e0, ← e1, ← e2, ← e3, ← e4, ← e5, ← e6, ← e7]
    rfl
  refine ⟨fun c => (Cert.PostIdeal.Value.launched m c).result, Cert.PostIdeal.Value.run_result m g, ?_⟩
  refine (θ_run Cert.PostReferenceIdeal.defs _ _).mono (fun r h c => ⟨(h c).1.trans ?_, (h c).2⟩)
    (Cert.PostReferenceIdeal.Value.run m' g')
  rw [Cert.PostReferenceIdeal.Value.result_eq, he c]

/-- The end of a layer over the decode step leaves its arguments unchanged and its counters at zero, as printed. -/
theorem step_frame_p : Cert.quiescent_Step := fun m ρ _ => Cert.Step.Gen.frame m ρ

/-- So does its idealization. -/
theorem step_frame_pi : Cert.quiescent_StepIdeal := fun m ρ _ => Cert.StepIdeal.Gen.frame m ρ

/-- So does its reference. -/
theorem step_frame_ri : Cert.quiescent_StepReferenceIdeal := fun m ρ _ =>
  (θ_run Cert.StepReferenceIdeal.defs _ _).mono (fun r h => ⟨fun c => (h c).2, sem_eq_zero_of_no_sems (by decide) r.2⟩)
    (Cert.StepReferenceIdeal.Value.run m ρ)

/-- The end of a layer over the decode step and its reference leave the same rows, on all arguments. -/
theorem step_result : Cert.algebraic_StepIdeal_StepReferenceIdeal := by
  intro m g m' g' _ ha
  have he : ∀ c, Cert.StepReferenceIdeal.Value.launched m' c = Cert.StepIdeal.Value.launched m c := fun c => by
    obtain ⟨e0, e1, e2, e3, e4, e5, e6, e7⟩ := ha c
    unfold Cert.StepIdeal.Value.launched
    rw [← e0, ← e1, ← e2, ← e3, ← e4, ← e5, ← e6, ← e7]
    rfl
  refine ⟨fun c => (Cert.StepIdeal.Value.launched m c).result, Cert.StepIdeal.Value.run_result m g, ?_⟩
  refine (θ_run Cert.StepReferenceIdeal.defs _ _).mono (fun r h c => ⟨(h c).1.trans ?_, (h c).2⟩)
    (Cert.StepReferenceIdeal.Value.run m' g')
  rw [Cert.StepReferenceIdeal.Value.parts, Cert.StepReferenceIdeal.Value.result_eq, he c]

/-- All the claims. -/
theorem claim : Cert.Claim :=
  ⟨Cert.Kernel.Gen.facts, Cert.KernelIdeal.Gen.facts, Cert.ReferenceIdeal.Gen.facts, Cert.Post.Gen.facts, Cert.PostIdeal.Gen.facts,
    Cert.PostReferenceIdeal.Gen.facts, Cert.Step.Gen.facts, Cert.StepIdeal.Gen.facts,
    Cert.StepReferenceIdeal.Gen.facts, Cert.Pre_finite_inputs.facts, frame_p, frame_pi,
    fun m g _ => frame_pi m g trivial, frame_ri, fun m g _ => frame_ri m g trivial, post_frame_p, post_frame_pi, post_frame_ri,
    step_frame_p, step_frame_pi, step_frame_ri, names,
    same_result, trivial, post_result, trivial, step_result⟩

end Cert.Proof

end
